-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v0_0) = v0 c
          ∧ r.2.mem ((c.tc : Thread Cert.GateUpReferenceIdeal.nD Cert.GateUpReferenceIdeal.τ).loc Cert.GateUpReferenceIdeal.main_v0_1) = v1 c
          ∧ r.2.mem ((c.tc : Thread Cert.GateUpReferenceIdeal.nD Cert.GateUpReferenceIdeal.τ).loc Cert.GateUpReferenceIdeal.main_v0_2) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def Claim : Prop :=
  ∃ (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts),
    quiescent_Down (hDown := hDown)
    ∧ quiescent_DownIdeal (hDownIdeal := hDownIdeal)
    ∧ quiescent_DownReferenceIdeal (hDownReferenceIdeal := hDownReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Down_DownIdeal
    ∧ algebraic_DownIdeal_DownReferenceIdeal (hDownIdeal := hDownIdeal) (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
-- ==== Down.lean ====
abbrev S50x40 : Shape := ⟨2, ![50, 40]⟩
abbrev S16384x6400 : Shape := ⟨2, ![16384, 6400]⟩
abbrev S16384x5120 : Shape := ⟨2, ![16384, 5120]⟩
abbrev S6400x5120 : Shape := ⟨2, ![6400, 5120]⟩
abbrev S1024x6400 : Shape := ⟨2, ![1024, 6400]⟩
abbrev S1024x512 : Shape := ⟨2, ![1024, 512]⟩
abbrev S6400x512 : Shape := ⟨2, ![6400, 512]⟩
abbrev S1x1 : Shape := ⟨2, ![1, 1]⟩
abbrev S128x128 : Shape := ⟨2, ![128, 128]⟩
abbrev S256x6400 : Shape := ⟨2, ![256, 6400]⟩
abbrev S256x512 : Shape := ⟨2, ![256, 512]⟩

abbrev nBuf : Space → Nat
  | .hbm => 5
  | .vmem => 9
  | .smem => 1
  | _ => 0

abbrev bufTy : (tb : Table) → Fin (tcTables nBuf tb) → BufTy
  | .hbm, ⟨0, _⟩ => ⟨S50x40, .f32⟩
  | .hbm, ⟨1, _⟩ => ⟨S16384x6400, .bf16⟩
  | .hbm, ⟨2, _⟩ => ⟨S16384x5120, .f32⟩
  | .hbm, ⟨3, _⟩ => ⟨S6400x5120, .fp8e4m3⟩
  | .hbm, ⟨4, _⟩ => ⟨S16384x5120, .bf16⟩
  | .local _ .vmem, ⟨0, _⟩ => ⟨S1024x6400, .bf16⟩
  | .local _ .vmem, ⟨1, _⟩ => ⟨S1024x6400, .bf16⟩
  | .local _ .vmem, ⟨2, _⟩ => ⟨S1024x512, .f32⟩
  | .local _ .vmem, ⟨3, _⟩ => ⟨S1024x512, .f32⟩
  | .local _ .vmem, ⟨4, _⟩ => ⟨S6400x512, .fp8e4m3⟩
  | .local _ .vmem, ⟨5, _⟩ => ⟨S6400x512, .fp8e4m3⟩
  | .local _ .vmem, ⟨6, _⟩ => ⟨S1024x512, .bf16⟩
  | .local _ .vmem, ⟨7, _⟩ => ⟨S1024x512, .bf16⟩
  | .local _ .vmem, ⟨8, _⟩ => ⟨S6400x512, .bf16⟩
  | .local _ .smem, ⟨0, _⟩ => ⟨S50x40, .f32⟩
  | _, _ => ⟨S50x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 10], ![false, false]⟩

def k0_off1 (i : grid0.Coords) (c0_i32 : BitVec 32) : Fin 2 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![0, v2.toNat]
def k0_off2 (i : grid0.Coords) (c0_i32_16 : BitVec 32) : Fin 2 → Nat :=
  let c1 : Index := 1#32
  let arg1 : BitVec 32 := BitVec.ofNat 32 (i 1).val
  let c4_i32 : BitVec 32 := 4#32
  let v0 : BitVec 32 := Scalar.muli arg1 c4_i32
  let v45 : BitVec 32 := Scalar.addi v0 c0_i32_16
  let v46 : Index := Scalar.indexCast v45
  ![1, v46.toNat]
def k0_off3 (i : grid0.Coords) (c0_i32_39 : BitVec 32) : Fin 2 → Nat :=
  let c2 : Index := 2#32
  let arg1 : BitVec 32 := BitVec.ofNat 32 (i 1).val
  let c4_i32 : BitVec 32 := 4#32
  let v0 : BitVec 32 := Scalar.muli arg1 c4_i32
  let v89 : BitVec 32 := Scalar.addi v0 c0_i32_39
  let v90 : Index := Scalar.indexCast v89
  ![2, v90.toNat]
def k0_off4 (i : grid0.Coords) (c0_i32_62 : BitVec 32) : Fin 2 → Nat :=
  let c3 : Index := 3#32
  let arg1 : BitVec 32 := BitVec.ofNat 32 (i 1).val
  let c4_i32 : BitVec 32 := 4#32
  let v0 : BitVec 32 := Scalar.muli arg1 c4_i32
  let v133 : BitVec 32 := Scalar.addi v0 c0_i32_62
  let v134 : Index := Scalar.indexCast v133
  ![3, v134.toNat]
def k0_off5 (i : grid0.Coords) (c0_i32_85 : BitVec 32) : Fin 2 → Nat :=
  let c4 : Index := 4#32
  let arg1 : BitVec 32 := BitVec.ofNat 32 (i 1).val
  let c4_i32 : BitVec 32 := 4#32
  let v0 : BitVec 32 := Scalar.muli arg1 c4_i32
  let v177 : BitVec 32 := Scalar.addi v0 c0_i32_85
  let v178 : Index := Scalar.indexCast v177
  ![4, v178.toNat]
def k0_off6 (i : grid0.Coords) (c0_i32_107 : BitVec 32) : Fin 2 → Nat :=
  let c5 : Index := 5#32
  let arg1 : BitVec 32 := BitVec.ofNat 32 (i 1).val
  let c4_i32 : BitVec 32 := 4#32
  let v0 : BitVec 32 := Scalar.muli arg1 c4_i32
  let v221 : BitVec 32 := Scalar.addi v0 c0_i32_107
  let v222 : Index := Scalar.indexCast v221
  ![5, v222.toNat]
def k0_off7 (i : grid0.Coords) (c0_i32_129 : BitVec 32) : Fin 2 → Nat :=
  let c6 : Index := 6#32
  let arg1 : BitVec 32 := BitVec.ofNat 32 (i 1).val
  let c4_i32 : BitVec 32 := 4#32
  let v0 : BitVec 32 := Scalar.muli arg1 c4_i32
  let v265 : BitVec 32 := Scalar.addi v0 c0_i32_129
  let v266 : Index := Scalar.indexCast v265
  ![6, v266.toNat]
def k0_off8 (i : grid0.Coords) (c0_i32_151 : BitVec 32) : Fin 2 → Nat :=
  let c7 : Index := 7#32
  let arg1 : BitVec 32 := BitVec.ofNat 32 (i 1).val
  let c4_i32 : BitVec 32 := 4#32
  let v0 : BitVec 32 := Scalar.muli arg1 c4_i32
  let v309 : BitVec 32 := Scalar.addi v0 c0_i32_151
  let v310 : Index := Scalar.indexCast v309
  ![7, v310.toNat]
def k0_off9 (i : grid0.Coords) (c0_i32_173 : BitVec 32) : Fin 2 → Nat :=
  let c8 : Index := 8#32
  let arg1 : BitVec 32 := BitVec.ofNat 32 (i 1).val
  let c4_i32 : BitVec 32 := 4#32
  let v0 : BitVec 32 := Scalar.muli arg1 c4_i32
  let v353 : BitVec 32 := Scalar.addi v0 c0_i32_173
  let v354 : Index := Scalar.indexCast v353
  ![8, v354.toNat]
def k0_off10 (i : grid0.Coords) (c0_i32_195 : BitVec 32) : Fin 2 → Nat :=
  let c9 : Index := 9#32
  let arg1 : BitVec 32 := BitVec.ofNat 32 (i 1).val
  let c4_i32 : BitVec 32 := 4#32
  let v0 : BitVec 32 := Scalar.muli arg1 c4_i32
  let v397 : BitVec 32 := Scalar.addi v0 c0_i32_195
  let v398 : Index := Scalar.indexCast v397
  ![9, v398.toNat]
def k0_off11 (i : grid0.Coords) (c0_i32_217 : BitVec 32) : Fin 2 → Nat :=
  let c10 : Index := 10#32
  let arg1 : BitVec 32 := BitVec.ofNat 32 (i 1).val
  let c4_i32 : BitVec 32 := 4#32
  let v0 : BitVec 32 := Scalar.muli arg1 c4_i32
  let v441 : BitVec 32 := Scalar.addi v0 c0_i32_217
  let v442 : Index := Scalar.indexCast v441
  ![10, v442.toNat]
def k0_off12 (i : grid0.Coords) (c0_i32_239 : BitVec 32) : Fin 2 → Nat :=
  let c11 : Index := 11#32
  let arg1 : BitVec 32 := BitVec.ofNat 32 (i 1).val
  let c4_i32 : BitVec 32 := 4#32
  let v0 : BitVec 32 := Scalar.muli arg1 c4_i32
  let v485 : BitVec 32 := Scalar.addi v0 c0_i32_239
  let v486 : Index := Scalar.indexCast v485
  ![11, v486.toNat]
def k0_off13 (i : grid0.Coords) (c0_i32_261 : BitVec 32) : Fin 2 → Nat :=
  let c12 : Index := 12#32
  let arg1 : BitVec 32 := BitVec.ofNat 32 (i 1).val
  let c4_i32 : BitVec 32 := 4#32
  let v0 : BitVec 32 := Scalar.muli arg1 c4_i32
  let v529 : BitVec 32 := Scalar.addi v0 c0_i32_261
  let v530 : Index := Scalar.indexCast v529
  ![12, v530.toNat]
def k0_off14 (i : grid0.Coords) (c0_i32_283 : BitVec 32) : Fin 2 → Nat :=
  let c13 : Index := 13#32
  let arg1 : BitVec 32 := BitVec.ofNat 32 (i 1).val
  let c4_i32 : BitVec 32 := 4#32
  let v0 : BitVec 32 := Scalar.muli arg1 c4_i32
  let v573 : BitVec 32 := Scalar.addi v0 c0_i32_283
  let v574 : Index := Scalar.indexCast v573
  ![13, v574.toNat]
def k0_off15 (i : grid0.Coords) (c0_i32_305 : BitVec 32) : Fin 2 → Nat :=
  let c14 : Index := 14#32
  let arg1 : BitVec 32 := BitVec.ofNat 32 (i 1).val
  let c4_i32 : BitVec 32 := 4#32
  let v0 : BitVec 32 := Scalar.muli arg1 c4_i32
  let v617 : BitVec 32 := Scalar.addi v0 c0_i32_305
  let v618 : Index := Scalar.indexCast v617
  ![14, v618.toNat]
def k0_off16 (i : grid0.Coords) (c0_i32_327 : BitVec 32) : Fin 2 → Nat :=
  let c15 : Index := 15#32
  let arg1 : BitVec 32 := BitVec.ofNat 32 (i 1).val
  let c4_i32 : BitVec 32 := 4#32
  let v0 : BitVec 32 := Scalar.muli arg1 c4_i32
  let v661 : BitVec 32 := Scalar.addi v0 c0_i32_327
  let v662 : Index := Scalar.indexCast v661
  ![15, v662.toNat]
def k0_off17 (i : grid0.Coords) (c0_i32_349 : BitVec 32) : Fin 2 → Nat :=
  let c16 : Index := 16#32
  let arg1 : BitVec 32 := BitVec.ofNat 32 (i 1).val
  let c4_i32 : BitVec 32 := 4#32
  let v0 : BitVec 32 := Scalar.muli arg1 c4_i32
  let v705 : BitVec 32 := Scalar.addi v0 c0_i32_349
  let v706 : Index := Scalar.indexCast v705
  ![16, v706.toNat]
def k0_off18 (i : grid0.Coords) (c0_i32_371 : BitVec 32) : Fin 2 → Nat :=
  let c17 : Index := 17#32
  let arg1 : BitVec 32 := BitVec.ofNat 32 (i 1).val
  let c4_i32 : BitVec 32 := 4#32
  let v0 : BitVec 32 := Scalar.muli arg1 c4_i32
  let v749 : BitVec 32 := Scalar.addi v0 c0_i32_371
  let v750 : Index := Scalar.indexCast v749
  ![17, v750.toNat]
def k0_off19 (i : grid0.Coords) (c0_i32_393 : BitVec 32) : Fin 2 → Nat :=
  let c18 : Index := 18#32
  let arg1 : BitVec 32 := BitVec.ofNat 32 (i 1).val
  let c4_i32 : BitVec 32 := 4#32
  let v0 : BitVec 32 := Scalar.muli arg1 c4_i32
  let v793 : BitVec 32 := Scalar.addi v0 c0_i32_393
  let v794 : Index := Scalar.indexCast v793
  ![18, v794.toNat]
def k0_off20 (i : grid0.Coords) (c0_i32_415 : BitVec 32) : Fin 2 → Nat :=
  let c19 : Index := 19#32
  let arg1 : BitVec 32 := BitVec.ofNat 32 (i 1).val
  let c4_i32 : BitVec 32 := 4#32
  let v0 : BitVec 32 := Scalar.muli arg1 c4_i32
  let v837 : BitVec 32 := Scalar.addi v0 c0_i32_415
  let v838 : Index := Scalar.indexCast v837
  ![19, v838.toNat]
def k0_off21 (i : grid0.Coords) (c0_i32_437 : BitVec 32) : Fin 2 → Nat :=
  let c20 : Index := 20#32
  let arg1 : BitVec 32 := BitVec.ofNat 32 (i 1).val
  let c4_i32 : BitVec 32 := 4#32
  let v0 : BitVec 32 := Scalar.muli arg1 c4_i32
  let v881 : BitVec 32 := Scalar.addi v0 c0_i32_437
  let v882 : Index := Scalar.indexCast v881
  ![20, v882.toNat]
def k0_off22 (i : grid0.Coords) (c0_i32_459 : BitVec 32) : Fin 2 → Nat :=
  let c21 : Index := 21#32
  let arg1 : BitVec 32 := BitVec.ofNat 32 (i 1).val
  let c4_i32 : BitVec 32 := 4#32
  let v0 : BitVec 32 := Scalar.muli arg1 c4_i32
  let v925 : BitVec 32 := Scalar.addi v0 c0_i32_459
  let v926 : Index := Scalar.indexCast v925
  ![21, v926.toNat]
def k0_off23 (i : grid0.Coords) (c0_i32_481 : BitVec 32) : Fin 2 → Nat :=
  let c22 : Index := 22#32
  let arg1 : BitVec 32 := BitVec.ofNat 32 (i 1).val
  let c4_i32 : BitVec 32 := 4#32
  let v0 : BitVec 32 := Scalar.muli arg1 c4_i32
  let v969 : BitVec 32 := Scalar.addi v0 c0_i32_481
  let v970 : Index := Scalar.indexCast v969
  ![22, v970.toNat]
def k0_off24 (i : grid0.Coords) (c0_i32_503 : BitVec 32) : Fin 2 → Nat :=
  let c23 : Index := 23#32
  let arg1 : BitVec 32 := BitVec.ofNat 32 (i 1).val
  let c4_i32 : BitVec 32 := 4#32
  let v0 : BitVec 32 := Scalar.muli arg1 c4_i32
  let v1013 : BitVec 32 := Scalar.addi v0 c0_i32_503
  let v1014 : Index := Scalar.indexCast v1013
  ![23, v1014.toNat]
def k0_off25 (i : grid0.Coords) (c0_i32_525 : BitVec 32) : Fin 2 → Nat :=
  let c24 : Index := 24#32
  let arg1 : BitVec 32 := BitVec.ofNat 32 (i 1).val
  let c4_i32 : BitVec 32 := 4#32
  let v0 : BitVec 32 := Scalar.muli arg1 c4_i32
  let v1057 : BitVec 32 := Scalar.addi v0 c0_i32_525
  let v1058 : Index := Scalar.indexCast v1057
  ![24, v1058.toNat]
def k0_off26 (i : grid0.Coords) (c0_i32_547 : BitVec 32) : Fin 2 → Nat :=
  let c25 : Index := 25#32
  let arg1 : BitVec 32 := BitVec.ofNat 32 (i 1).val
  let c4_i32 : BitVec 32 := 4#32
  let v0 : BitVec 32 := Scalar.muli arg1 c4_i32
  let v1101 : BitVec 32 := Scalar.addi v0 c0_i32_547
  let v1102 : Index := Scalar.indexCast v1101
  ![25, v1102.toNat]
def k0_off27 (i : grid0.Coords) (c0_i32_569 : BitVec 32) : Fin 2 → Nat :=
  let c26 : Index := 26#32
  let arg1 : BitVec 32 := BitVec.ofNat 32 (i 1).val
  let c4_i32 : BitVec 32 := 4#32
  let v0 : BitVec 32 := Scalar.muli arg1 c4_i32
  let v1145 : BitVec 32 := Scalar.addi v0 c0_i32_569
  let v1146 : Index := Scalar.indexCast v1145
  ![26, v1146.toNat]
def k0_off28 (i : grid0.Coords) (c0_i32_591 : BitVec 32) : Fin 2 → Nat :=
  let c27 : Index := 27#32
  let arg1 : BitVec 32 := BitVec.ofNat 32 (i 1).val
  let c4_i32 : BitVec 32 := 4#32
  let v0 : BitVec 32 := Scalar.muli arg1 c4_i32
  let v1189 : BitVec 32 := Scalar.addi v0 c0_i32_591
  let v1190 : Index := Scalar.indexCast v1189
  ![27, v1190.toNat]
def k0_off29 (i : grid0.Coords) (c0_i32_613 : BitVec 32) : Fin 2 → Nat :=
  let c28 : Index := 28#32
  let arg1 : BitVec 32 := BitVec.ofNat 32 (i 1).val
  let c4_i32 : BitVec 32 := 4#32
  let v0 : BitVec 32 := Scalar.muli arg1 c4_i32
  let v1233 : BitVec 32 := Scalar.addi v0 c0_i32_613
  let v1234 : Index := Scalar.indexCast v1233
  ![28, v1234.toNat]
def k0_off30 (i : grid0.Coords) (c0_i32_635 : BitVec 32) : Fin 2 → Nat :=
  let c29 : Index := 29#32
  let arg1 : BitVec 32 := BitVec.ofNat 32 (i 1).val
  let c4_i32 : BitVec 32 := 4#32
  let v0 : BitVec 32 := Scalar.muli arg1 c4_i32
  let v1277 : BitVec 32 := Scalar.addi v0 c0_i32_635
  let v1278 : Index := Scalar.indexCast v1277
  ![29, v1278.toNat]
def k0_off31 (i : grid0.Coords) (c0_i32_657 : BitVec 32) : Fin 2 → Nat :=
  let c30 : Index := 30#32
  let arg1 : BitVec 32 := BitVec.ofNat 32 (i 1).val
  let c4_i32 : BitVec 32 := 4#32
  let v0 : BitVec 32 := Scalar.muli arg1 c4_i32
  let v1321 : BitVec 32 := Scalar.addi v0 c0_i32_657
  let v1322 : Index := Scalar.indexCast v1321
  ![30, v1322.toNat]
def k0_off32 (i : grid0.Coords) (c0_i32_679 : BitVec 32) : Fin 2 → Nat :=
  let c31 : Index := 31#32
  let arg1 : BitVec 32 := BitVec.ofNat 32 (i 1).val
  let c4_i32 : BitVec 32 := 4#32
  let v0 : BitVec 32 := Scalar.muli arg1 c4_i32
  let v1365 : BitVec 32 := Scalar.addi v0 c0_i32_679
  let v1366 : Index := Scalar.indexCast v1365
  ![31, v1366.toNat]
def k0_off33 (i : grid0.Coords) (c0_i32_701 : BitVec 32) : Fin 2 → Nat :=
  let c32 : Index := 32#32
  let arg1 : BitVec 32 := BitVec.ofNat 32 (i 1).val
  let c4_i32 : BitVec 32 := 4#32
  let v0 : BitVec 32 := Scalar.muli arg1 c4_i32
  let v1409 : BitVec 32 := Scalar.addi v0 c0_i32_701
  let v1410 : Index := Scalar.indexCast v1409
  ![32, v1410.toNat]
def k0_off34 (i : grid0.Coords) (c0_i32_723 : BitVec 32) : Fin 2 → Nat :=
  let c33 : Index := 33#32
  let arg1 : BitVec 32 := BitVec.ofNat 32 (i 1).val
  let c4_i32 : BitVec 32 := 4#32
  let v0 : BitVec 32 := Scalar.muli arg1 c4_i32
  let v1453 : BitVec 32 := Scalar.addi v0 c0_i32_723
  let v1454 : Index := Scalar.indexCast v1453
  ![33, v1454.toNat]
def k0_off35 (i : grid0.Coords) (c0_i32_745 : BitVec 32) : Fin 2 → Nat :=
  let c34 : Index := 34#32
  let arg1 : BitVec 32 := BitVec.ofNat 32 (i 1).val
  let c4_i32 : BitVec 32 := 4#32
  let v0 : BitVec 32 := Scalar.muli arg1 c4_i32
  let v1497 : BitVec 32 := Scalar.addi v0 c0_i32_745
  let v1498 : Index := Scalar.indexCast v1497
  ![34, v1498.toNat]
def k0_off36 (i : grid0.Coords) (c0_i32_767 : BitVec 32) : Fin 2 → Nat :=
  let c35 : Index := 35#32
  let arg1 : BitVec 32 := BitVec.ofNat 32 (i 1).val
  let c4_i32 : BitVec 32 := 4#32
  let v0 : BitVec 32 := Scalar.muli arg1 c4_i32
  let v1541 : BitVec 32 := Scalar.addi v0 c0_i32_767
  let v1542 : Index := Scalar.indexCast v1541
  ![35, v1542.toNat]
def k0_off37 (i : grid0.Coords) (c0_i32_789 : BitVec 32) : Fin 2 → Nat :=
  let c36 : Index := 36#32
  let arg1 : BitVec 32 := BitVec.ofNat 32 (i 1).val
  let c4_i32 : BitVec 32 := 4#32
  let v0 : BitVec 32 := Scalar.muli arg1 c4_i32
  let v1585 : BitVec 32 := Scalar.addi v0 c0_i32_789
  let v1586 : Index := Scalar.indexCast v1585
  ![36, v1586.toNat]
def k0_off38 (i : grid0.Coords) (c0_i32_811 : BitVec 32) : Fin 2 → Nat :=
  let c37 : Index := 37#32
  let arg1 : BitVec 32 := BitVec.ofNat 32 (i 1).val
  let c4_i32 : BitVec 32 := 4#32
  let v0 : BitVec 32 := Scalar.muli arg1 c4_i32
  let v1629 : BitVec 32 := Scalar.addi v0 c0_i32_811
  let v1630 : Index := Scalar.indexCast v1629
  ![37, v1630.toNat]
def k0_off39 (i : grid0.Coords) (c0_i32_833 : BitVec 32) : Fin 2 → Nat :=
  let c38 : Index := 38#32
  let arg1 : BitVec 32 := BitVec.ofNat 32 (i 1).val
  let c4_i32 : BitVec 32 := 4#32
  let v0 : BitVec 32 := Scalar.muli arg1 c4_i32
  let v1673 : BitVec 32 := Scalar.addi v0 c0_i32_833
  let v1674 : Index := Scalar.indexCast v1673
  ![38, v1674.toNat]
def k0_off40 (i : grid0.Coords) (c0_i32_855 : BitVec 32) : Fin 2 → Nat :=
  let c39 : Index := 39#32
  let arg1 : BitVec 32 := BitVec.ofNat 32 (i 1).val
  let c4_i32 : BitVec 32 := 4#32
  let v0 : BitVec 32 := Scalar.muli arg1 c4_i32
  let v1717 : BitVec 32 := Scalar.addi v0 c0_i32_855
  let v1718 : Index := Scalar.indexCast v1717
  ![39, v1718.toNat]
def k0_off41 (i : grid0.Coords) (c0_i32_877 : BitVec 32) : Fin 2 → Nat :=
  let c40 : Index := 40#32
  let arg1 : BitVec 32 := BitVec.ofNat 32 (i 1).val
  let c4_i32 : BitVec 32 := 4#32
  let v0 : BitVec 32 := Scalar.muli arg1 c4_i32
  let v1761 : BitVec 32 := Scalar.addi v0 c0_i32_877
  let v1762 : Index := Scalar.indexCast v1761
  ![40, v1762.toNat]
def k0_off42 (i : grid0.Coords) (c0_i32_899 : BitVec 32) : Fin 2 → Nat :=
  let c41 : Index := 41#32
  let arg1 : BitVec 32 := BitVec.ofNat 32 (i 1).val
  let c4_i32 : BitVec 32 := 4#32
  let v0 : BitVec 32 := Scalar.muli arg1 c4_i32
  let v1805 : BitVec 32 := Scalar.addi v0 c0_i32_899
  let v1806 : Index := Scalar.indexCast v1805
  ![41, v1806.toNat]
def k0_off43 (i : grid0.Coords) (c0_i32_921 : BitVec 32) : Fin 2 → Nat :=
  let c42 : Index := 42#32
  let arg1 : BitVec 32 := BitVec.ofNat 32 (i 1).val
  let c4_i32 : BitVec 32 := 4#32
  let v0 : BitVec 32 := Scalar.muli arg1 c4_i32
  let v1849 : BitVec 32 := Scalar.addi v0 c0_i32_921
  let v1850 : Index := Scalar.indexCast v1849
  ![42, v1850.toNat]
def k0_off44 (i : grid0.Coords) (c0_i32_943 : BitVec 32) : Fin 2 → Nat :=
  let c43 : Index := 43#32
  let arg1 : BitVec 32 := BitVec.ofNat 32 (i 1).val
  let c4_i32 : BitVec 32 := 4#32
  let v0 : BitVec 32 := Scalar.muli arg1 c4_i32
  let v1893 : BitVec 32 := Scalar.addi v0 c0_i32_943
  let v1894 : Index := Scalar.indexCast v1893
  ![43, v1894.toNat]
def k0_off45 (i : grid0.Coords) (c0_i32_965 : BitVec 32) : Fin 2 → Nat :=
  let c44 : Index := 44#32
  let arg1 : BitVec 32 := BitVec.ofNat 32 (i 1).val
  let c4_i32 : BitVec 32 := 4#32
  let v0 : BitVec 32 := Scalar.muli arg1 c4_i32
  let v1937 : BitVec 32 := Scalar.addi v0 c0_i32_965
  let v1938 : Index := Scalar.indexCast v1937
  ![44, v1938.toNat]
def k0_off46 (i : grid0.Coords) (c0_i32_987 : BitVec 32) : Fin 2 → Nat :=
  let c45 : Index := 45#32
  let arg1 : BitVec 32 := BitVec.ofNat 32 (i 1).val
  let c4_i32 : BitVec 32 := 4#32
  let v0 : BitVec 32 := Scalar.muli arg1 c4_i32
  let v1981 : BitVec 32 := Scalar.addi v0 c0_i32_987
  let v1982 : Index := Scalar.indexCast v1981
  ![45, v1982.toNat]
def k0_off47 (i : grid0.Coords) (c0_i32_1009 : BitVec 32) : Fin 2 → Nat :=
  let c46 : Index := 46#32
  let arg1 : BitVec 32 := BitVec.ofNat 32 (i 1).val
  let c4_i32 : BitVec 32 := 4#32
  let v0 : BitVec 32 := Scalar.muli arg1 c4_i32
  let v2025 : BitVec 32 := Scalar.addi v0 c0_i32_1009
  let v2026 : Index := Scalar.indexCast v2025
  ![46, v2026.toNat]
def k0_off48 (i : grid0.Coords) (c0_i32_1031 : BitVec 32) : Fin 2 → Nat :=
  let c47 : Index := 47#32
  let arg1 : BitVec 32 := BitVec.ofNat 32 (i 1).val
  let c4_i32 : BitVec 32 := 4#32
  let v0 : BitVec 32 := Scalar.muli arg1 c4_i32
  let v2069 : BitVec 32 := Scalar.addi v0 c0_i32_1031
  let v2070 : Index := Scalar.indexCast v2069
  ![47, v2070.toNat]
def k0_off49 (i : grid0.Coords) (c0_i32_1053 : BitVec 32) : Fin 2 → Nat :=
  let c48 : Index := 48#32
  let arg1 : BitVec 32 := BitVec.ofNat 32 (i 1).val
  let c4_i32 : BitVec 32 := 4#32
  let v0 : BitVec 32 := Scalar.muli arg1 c4_i32
  let v2113 : BitVec 32 := Scalar.addi v0 c0_i32_1053
  let v2114 : Index := Scalar.indexCast v2113
  ![48, v2114.toNat]
def k0_off50 (i : grid0.Coords) (c0_i32_1075 : BitVec 32) : Fin 2 → Nat :=
  let c49 : Index := 49#32
  let arg1 : BitVec 32 := BitVec.ofNat 32 (i 1).val
  let c4_i32 : BitVec 32 := 4#32
  let v0 : BitVec 32 := Scalar.muli arg1 c4_i32
  let v2157 : BitVec 32 := Scalar.addi v0 c0_i32_1075
  let v2158 : Index := Scalar.indexCast v2157
  ![49, v2158.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S50x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S6400x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S50x40 : Shape := ⟨2, ![50, 40]⟩
abbrev S16384x6400 : Shape := ⟨2, ![16384, 6400]⟩
abbrev S16384x5120 : Shape := ⟨2, ![16384, 5120]⟩
abbrev S6400x5120 : Shape := ⟨2, ![6400, 5120]⟩
abbrev S50x128x40x128 : Shape := ⟨4, ![50, 128, 40, 128]⟩
abbrev S50x1x40x1 : Shape := ⟨4, ![50, 1, 40, 1]⟩

abbrev nBuf : Space → Nat
  | .hbm => 5
  | .vmem => 5
  | .smem => 0
  | _ => 0

abbrev bufTy : (tb : Table) → Fin (tcTables nBuf tb) → BufTy
  | .hbm, ⟨0, _⟩ => ⟨S50x40, .f32⟩
  | .hbm, ⟨1, _⟩ => ⟨S16384x6400, .bf16⟩
  | .hbm, ⟨2, _⟩ => ⟨S16384x5120, .f32⟩
  | .hbm, ⟨3, _⟩ => ⟨S6400x5120, .fp8e4m3⟩
  | .hbm, ⟨4, _⟩ => ⟨S16384x5120, .bf16⟩
  | .local _ .vmem, ⟨0, _⟩ => ⟨S50x40, .f32⟩
  | .local _ .vmem, ⟨1, _⟩ => ⟨S16384x6400, .bf16⟩
  | .local _ .vmem, ⟨2, _⟩ => ⟨S16384x5120, .f32⟩
  | .local _ .vmem, ⟨3, _⟩ => ⟨S6400x5120, .fp8e4m3⟩
  | .local _ .vmem, ⟨4, _⟩ => ⟨S16384x5120, .bf16⟩
  | _, _ => ⟨S50x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S50x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x6400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6400x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S40x100 : Shape := ⟨2, ![40, 100]⟩
abbrev S16384x5120 : Shape := ⟨2, ![16384, 5120]⟩
abbrev S5120x12800 : Shape := ⟨2, ![5120, 12800]⟩
abbrev S16384x6400 : Shape := ⟨2, ![16384, 6400]⟩
abbrev S50x16384 : Shape := ⟨2, ![50, 16384]⟩
abbrev S1024x5120 : Shape := ⟨2, ![1024, 5120]⟩
abbrev S5120x256 : Shape := ⟨2, ![5120, 256]⟩
abbrev S1024x256 : Shape := ⟨2, ![1024, 256]⟩
abbrev S50x1024 : Shape := ⟨2, ![50, 1024]⟩
abbrev S5120x512 : Shape := ⟨2, ![5120, 512]⟩
abbrev S1024x128 : Shape := ⟨2, ![1024, 128]⟩
abbrev S1x1 : Shape := ⟨2, ![1, 1]⟩
abbrev S128x128 : Shape := ⟨2, ![128, 128]⟩
abbrev S32x128 : Shape := ⟨2, ![32, 128]⟩
abbrev S256x5120 : Shape := ⟨2, ![256, 5120]⟩
abbrev S256x512 : Shape := ⟨2, ![256, 512]⟩
abbrev S32 : Shape := ⟨1, ![32]⟩
abbrev S32x1 : Shape := ⟨2, ![32, 1]⟩
abbrev S32x253 : Shape := ⟨2, ![32, 253]⟩
abbrev S50x128 : Shape := ⟨2, ![50, 128]⟩

abbrev nBuf : Space → Nat
  | .hbm => 6
  | .vmem => 14
  | .smem => 1
  | _ => 0

abbrev bufTy : (tb : Table) → Fin (tcTables nBuf tb) → BufTy
  | .hbm, ⟨0, _⟩ => ⟨S40x100, .f32⟩
  | .hbm, ⟨1, _⟩ => ⟨S16384x5120, .bf16⟩
  | .hbm, ⟨2, _⟩ => ⟨S5120x12800, .fp8e4m3⟩
  | .hbm, ⟨3, _⟩ => ⟨S16384x6400, .fp8e4m3⟩
  | .hbm, ⟨4, _⟩ => ⟨S50x16384, .f32⟩
  | .hbm, ⟨5, _⟩ => ⟨S16384x6400, .bf16⟩
  | .local _ .vmem, ⟨0, _⟩ => ⟨S1024x5120, .bf16⟩
  | .local _ .vmem, ⟨1, _⟩ => ⟨S1024x5120, .bf16⟩
  | .local _ .vmem, ⟨2, _⟩ => ⟨S5120x256, .fp8e4m3⟩
  | .local _ .vmem, ⟨3, _⟩ => ⟨S5120x256, .fp8e4m3⟩
  | .local _ .vmem, ⟨4, _⟩ => ⟨S5120x256, .fp8e4m3⟩
  | .local _ .vmem, ⟨5, _⟩ => ⟨S5120x256, .fp8e4m3⟩
  | .local _ .vmem, ⟨6, _⟩ => ⟨S1024x256, .fp8e4m3⟩
  | .local _ .vmem, ⟨7, _⟩ => ⟨S1024x256, .fp8e4m3⟩
  | .local _ .vmem, ⟨8, _⟩ => ⟨S50x1024, .f32⟩
  | .local _ .vmem, ⟨9, _⟩ => ⟨S50x1024, .f32⟩
  | .local _ .vmem, ⟨10, _⟩ => ⟨S1024x256, .bf16⟩
  | .local _ .vmem, ⟨11, _⟩ => ⟨S1024x256, .bf16⟩
  | .local _ .vmem, ⟨12, _⟩ => ⟨S5120x512, .bf16⟩
  | .local _ .vmem, ⟨13, _⟩ => ⟨S1024x128, .f32⟩
  | .local _ .smem, ⟨0, _⟩ => ⟨S40x100, .f32⟩
  | _, _ => ⟨S40x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 25], ![false, false]⟩

def k0_off1 (i : grid0.Coords) (c0_i32 : BitVec 32) : Fin 2 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg1 : BitVec 32 := BitVec.ofNat 32 (i 1).val
  let c2_i32 : BitVec 32 := 2#32
  let v0 : BitVec 32 := Scalar.muli arg1 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg1 : BitVec 32 := BitVec.ofNat 32 (i 1).val
  let c2_i32 : BitVec 32 := 2#32
  let v0 : BitVec 32 := Scalar.muli arg1 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg1 : BitVec 32 := BitVec.ofNat 32 (i 1).val
  let c2_i32 : BitVec 32 := 2#32
  let v0 : BitVec 32 := Scalar.muli arg1 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg1 : BitVec 32 := BitVec.ofNat 32 (i 1).val
  let c2_i32 : BitVec 32 := 2#32
  let v0 : BitVec 32 := Scalar.muli arg1 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg1 : BitVec 32 := BitVec.ofNat 32 (i 1).val
  let c2_i32 : BitVec 32 := 2#32
  let v0 : BitVec 32 := Scalar.muli arg1 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg1 : BitVec 32 := BitVec.ofNat 32 (i 1).val
  let c2_i32 : BitVec 32 := 2#32
  let v0 : BitVec 32 := Scalar.muli arg1 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg1 : BitVec 32 := BitVec.ofNat 32 (i 1).val
  let c2_i32 : BitVec 32 := 2#32
  let v0 : BitVec 32 := Scalar.muli arg1 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg1 : BitVec 32 := BitVec.ofNat 32 (i 1).val
  let c2_i32 : BitVec 32 := 2#32
  let v0 : BitVec 32 := Scalar.muli arg1 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg1 : BitVec 32 := BitVec.ofNat 32 (i 1).val
  let c2_i32 : BitVec 32 := 2#32
  let v0 : BitVec 32 := Scalar.muli arg1 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg1 : BitVec 32 := BitVec.ofNat 32 (i 1).val
  let c2_i32 : BitVec 32 := 2#32
  let v0 : BitVec 32 := Scalar.muli arg1 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg1 : BitVec 32 := BitVec.ofNat 32 (i 1).val
  let c2_i32 : BitVec 32 := 2#32
  let v0 : BitVec 32 := Scalar.muli arg1 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg1 : BitVec 32 := BitVec.ofNat 32 (i 1).val
  let c2_i32 : BitVec 32 := 2#32
  let v0 : BitVec 32 := Scalar.muli arg1 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg1 : BitVec 32 := BitVec.ofNat 32 (i 1).val
  let c2_i32 : BitVec 32 := 2#32
  let v0 : BitVec 32 := Scalar.muli arg1 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg1 : BitVec 32 := BitVec.ofNat 32 (i 1).val
  let c2_i32 : BitVec 32 := 2#32
  let v0 : BitVec 32 := Scalar.muli arg1 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg1 : BitVec 32 := BitVec.ofNat 32 (i 1).val
  let c2_i32 : BitVec 32 := 2#32
  let v0 : BitVec 32 := Scalar.muli arg1 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg1 : BitVec 32 := BitVec.ofNat 32 (i 1).val
  let c2_i32 : BitVec 32 := 2#32
  let v0 : BitVec 32 := Scalar.muli arg1 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg1 : BitVec 32 := BitVec.ofNat 32 (i 1).val
  let c2_i32 : BitVec 32 := 2#32
  let v0 : BitVec 32 := Scalar.muli arg1 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg1 : BitVec 32 := BitVec.ofNat 32 (i 1).val
  let c2_i32 : BitVec 32 := 2#32
  let v0 : BitVec 32 := Scalar.muli arg1 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg1 : BitVec 32 := BitVec.ofNat 32 (i 1).val
  let c2_i32 : BitVec 32 := 2#32
  let v0 : BitVec 32 := Scalar.muli arg1 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg1 : BitVec 32 := BitVec.ofNat 32 (i 1).val
  let c2_i32 : BitVec 32 := 2#32
  let v0 : BitVec 32 := Scalar.muli arg1 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg1 : BitVec 32 := BitVec.ofNat 32 (i 1).val
  let c2_i32 : BitVec 32 := 2#32
  let v0 : BitVec 32 := Scalar.muli arg1 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg1 : BitVec 32 := BitVec.ofNat 32 (i 1).val
  let c2_i32 : BitVec 32 := 2#32
  let v0 : BitVec 32 := Scalar.muli arg1 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg1 : BitVec 32 := BitVec.ofNat 32 (i 1).val
  let c2_i32 : BitVec 32 := 2#32
  let v0 : BitVec 32 := Scalar.muli arg1 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg1 : BitVec 32 := BitVec.ofNat 32 (i 1).val
  let c2_i32 : BitVec 32 := 2#32
  let v0 : BitVec 32 := Scalar.muli arg1 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg1 : BitVec 32 := BitVec.ofNat 32 (i 1).val
  let c2_i32 : BitVec 32 := 2#32
  let v0 : BitVec 32 := Scalar.muli arg1 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg1 : BitVec 32 := BitVec.ofNat 32 (i 1).val
  let c2_i32 : BitVec 32 := 2#32
  let v0 : BitVec 32 := Scalar.muli arg1 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg1 : BitVec 32 := BitVec.ofNat 32 (i 1).val
  let c2_i32 : BitVec 32 := 2#32
  let v0 : BitVec 32 := Scalar.muli arg1 c2_i32
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let arg1 : BitVec 32 := BitVec.ofNat 32 (i 1).val
  let c2_i32 : BitVec 32 := 2#32
  let v0 : BitVec 32 := Scalar.muli arg1 c2_i32
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let arg1 : BitVec 32 := BitVec.ofNat 32 (i 1).val
  let c2_i32 : BitVec 32 := 2#32
  let v0 : BitVec 32 := Scalar.muli arg1 c2_i32
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let arg1 : BitVec 32 := BitVec.ofNat 32 (i 1).val
  let c2_i32 : BitVec 32 := 2#32
  let v0 : BitVec 32 := Scalar.muli arg1 c2_i32
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let arg1 : BitVec 32 := BitVec.ofNat 32 (i 1).val
  let c2_i32 : BitVec 32 := 2#32
  let v0 : BitVec 32 := Scalar.muli arg1 c2_i32
  let v683 : BitVec 32 := Scalar.addi v0 c0_i32_309
  let v684 : Index := Scalar.indexCast v683
  ![31, v684.toNat]
def k0_off33 (i : grid0.Coords) (c0_i32_319 : BitVec 32) : Fin 2 → Nat :=
  let c32 : Index := 32#32
  let arg1 : BitVec 32 := BitVec.ofNat 32 (i 1).val
  let c2_i32 : BitVec 32 := 2#32
  let v0 : BitVec 32 := Scalar.muli arg1 c2_i32
  let v705 : BitVec 32 := Scalar.addi v0 c0_i32_319
  let v706 : Index := Scalar.indexCast v705
  ![32, v706.toNat]
def k0_off34 (i : grid0.Coords) (c0_i32_329 : BitVec 32) : Fin 2 → Nat :=
  let c33 : Index := 33#32
  let arg1 : BitVec 32 := BitVec.ofNat 32 (i 1).val
  let c2_i32 : BitVec 32 := 2#32
  let v0 : BitVec 32 := Scalar.muli arg1 c2_i32
  let v727 : BitVec 32 := Scalar.addi v0 c0_i32_329
  let v728 : Index := Scalar.indexCast v727
  ![33, v728.toNat]
def k0_off35 (i : grid0.Coords) (c0_i32_339 : BitVec 32) : Fin 2 → Nat :=
  let c34 : Index := 34#32
  let arg1 : BitVec 32 := BitVec.ofNat 32 (i 1).val
  let c2_i32 : BitVec 32 := 2#32
  let v0 : BitVec 32 := Scalar.muli arg1 c2_i32
  let v749 : BitVec 32 := Scalar.addi v0 c0_i32_339
  let v750 : Index := Scalar.indexCast v749
  ![34, v750.toNat]
def k0_off36 (i : grid0.Coords) (c0_i32_349 : BitVec 32) : Fin 2 → Nat :=
  let c35 : Index := 35#32
  let arg1 : BitVec 32 := BitVec.ofNat 32 (i 1).val
  let c2_i32 : BitVec 32 := 2#32
  let v0 : BitVec 32 := Scalar.muli arg1 c2_i32
  let v771 : BitVec 32 := Scalar.addi v0 c0_i32_349
  let v772 : Index := Scalar.indexCast v771
  ![35, v772.toNat]
def k0_off37 (i : grid0.Coords) (c0_i32_359 : BitVec 32) : Fin 2 → Nat :=
  let c36 : Index := 36#32
  let arg1 : BitVec 32 := BitVec.ofNat 32 (i 1).val
  let c2_i32 : BitVec 32 := 2#32
  let v0 : BitVec 32 := Scalar.muli arg1 c2_i32
  let v793 : BitVec 32 := Scalar.addi v0 c0_i32_359
  let v794 : Index := Scalar.indexCast v793
  ![36, v794.toNat]
def k0_off38 (i : grid0.Coords) (c0_i32_369 : BitVec 32) : Fin 2 → Nat :=
  let c37 : Index := 37#32
  let arg1 : BitVec 32 := BitVec.ofNat 32 (i 1).val
  let c2_i32 : BitVec 32 := 2#32
  let v0 : BitVec 32 := Scalar.muli arg1 c2_i32
  let v815 : BitVec 32 := Scalar.addi v0 c0_i32_369
  let v816 : Index := Scalar.indexCast v815
  ![37, v816.toNat]
def k0_off39 (i : grid0.Coords) (c0_i32_379 : BitVec 32) : Fin 2 → Nat :=
  let c38 : Index := 38#32
  let arg1 : BitVec 32 := BitVec.ofNat 32 (i 1).val
  let c2_i32 : BitVec 32 := 2#32
  let v0 : BitVec 32 := Scalar.muli arg1 c2_i32
  let v837 : BitVec 32 := Scalar.addi v0 c0_i32_379
  let v838 : Index := Scalar.indexCast v837
  ![38, v838.toNat]
def k0_off40 (i : grid0.Coords) (c0_i32_389 : BitVec 32) : Fin 2 → Nat :=
  let c39 : Index := 39#32
  let arg1 : BitVec 32 := BitVec.ofNat 32 (i 1).val
  let c2_i32 : BitVec 32 := 2#32
  let v0 : BitVec 32 := Scalar.muli arg1 c2_i32
  let v859 : BitVec 32 := Scalar.addi v0 c0_i32_389
  let v860 : Index := Scalar.indexCast v859
  ![39, v860.toNat]
def k0_off41 (i : grid0.Coords) (c0_i32_400 : BitVec 32) : Fin 2 → Nat :=
  let c0_401 : Index := 0#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v883 : BitVec 32 := Scalar.addi v882 c0_i32_400
  let v884 : Index := Scalar.indexCast v883
  ![0, v884.toNat]
def k0_off42 (i : grid0.Coords) (c0_i32_412 : BitVec 32) : Fin 2 → Nat :=
  let c1_413 : Index := 1#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v905 : BitVec 32 := Scalar.addi v882 c0_i32_412
  let v906 : Index := Scalar.indexCast v905
  ![1, v906.toNat]
def k0_off43 (i : grid0.Coords) (c0_i32_424 : BitVec 32) : Fin 2 → Nat :=
  let c2_425 : Index := 2#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v927 : BitVec 32 := Scalar.addi v882 c0_i32_424
  let v928 : Index := Scalar.indexCast v927
  ![2, v928.toNat]
def k0_off44 (i : grid0.Coords) (c0_i32_436 : BitVec 32) : Fin 2 → Nat :=
  let c3_437 : Index := 3#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v949 : BitVec 32 := Scalar.addi v882 c0_i32_436
  let v950 : Index := Scalar.indexCast v949
  ![3, v950.toNat]
def k0_off45 (i : grid0.Coords) (c0_i32_448 : BitVec 32) : Fin 2 → Nat :=
  let c4_449 : Index := 4#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v971 : BitVec 32 := Scalar.addi v882 c0_i32_448
  let v972 : Index := Scalar.indexCast v971
  ![4, v972.toNat]
def k0_off46 (i : grid0.Coords) (c0_i32_460 : BitVec 32) : Fin 2 → Nat :=
  let c5_461 : Index := 5#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v993 : BitVec 32 := Scalar.addi v882 c0_i32_460
  let v994 : Index := Scalar.indexCast v993
  ![5, v994.toNat]
def k0_off47 (i : grid0.Coords) (c0_i32_472 : BitVec 32) : Fin 2 → Nat :=
  let c6_473 : Index := 6#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1015 : BitVec 32 := Scalar.addi v882 c0_i32_472
  let v1016 : Index := Scalar.indexCast v1015
  ![6, v1016.toNat]
def k0_off48 (i : grid0.Coords) (c0_i32_484 : BitVec 32) : Fin 2 → Nat :=
  let c7_485 : Index := 7#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1037 : BitVec 32 := Scalar.addi v882 c0_i32_484
  let v1038 : Index := Scalar.indexCast v1037
  ![7, v1038.toNat]
def k0_off49 (i : grid0.Coords) (c0_i32_496 : BitVec 32) : Fin 2 → Nat :=
  let c8_497 : Index := 8#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1059 : BitVec 32 := Scalar.addi v882 c0_i32_496
  let v1060 : Index := Scalar.indexCast v1059
  ![8, v1060.toNat]
def k0_off50 (i : grid0.Coords) (c0_i32_508 : BitVec 32) : Fin 2 → Nat :=
  let c9_509 : Index := 9#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1081 : BitVec 32 := Scalar.addi v882 c0_i32_508
  let v1082 : Index := Scalar.indexCast v1081
  ![9, v1082.toNat]
def k0_off51 (i : grid0.Coords) (c0_i32_520 : BitVec 32) : Fin 2 → Nat :=
  let c10_521 : Index := 10#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1103 : BitVec 32 := Scalar.addi v882 c0_i32_520
  let v1104 : Index := Scalar.indexCast v1103
  ![10, v1104.toNat]
def k0_off52 (i : grid0.Coords) (c0_i32_532 : BitVec 32) : Fin 2 → Nat :=
  let c11_533 : Index := 11#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1125 : BitVec 32 := Scalar.addi v882 c0_i32_532
  let v1126 : Index := Scalar.indexCast v1125
  ![11, v1126.toNat]
def k0_off53 (i : grid0.Coords) (c0_i32_544 : BitVec 32) : Fin 2 → Nat :=
  let c12_545 : Index := 12#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1147 : BitVec 32 := Scalar.addi v882 c0_i32_544
  let v1148 : Index := Scalar.indexCast v1147
  ![12, v1148.toNat]
def k0_off54 (i : grid0.Coords) (c0_i32_556 : BitVec 32) : Fin 2 → Nat :=
  let c13_557 : Index := 13#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1169 : BitVec 32 := Scalar.addi v882 c0_i32_556
  let v1170 : Index := Scalar.indexCast v1169
  ![13, v1170.toNat]
def k0_off55 (i : grid0.Coords) (c0_i32_568 : BitVec 32) : Fin 2 → Nat :=
  let c14_569 : Index := 14#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1191 : BitVec 32 := Scalar.addi v882 c0_i32_568
  let v1192 : Index := Scalar.indexCast v1191
  ![14, v1192.toNat]
def k0_off56 (i : grid0.Coords) (c0_i32_580 : BitVec 32) : Fin 2 → Nat :=
  let c15_581 : Index := 15#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1213 : BitVec 32 := Scalar.addi v882 c0_i32_580
  let v1214 : Index := Scalar.indexCast v1213
  ![15, v1214.toNat]
def k0_off57 (i : grid0.Coords) (c0_i32_592 : BitVec 32) : Fin 2 → Nat :=
  let c16_593 : Index := 16#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1235 : BitVec 32 := Scalar.addi v882 c0_i32_592
  let v1236 : Index := Scalar.indexCast v1235
  ![16, v1236.toNat]
def k0_off58 (i : grid0.Coords) (c0_i32_604 : BitVec 32) : Fin 2 → Nat :=
  let c17_605 : Index := 17#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1257 : BitVec 32 := Scalar.addi v882 c0_i32_604
  let v1258 : Index := Scalar.indexCast v1257
  ![17, v1258.toNat]
def k0_off59 (i : grid0.Coords) (c0_i32_616 : BitVec 32) : Fin 2 → Nat :=
  let c18_617 : Index := 18#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1279 : BitVec 32 := Scalar.addi v882 c0_i32_616
  let v1280 : Index := Scalar.indexCast v1279
  ![18, v1280.toNat]
def k0_off60 (i : grid0.Coords) (c0_i32_628 : BitVec 32) : Fin 2 → Nat :=
  let c19_629 : Index := 19#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1301 : BitVec 32 := Scalar.addi v882 c0_i32_628
  let v1302 : Index := Scalar.indexCast v1301
  ![19, v1302.toNat]
def k0_off61 (i : grid0.Coords) (c0_i32_640 : BitVec 32) : Fin 2 → Nat :=
  let c20_641 : Index := 20#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1323 : BitVec 32 := Scalar.addi v882 c0_i32_640
  let v1324 : Index := Scalar.indexCast v1323
  ![20, v1324.toNat]
def k0_off62 (i : grid0.Coords) (c0_i32_652 : BitVec 32) : Fin 2 → Nat :=
  let c21_653 : Index := 21#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1345 : BitVec 32 := Scalar.addi v882 c0_i32_652
  let v1346 : Index := Scalar.indexCast v1345
  ![21, v1346.toNat]
def k0_off63 (i : grid0.Coords) (c0_i32_664 : BitVec 32) : Fin 2 → Nat :=
  let c22_665 : Index := 22#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1367 : BitVec 32 := Scalar.addi v882 c0_i32_664
  let v1368 : Index := Scalar.indexCast v1367
  ![22, v1368.toNat]
def k0_off64 (i : grid0.Coords) (c0_i32_676 : BitVec 32) : Fin 2 → Nat :=
  let c23_677 : Index := 23#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1389 : BitVec 32 := Scalar.addi v882 c0_i32_676
  let v1390 : Index := Scalar.indexCast v1389
  ![23, v1390.toNat]
def k0_off65 (i : grid0.Coords) (c0_i32_688 : BitVec 32) : Fin 2 → Nat :=
  let c24_689 : Index := 24#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1411 : BitVec 32 := Scalar.addi v882 c0_i32_688
  let v1412 : Index := Scalar.indexCast v1411
  ![24, v1412.toNat]
def k0_off66 (i : grid0.Coords) (c0_i32_700 : BitVec 32) : Fin 2 → Nat :=
  let c25_701 : Index := 25#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1433 : BitVec 32 := Scalar.addi v882 c0_i32_700
  let v1434 : Index := Scalar.indexCast v1433
  ![25, v1434.toNat]
def k0_off67 (i : grid0.Coords) (c0_i32_712 : BitVec 32) : Fin 2 → Nat :=
  let c26_713 : Index := 26#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1455 : BitVec 32 := Scalar.addi v882 c0_i32_712
  let v1456 : Index := Scalar.indexCast v1455
  ![26, v1456.toNat]
def k0_off68 (i : grid0.Coords) (c0_i32_724 : BitVec 32) : Fin 2 → Nat :=
  let c27_725 : Index := 27#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1477 : BitVec 32 := Scalar.addi v882 c0_i32_724
  let v1478 : Index := Scalar.indexCast v1477
  ![27, v1478.toNat]
def k0_off69 (i : grid0.Coords) (c0_i32_736 : BitVec 32) : Fin 2 → Nat :=
  let c28_737 : Index := 28#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1499 : BitVec 32 := Scalar.addi v882 c0_i32_736
  let v1500 : Index := Scalar.indexCast v1499
  ![28, v1500.toNat]
def k0_off70 (i : grid0.Coords) (c0_i32_748 : BitVec 32) : Fin 2 → Nat :=
  let c29_749 : Index := 29#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1521 : BitVec 32 := Scalar.addi v882 c0_i32_748
  let v1522 : Index := Scalar.indexCast v1521
  ![29, v1522.toNat]
def k0_off71 (i : grid0.Coords) (c0_i32_760 : BitVec 32) : Fin 2 → Nat :=
  let c30_761 : Index := 30#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1543 : BitVec 32 := Scalar.addi v882 c0_i32_760
  let v1544 : Index := Scalar.indexCast v1543
  ![30, v1544.toNat]
def k0_off72 (i : grid0.Coords) (c0_i32_772 : BitVec 32) : Fin 2 → Nat :=
  let c31_773 : Index := 31#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1565 : BitVec 32 := Scalar.addi v882 c0_i32_772
  let v1566 : Index := Scalar.indexCast v1565
  ![31, v1566.toNat]
def k0_off73 (i : grid0.Coords) (c0_i32_784 : BitVec 32) : Fin 2 → Nat :=
  let c32_785 : Index := 32#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1587 : BitVec 32 := Scalar.addi v882 c0_i32_784
  let v1588 : Index := Scalar.indexCast v1587
  ![32, v1588.toNat]
def k0_off74 (i : grid0.Coords) (c0_i32_796 : BitVec 32) : Fin 2 → Nat :=
  let c33_797 : Index := 33#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1609 : BitVec 32 := Scalar.addi v882 c0_i32_796
  let v1610 : Index := Scalar.indexCast v1609
  ![33, v1610.toNat]
def k0_off75 (i : grid0.Coords) (c0_i32_808 : BitVec 32) : Fin 2 → Nat :=
  let c34_809 : Index := 34#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1631 : BitVec 32 := Scalar.addi v882 c0_i32_808
  let v1632 : Index := Scalar.indexCast v1631
  ![34, v1632.toNat]
def k0_off76 (i : grid0.Coords) (c0_i32_820 : BitVec 32) : Fin 2 → Nat :=
  let c35_821 : Index := 35#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1653 : BitVec 32 := Scalar.addi v882 c0_i32_820
  let v1654 : Index := Scalar.indexCast v1653
  ![35, v1654.toNat]
def k0_off77 (i : grid0.Coords) (c0_i32_832 : BitVec 32) : Fin 2 → Nat :=
  let c36_833 : Index := 36#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1675 : BitVec 32 := Scalar.addi v882 c0_i32_832
  let v1676 : Index := Scalar.indexCast v1675
  ![36, v1676.toNat]
def k0_off78 (i : grid0.Coords) (c0_i32_844 : BitVec 32) : Fin 2 → Nat :=
  let c37_845 : Index := 37#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1697 : BitVec 32 := Scalar.addi v882 c0_i32_844
  let v1698 : Index := Scalar.indexCast v1697
  ![37, v1698.toNat]
def k0_off79 (i : grid0.Coords) (c0_i32_856 : BitVec 32) : Fin 2 → Nat :=
  let c38_857 : Index := 38#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1719 : BitVec 32 := Scalar.addi v882 c0_i32_856
  let v1720 : Index := Scalar.indexCast v1719
  ![38, v1720.toNat]
def k0_off80 (i : grid0.Coords) (c0_i32_868 : BitVec 32) : Fin 2 → Nat :=
  let c39_869 : Index := 39#32
  let c50_i32 : BitVec 32 := 50#32
  let arg1 : BitVec 32 := BitVec.ofNat 32 (i 1).val
  let c2_i32_399 : BitVec 32 := 2#32
  let v881 : BitVec 32 := Scalar.muli arg1 c2_i32_399
  let v882 : BitVec 32 := Scalar.addi c50_i32 v881
  let v1741 : BitVec 32 := Scalar.addi v882 c0_i32_868
  let v1742 : Index := Scalar.indexCast v1741
  ![39, v1742.toNat]
def k0_cond1 (i : grid0.Coords) : BitVec 1 :=
  let arg1 : BitVec 32 := BitVec.ofNat 32 (i 1).val
  let c24_i32 : BitVec 32 := 24#32
  let v5296 : BitVec 1 := Scalar.cmpi .eq arg1 c24_i32
  let v5297 : BitVec 32 := Scalar.extui v5296
  let c0_i32_2152 : BitVec 32 := 0#32
  let v5298 : BitVec 1 := Scalar.cmpi .ne v5297 c0_i32_2152
  v5298

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S40x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5120x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S50x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateUpReferenceIdeal.lean ====
abbrev S40x100 : Shape := ⟨2, ![40, 100]⟩
abbrev S16384x5120 : Shape := ⟨2, ![16384, 5120]⟩
abbrev S5120x12800 : Shape := ⟨2, ![5120, 12800]⟩
abbrev S16384x6400 : Shape := ⟨2, ![16384, 6400]⟩
abbrev S50x16384 : Shape := ⟨2, ![50, 16384]⟩
abbrev S40x128x100x128 : Shape := ⟨4, ![40, 128, 100, 128]⟩
abbrev S40x1x100x1 : Shape := ⟨4, ![40, 1, 100, 1]⟩
abbrev S16384x12800 : Shape := ⟨2, ![16384, 12800]⟩
abbrev S16384x50x128 : Shape := ⟨3, ![16384, 50, 128]⟩
abbrev S16384x50 : Shape := ⟨2, ![16384, 50]⟩
abbrev S16384x50x1 : Shape := ⟨3, ![16384, 50, 1]⟩

abbrev nBuf : Space → Nat
  | .hbm => 6
  | .vmem => 6
  | .smem => 0
  | _ => 0

abbrev bufTy : (tb : Table) → Fin (tcTables nBuf tb) → BufTy
  | .hbm, ⟨0, _⟩ => ⟨S40x100, .f32⟩
  | .hbm, ⟨1, _⟩ => ⟨S16384x5120, .bf16⟩
  | .hbm, ⟨2, _⟩ => ⟨S5120x12800, .fp8e4m3⟩
  | .hbm, ⟨3, _⟩ => ⟨S16384x6400, .fp8e4m3⟩
  | .hbm, ⟨4, _⟩ => ⟨S50x16384, .f32⟩
  | .hbm, ⟨5, _⟩ => ⟨S16384x6400, .bf16⟩
  | .local _ .vmem, ⟨0, _⟩ => ⟨S40x100, .f32⟩
  | .local _ .vmem, ⟨1, _⟩ => ⟨S16384x5120, .bf16⟩
  | .local _ .vmem, ⟨2, _⟩ => ⟨S5120x12800, .fp8e4m3⟩
  | .local _ .vmem, ⟨3, _⟩ => ⟨S16384x6400, .fp8e4m3⟩
  | .local _ .vmem, ⟨4, _⟩ => ⟨S50x16384, .f32⟩
  | .local _ .vmem, ⟨5, _⟩ => ⟨S16384x6400, .bf16⟩
  | _, _ => ⟨S40x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S40x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x12800 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x6400 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S50x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x6400 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DownWide.lean ====
/- The weight scratch of the down kernel at one grid point: after its 200 stores the buffer holds the staged weight
   block, each 128 x 128 tile multiplied by its own scale. -/
module

public import proofs.«01_k».proof.Proof.Gen.DownIdeal.Value
public import Idealize.ShloMosaic.Lib.Pointwise
public import Idealize.ShloMosaic.Lib.WholeRead
public import Idealize.ShloMosaic.Lib.Pipeline.ReadBack
public import Idealize.ShloMosaic.Lib.Pipeline.ValueKit.Tiles

@[expose] public section

set_option maxRecDepth 16384

noncomputable section

namespace Cert.Proof.DownWide

open Cert.DownIdeal Cert.DownIdeal.Gen Idealize.ShloMosaic Idealize.ShloMosaic.TcCoe Idealize.SL.Sem

/-- The scale of weight tile (`k`, `n`) of the column block `j`. -/
def scaleAt (x0 : Vec Ideal S50x40 .f32) (j : Fin 10) (k n : ℕ) (hk : k < 50) (hn : n < 4) : EReal :=
  x0 (ix2 (⟨k, hk⟩ : Fin 50) (⟨4 * j.val + n, by omega⟩ : Fin 40))

/-- The widened weight block: code times the scale of its tile. -/
def wide (x0 : Vec Ideal S50x40 .f32) (x3 : Vec Ideal S6400x512 .fp8e4m3) (j : Fin 10) (y : S6400x512.Idx) : EReal :=
  x3 y * scaleAt x0 j ((y 0).val / 128) ((y 1).val / 128)
    (by have h : (y 0).val < 6400 := (y 0).isLt; omega) (by have h : (y 1).val < 512 := (y 1).isLt; omega)

/-- The scale's column as the body computes it, a 32-bit word, is `4 j + n`. -/
theorem col_val (i : grid0.Coords) (n : BitVec 32) (hn : n.toNat < 4) :
    (Scalar.indexCast (Scalar.addi (Scalar.muli (BitVec.ofNat 32 (i 1).val) 4#32) n)).toNat = 4 * (i 1).val + n.toNat := by
  have h : (i 1).val < 10 := (i 1).isLt
  show (BitVec.ofNat 32 (i 1).val * 4#32 + n).toNat = _
  rw [BitVec.toNat_add, BitVec.toNat_mul, BitVec.toNat_ofNat, BitVec.toNat_ofNat]
  omega

/-- One store of the widening: the tile at row `128 k` and column `128 n` of the scratch receives that tile of `wide`. -/
theorem piece (i : grid0.Coords) (arg2 : Memref sig .tc .smem S50x40 .f32) (harg2 : arg2.IsWhole)
    (arg5 : Memref sig .tc .vmem S6400x512 .fp8e4m3) (harg5 : arg5.IsWhole)
    (x0 : Vec Ideal S50x40 .f32) (x3 : Vec Ideal S6400x512 .fp8e4m3) (k : ℕ) (n : BitVec 32) (hk : k < 50) (hn : n.toNat < 4)
    (inb) (inb') (h0) (z : S128x128.Idx) :
    shapeCast S128x128 (truncf (F := Ideal) .bf16 (mulf
        (extf .f32 (View.readAt (Elt Ideal) arg5.view (Rect.unit (s := S6400x512) ![128 * k, 128 * n.toNat] S128x128.size inb).toLoadRect (harg5.unread x3)) bitsLt_fp8e4m3_f32)
        (broadcast S128x128 (View.readAt (Elt Ideal) arg2.view (Rect.unit (s := S50x40) ![k, (Scalar.indexCast (Scalar.addi (Scalar.muli (BitVec.ofNat 32 (i 1).val) 4#32) n)).toNat] S1x1.size inb').toLoadRect (harg2.unread x0) (Shape.Idx.first h0))))
        bitsLt_bf16_f32) shapeCasts_S128x128_S128x128 z
      = wide x0 x3 (i 1) ((Rect.unit (s := S6400x512) ![128 * k, 128 * n.toNat] S128x128.size inb).emb z) := by
  have hz0 : (z 0).val < 128 := (z 0).isLt
  have hz1 : (z 1).val < 128 := (z 1).isLt
  pointwise
  rw [Memref.IsWhole.readAt_unread, Memref.IsWhole.readAt_unread]
  unfold wide scaleAt
  refine congrArg₂ (· * ·) rfl (congrArg x0 (funext fun a => Fin.ext ?_))
  match a with
  | ⟨0, _⟩ =>
    show k + 1 * 0 = (128 * k + 1 * (z 0).val) / 128
    omega
  | ⟨1, _⟩ =>
    show (Scalar.indexCast (Scalar.addi (Scalar.muli (BitVec.ofNat 32 (i 1).val) 4#32) n)).toNat + 1 * 0 = 4 * (i 1).val + (128 * n.toNat + 1 * (z 1).val) / 128
    rw [col_val i n hn]; omega

set_option maxHeartbeats 4000000 in
/-- Every store of the widening leaves its tile of `wide`. -/
theorem pieces (c : Dev nD) (i : grid0.Coords) (arg2 : Memref sig .tc .smem S50x40 .f32) (harg2 : arg2.IsWhole)
    (arg5 : Memref sig .tc .vmem S6400x512 .fp8e4m3) (harg5 : arg5.IsWhole)
    (x0 : Vec Ideal S50x40 .f32) (x3 : Vec Ideal S6400x512 .fp8e4m3) :
    View.PiecesOf (wide x0 x3 (i 1)) (kernelRun0_A.sl.HS0_200 (F := Ideal) c i arg2 harg2 arg5 harg5 x0 x3) := by
  have P := piece i arg2 harg2 arg5 harg5 x0 x3
  unfold kernelRun0_A.sl.HS0_200
  refine ⟨P 49 3 (by decide) (by decide) _ _ _, ?_⟩; refine ⟨P 49 2 (by decide) (by decide) _ _ _, ?_⟩; refine ⟨P 49 1 (by decide) (by decide) _ _ _, ?_⟩; refine ⟨P 49 0 (by decide) (by decide) _ _ _, ?_⟩
  refine ⟨P 48 3 (by decide) (by decide) _ _ _, ?_⟩; refine ⟨P 48 2 (by decide) (by decide) _ _ _, ?_⟩; refine ⟨P 48 1 (by decide) (by decide) _ _ _, ?_⟩; refine ⟨P 48 0 (by decide) (by decide) _ _ _, ?_⟩
  refine ⟨P 47 3 (by decide) (by decide) _ _ _, ?_⟩; refine ⟨P 47 2 (by decide) (by decide) _ _ _, ?_⟩; refine ⟨P 47 1 (by decide) (by decide) _ _ _, ?_⟩; refine ⟨P 47 0 (by decide) (by decide) _ _ _, ?_⟩
  refine ⟨P 46 3 (by decide) (by decide) _ _ _, ?_⟩; refine ⟨P 46 2 (by decide) (by decide) _ _ _, ?_⟩; refine ⟨P 46 1 (by decide) (by decide) _ _ _, ?_⟩; refine ⟨P 46 0 (by decide) (by decide) _ _ _, ?_⟩
  refine ⟨P 45 3 (by decide) (by decide) _ _ _, ?_⟩; refine ⟨P 45 2 (by decide) (by decide) _ _ _, ?_⟩; refine ⟨P 45 1 (by decide) (by decide) _ _ _, ?_⟩; refine ⟨P 45 0 (by decide) (by decide) _ _ _, ?_⟩
  refine ⟨P 44 3 (by decide) (by decide) _ _ _, ?_⟩; refine ⟨P 44 2 (by decide) (by decide) _ _ _, ?_⟩; refine ⟨P 44 1 (by decide) (by decide) _ _ _, ?_⟩; refine ⟨P 44 0 (by decide) (by decide) _ _ _, ?_⟩
  refine ⟨P 43 3 (by decide) (by decide) _ _ _, ?_⟩; refine ⟨P 43 2 (by decide) (by decide) _ _ _, ?_⟩; refine ⟨P 43 1 (by decide) (by decide) _ _ _, ?_⟩; refine ⟨P 43 0 (by decide) (by decide) _ _ _, ?_⟩
  refine ⟨P 42 3 (by decide) (by decide) _ _ _, ?_⟩; refine ⟨P 42 2 (by decide) (by decide) _ _ _, ?_⟩; refine ⟨P 42 1 (by decide) (by decide) _ _ _, ?_⟩; refine ⟨P 42 0 (by decide) (by decide) _ _ _, ?_⟩
  refine ⟨P 41 3 (by decide) (by decide) _ _ _, ?_⟩; refine ⟨P 41 2 (by decide) (by decide) _ _ _, ?_⟩; refine ⟨P 41 1 (by decide) (by decide) _ _ _, ?_⟩; refine ⟨P 41 0 (by decide) (by decide) _ _ _, ?_⟩
  refine ⟨P 40 3 (by decide) (by decide) _ _ _, ?_⟩; refine ⟨P 40 2 (by decide) (by decide) _ _ _, ?_⟩; refine ⟨P 40 1 (by decide) (by decide) _ _ _, ?_⟩; refine ⟨P 40 0 (by decide) (by decide) _ _ _, ?_⟩
  refine ⟨P 39 3 (by decide) (by decide) _ _ _, ?_⟩; refine ⟨P 39 2 (by decide) (by decide) _ _ _, ?_⟩; refine ⟨P 39 1 (by decide) (by decide) _ _ _, ?_⟩; refine ⟨P 39 0 (by decide) (by decide) _ _ _, ?_⟩
  refine ⟨P 38 3 (by decide) (by decide) _ _ _, ?_⟩; refine ⟨P 38 2 (by decide) (by decide) _ _ _, ?_⟩; refine ⟨P 38 1 (by decide) (by decide) _ _ _, ?_⟩; refine ⟨P 38 0 (by decide) (by decide) _ _ _, ?_⟩
  refine ⟨P 37 3 (by decide) (by decide) _ _ _, ?_⟩; refine ⟨P 37 2 (by decide) (by decide) _ _ _, ?_⟩; refine ⟨P 37 1 (by decide) (by decide) _ _ _, ?_⟩; refine ⟨P 37 0 (by decide) (by decide) _ _ _, ?_⟩
  refine ⟨P 36 3 (by decide) (by decide) _ _ _, ?_⟩; refine ⟨P 36 2 (by decide) (by decide) _ _ _, ?_⟩; refine ⟨P 36 1 (by decide) (by decide) _ _ _, ?_⟩; refine ⟨P 36 0 (by decide) (by decide) _ _ _, ?_⟩
  refine ⟨P 35 3 (by decide) (by decide) _ _ _, ?_⟩; refine ⟨P 35 2 (by decide) (by decide) _ _ _, ?_⟩; refine ⟨P 35 1 (by decide) (by decide) _ _ _, ?_⟩; refine ⟨P 35 0 (by decide) (by decide) _ _ _, ?_⟩
  refine ⟨P 34 3 (by decide) (by decide) _ _ _, ?_⟩; refine ⟨P 34 2 (by decide) (by decide) _ _ _, ?_⟩; refine ⟨P 34 1 (by decide) (by decide) _ _ _, ?_⟩; refine ⟨P 34 0 (by decide) (by decide) _ _ _, ?_⟩
  refine ⟨P 33 3 (by decide) (by decide) _ _ _, ?_⟩; refine ⟨P 33 2 (by decide) (by decide) _ _ _, ?_⟩; refine ⟨P 33 1 (by decide) (by decide) _ _ _, ?_⟩; refine ⟨P 33 0 (by decide) (by decide) _ _ _, ?_⟩
  refine ⟨P 32 3 (by decide) (by decide) _ _ _, ?_⟩; refine ⟨P 32 2 (by decide) (by decide) _ _ _, ?_⟩; refine ⟨P 32 1 (by decide) (by decide) _ _ _, ?_⟩; refine ⟨P 32 0 (by decide) (by decide) _ _ _, ?_⟩
  refine ⟨P 31 3 (by decide) (by decide) _ _ _, ?_⟩; refine ⟨P 31 2 (by decide) (by decide) _ _ _, ?_⟩; refine ⟨P 31 1 (by decide) (by decide) _ _ _, ?_⟩; refine ⟨P 31 0 (by decide) (by decide) _ _ _, ?_⟩
  refine ⟨P 30 3 (by decide) (by decide) _ _ _, ?_⟩; refine ⟨P 30 2 (by decide) (by decide) _ _ _, ?_⟩; refine ⟨P 30 1 (by decide) (by decide) _ _ _, ?_⟩; refine ⟨P 30 0 (by decide) (by decide) _ _ _, ?_⟩
  refine ⟨P 29 3 (by decide) (by decide) _ _ _, ?_⟩; refine ⟨P 29 2 (by decide) (by decide) _ _ _, ?_⟩; refine ⟨P 29 1 (by decide) (by decide) _ _ _, ?_⟩; refine ⟨P 29 0 (by decide) (by decide) _ _ _, ?_⟩
  refine ⟨P 28 3 (by decide) (by decide) _ _ _, ?_⟩; refine ⟨P 28 2 (by decide) (by decide) _ _ _, ?_⟩; refine ⟨P 28 1 (by decide) (by decide) _ _ _, ?_⟩; refine ⟨P 28 0 (by decide) (by decide) _ _ _, ?_⟩
  refine ⟨P 27 3 (by decide) (by decide) _ _ _, ?_⟩; refine ⟨P 27 2 (by decide) (by decide) _ _ _, ?_⟩; refine ⟨P 27 1 (by decide) (by decide) _ _ _, ?_⟩; refine ⟨P 27 0 (by decide) (by decide) _ _ _, ?_⟩
  refine ⟨P 26 3 (by decide) (by decide) _ _ _, ?_⟩; refine ⟨P 26 2 (by decide) (by decide) _ _ _, ?_⟩; refine ⟨P 26 1 (by decide) (by decide) _ _ _, ?_⟩; refine ⟨P 26 0 (by decide) (by decide) _ _ _, ?_⟩
  refine ⟨P 25 3 (by decide) (by decide) _ _ _, ?_⟩; refine ⟨P 25 2 (by decide) (by decide) _ _ _, ?_⟩; refine ⟨P 25 1 (by decide) (by decide) _ _ _, ?_⟩; refine ⟨P 25 0 (by decide) (by decide) _ _ _, ?_⟩
  refine ⟨P 24 3 (by decide) (by decide) _ _ _, ?_⟩; refine ⟨P 24 2 (by decide) (by decide) _ _ _, ?_⟩; refine ⟨P 24 1 (by decide) (by decide) _ _ _, ?_⟩; refine ⟨P 24 0 (by decide) (by decide) _ _ _, ?_⟩
  refine ⟨P 23 3 (by decide) (by decide) _ _ _, ?_⟩; refine ⟨P 23 2 (by decide) (by decide) _ _ _, ?_⟩; refine ⟨P 23 1 (by decide) (by decide) _ _ _, ?_⟩; refine ⟨P 23 0 (by decide) (by decide) _ _ _, ?_⟩
  refine ⟨P 22 3 (by decide) (by decide) _ _ _, ?_⟩; refine ⟨P 22 2 (by decide) (by decide) _ _ _, ?_⟩; refine ⟨P 22 1 (by decide) (by decide) _ _ _, ?_⟩; refine ⟨P 22 0 (by decide) (by decide) _ _ _, ?_⟩
  refine ⟨P 21 3 (by decide) (by decide) _ _ _, ?_⟩; refine ⟨P 21 2 (by decide) (by decide) _ _ _, ?_⟩; refine ⟨P 21 1 (by decide) (by decide) _ _ _, ?_⟩; refine ⟨P 21 0 (by decide) (by decide) _ _ _, ?_⟩
  refine ⟨P 20 3 (by decide) (by decide) _ _ _, ?_⟩; refine ⟨P 20 2 (by decide) (by decide) _ _ _, ?_⟩; refine ⟨P 20 1 (by decide) (by decide) _ _ _, ?_⟩; refine ⟨P 20 0 (by decide) (by decide) _ _ _, ?_⟩
  refine ⟨P 19 3 (by decide) (by decide) _ _ _, ?_⟩; refine ⟨P 19 2 (by decide) (by decide) _ _ _, ?_⟩; refine ⟨P 19 1 (by decide) (by decide) _ _ _, ?_⟩; refine ⟨P 19 0 (by decide) (by decide) _ _ _, ?_⟩
  refine ⟨P 18 3 (by decide) (by decide) _ _ _, ?_⟩; refine ⟨P 18 2 (by decide) (by decide) _ _ _, ?_⟩; refine ⟨P 18 1 (by decide) (by decide) _ _ _, ?_⟩; refine ⟨P 18 0 (by decide) (by decide) _ _ _, ?_⟩
  refine ⟨P 17 3 (by decide) (by decide) _ _ _, ?_⟩; refine ⟨P 17 2 (by decide) (by decide) _ _ _, ?_⟩; refine ⟨P 17 1 (by decide) (by decide) _ _ _, ?_⟩; refine ⟨P 17 0 (by decide) (by decide) _ _ _, ?_⟩
  refine ⟨P 16 3 (by decide) (by decide) _ _ _, ?_⟩; refine ⟨P 16 2 (by decide) (by decide) _ _ _, ?_⟩; refine ⟨P 16 1 (by decide) (by decide) _ _ _, ?_⟩; refine ⟨P 16 0 (by decide) (by decide) _ _ _, ?_⟩
  refine ⟨P 15 3 (by decide) (by decide) _ _ _, ?_⟩; refine ⟨P 15 2 (by decide) (by decide) _ _ _, ?_⟩; refine ⟨P 15 1 (by decide) (by decide) _ _ _, ?_⟩; refine ⟨P 15 0 (by decide) (by decide) _ _ _, ?_⟩
  refine ⟨P 14 3 (by decide) (by decide) _ _ _, ?_⟩; refine ⟨P 14 2 (by decide) (by decide) _ _ _, ?_⟩; refine ⟨P 14 1 (by decide) (by decide) _ _ _, ?_⟩; refine ⟨P 14 0 (by decide) (by decide) _ _ _, ?_⟩
  refine ⟨P 13 3 (by decide) (by decide) _ _ _, ?_⟩; refine ⟨P 13 2 (by decide) (by decide) _ _ _, ?_⟩; refine ⟨P 13 1 (by decide) (by decide) _ _ _, ?_⟩; refine ⟨P 13 0 (by decide) (by decide) _ _ _, ?_⟩
  refine ⟨P 12 3 (by decide) (by decide) _ _ _, ?_⟩; refine ⟨P 12 2 (by decide) (by decide) _ _ _, ?_⟩; refine ⟨P 12 1 (by decide) (by decide) _ _ _, ?_⟩; refine ⟨P 12 0 (by decide) (by decide) _ _ _, ?_⟩
  refine ⟨P 11 3 (by decide) (by decide) _ _ _, ?_⟩; refine ⟨P 11 2 (by decide) (by decide) _ _ _, ?_⟩; refine ⟨P 11 1 (by decide) (by decide) _ _ _, ?_⟩; refine ⟨P 11 0 (by decide) (by decide) _ _ _, ?_⟩
  refine ⟨P 10 3 (by decide) (by decide) _ _ _, ?_⟩; refine ⟨P 10 2 (by decide) (by decide) _ _ _, ?_⟩; refine ⟨P 10 1 (by decide) (by decide) _ _ _, ?_⟩; refine ⟨P 10 0 (by decide) (by decide) _ _ _, ?_⟩
  refine ⟨P 9 3 (by decide) (by decide) _ _ _, ?_⟩; refine ⟨P 9 2 (by decide) (by decide) _ _ _, ?_⟩; refine ⟨P 9 1 (by decide) (by decide) _ _ _, ?_⟩; refine ⟨P 9 0 (by decide) (by decide) _ _ _, ?_⟩
  refine ⟨P 8 3 (by decide) (by decide) _ _ _, ?_⟩; refine ⟨P 8 2 (by decide) (by decide) _ _ _, ?_⟩; refine ⟨P 8 1 (by decide) (by decide) _ _ _, ?_⟩; refine ⟨P 8 0 (by decide) (by decide) _ _ _, ?_⟩
  refine ⟨P 7 3 (by decide) (by decide) _ _ _, ?_⟩; refine ⟨P 7 2 (by decide) (by decide) _ _ _, ?_⟩; refine ⟨P 7 1 (by decide) (by decide) _ _ _, ?_⟩; refine ⟨P 7 0 (by decide) (by decide) _ _ _, ?_⟩
  refine ⟨P 6 3 (by decide) (by decide) _ _ _, ?_⟩; refine ⟨P 6 2 (by decide) (by decide) _ _ _, ?_⟩; refine ⟨P 6 1 (by decide) (by decide) _ _ _, ?_⟩; refine ⟨P 6 0 (by decide) (by decide) _ _ _, ?_⟩
  refine ⟨P 5 3 (by decide) (by decide) _ _ _, ?_⟩; refine ⟨P 5 2 (by decide) (by decide) _ _ _, ?_⟩; refine ⟨P 5 1 (by decide) (by decide) _ _ _, ?_⟩; refine ⟨P 5 0 (by decide) (by decide) _ _ _, ?_⟩
  refine ⟨P 4 3 (by decide) (by decide) _ _ _, ?_⟩; refine ⟨P 4 2 (by decide) (by decide) _ _ _, ?_⟩; refine ⟨P 4 1 (by decide) (by decide) _ _ _, ?_⟩; refine ⟨P 4 0 (by decide) (by decide) _ _ _, ?_⟩
  refine ⟨P 3 3 (by decide) (by decide) _ _ _, ?_⟩; refine ⟨P 3 2 (by decide) (by decide) _ _ _, ?_⟩; refine ⟨P 3 1 (by decide) (by decide) _ _ _, ?_⟩; refine ⟨P 3 0 (by decide) (by decide) _ _ _, ?_⟩
  refine ⟨P 2 3 (by decide) (by decide) _ _ _, ?_⟩; refine ⟨P 2 2 (by decide) (by decide) _ _ _, ?_⟩; refine ⟨P 2 1 (by decide) (by decide) _ _ _, ?_⟩; refine ⟨P 2 0 (by decide) (by decide) _ _ _, ?_⟩
  refine ⟨P 1 3 (by decide) (by decide) _ _ _, ?_⟩; refine ⟨P 1 2 (by decide) (by decide) _ _ _, ?_⟩; refine ⟨P 1 1 (by decide) (by decide) _ _ _, ?_⟩; refine ⟨P 1 0 (by decide) (by decide) _ _ _, ?_⟩
  refine ⟨P 0 3 (by decide) (by decide) _ _ _, ?_⟩; refine ⟨P 0 2 (by decide) (by decide) _ _ _, ?_⟩; refine ⟨P 0 1 (by decide) (by decide) _ _ _, ?_⟩; refine ⟨P 0 0 (by decide) (by decide) _ _ _, ?_⟩
  trivial

/-- The whole scratch, loaded back, is `wide`. -/
theorem load (c : Dev nD) (i : grid0.Coords) (arg2 : Memref sig .tc .smem S50x40 .f32) (harg2 : arg2.IsWhole)
    (arg5 : Memref sig .tc .vmem S6400x512 .fp8e4m3) (harg5 : arg5.IsWhole) (arg7 : Memref sig .tc .vmem S6400x512 .bf16)
    (x0 : Vec Ideal S50x40 .f32) (x3 : Vec Ideal S6400x512 .fp8e4m3) :
    kernelRun0_A.sl.v2202 (F := Ideal) c i arg2 harg2 arg5 harg5 arg7 x0 x3 = wide x0 x3 (i 1) := by
  unfold kernelRun0_A.sl.v2202
  rw [View.readCov_eq_canon']
  funext (j : S6400x512.Idx)
  have hj : (Rect.unit (s := S6400x512) ![0, 0] S6400x512.size inb_S6400x512_S6400x512_0_0).toLoadRect.idx j = j := by
    funext a; apply Fin.ext
    match a with
    | ⟨0, _⟩ => show 0 + 1 * (j 0).val = (j 0).val; omega
    | ⟨1, _⟩ => show 0 + 1 * (j 1).val = (j 1).val; omega
  rw [hj]
  exact View.canon_apply_of_pieces _ _ (pieces c i arg2 harg2 arg5 harg5 x0 x3).mem j
    (View.cover_of_tiledL (s := S6400x512) _ S128x128.size (by sl_kernel_rfl) j)

/-- The same for the load of the last row block. -/
theorem load' (c : Dev nD) (i : grid0.Coords) (arg2 : Memref sig .tc .smem S50x40 .f32) (harg2 : arg2.IsWhole)
    (arg5 : Memref sig .tc .vmem S6400x512 .fp8e4m3) (harg5 : arg5.IsWhole) (arg7 : Memref sig .tc .vmem S6400x512 .bf16)
    (x0 : Vec Ideal S50x40 .f32) (x3 : Vec Ideal S6400x512 .fp8e4m3) :
    kernelRun0_A.sl.v2223 (F := Ideal) c i arg2 harg2 arg5 harg5 arg7 x0 x3 = wide x0 x3 (i 1) :=
  load c i arg2 harg2 arg5 harg5 arg7 x0 x3

end Cert.Proof.DownWide

end
-- ==== Proof.DownBlock.lean ====
/- What one grid point of the down kernel writes back: the formula of the down projection on its block. -/
module

public import proofs.«01_k».proof.Proof.DownWide

@[expose] public section

set_option maxRecDepth 16384

noncomputable section

namespace Cert.Proof.DownBlock

open Cert.DownIdeal Cert.DownIdeal.Gen Idealize.ShloMosaic Idealize.ShloMosaic.TcCoe Idealize.SL.Sem
open Cert.Proof.DownWide

/-- The block's formula: residual plus product with the widened weights. -/
def block (x0 : Vec Ideal S50x40 .f32) (x1 : Vec Ideal S1024x6400 .bf16) (x2 : Vec Ideal S1024x512 .f32)
    (x3 : Vec Ideal S6400x512 .fp8e4m3) (j : Fin 10) (y : S1024x512.Idx) : EReal :=
  x2 y + ∑ k : Fin 6400, x1 (ix2 (y 0) k) * wide x0 x3 j (ix2 k (y 1))

/-- One store of 256 rows is its rows of the block's formula. -/
theorem rows (x0 : Vec Ideal S50x40 .f32) (x1 : Vec Ideal S1024x6400 .bf16) (x2 : Vec Ideal S1024x512 .f32)
    (x3 : Vec Ideal S6400x512 .fp8e4m3) (j : Fin 10)
    (arg3 : Memref sig .tc .vmem S1024x6400 .bf16) (harg3 : arg3.IsWhole) (arg4 : Memref sig .tc .vmem S1024x512 .f32) (harg4 : arg4.IsWhole)
    (W : Vec Ideal S6400x512 .bf16) (hW : W = wide x0 x3 j) (o : ℕ) (inb1) (inb2) (z : S256x512.Idx) :
    k0_pay222 (F := Ideal) (View.readAt (Elt Ideal) arg3.view (Rect.unit (s := S1024x6400) ![o, 0] S256x6400.size inb1).toLoadRect (harg3.unread x1)) W
        (View.readAt (Elt Ideal) arg4.view (Rect.unit (s := S1024x512) ![o, 0] S256x512.size inb2).toLoadRect (harg4.unread x2)) z
      = block x0 x1 x2 x3 j ((Rect.unit (s := S1024x512) ![o, 0] S256x512.size inb2).emb z) := by
  subst hW
  idx_vars z
  pointwise [k0_pay222]
  unfold block
  rw [Memref.IsWhole.readAt_unread]
  refine congrArg₂ (· + ·) rfl (Finset.sum_congr rfl fun k _ => ?_)
  rw [Memref.IsWhole.readAt_unread]
  refine congrArg₂ (· * ·) (congrArg x1 (funext fun a => Fin.ext ?_)) (congrArg (wide x0 x3 j) (funext fun a => Fin.ext ?_))
  · match a with
    | ⟨0, _⟩ => rfl
    | ⟨1, _⟩ => show 0 + 1 * k.val = k.val; omega
  · match a with
    | ⟨0, _⟩ => rfl
    | ⟨1, _⟩ => show z1.val = 0 + 1 * z1.val; omega

/-- The output block a grid point leaves is the block's formula. -/
theorem out_eq (c : Dev nD) (i : grid0.Coords) (arg2 : Memref sig .tc .smem S50x40 .f32) (harg2 : arg2.IsWhole) (arg3 : Memref sig .tc .vmem S1024x6400 .bf16) (harg3 : arg3.IsWhole) (arg4 : Memref sig .tc .vmem S1024x512 .f32) (harg4 : arg4.IsWhole) (arg5 : Memref sig .tc .vmem S6400x512 .fp8e4m3) (harg5 : arg5.IsWhole) (arg6 : Memref sig .tc .vmem S1024x512 .bf16) (harg6 : arg6.IsWhole) (arg7 : Memref sig .tc .vmem S6400x512 .bf16) (harg7 : arg7.IsWhole)
    (x0 : Vec Ideal S50x40 .f32) (x1 : Vec Ideal S1024x6400 .bf16) (x2 : Vec Ideal S1024x512 .f32) (x3 : Vec Ideal S6400x512 .fp8e4m3) :
    out0_A_4 (F := Ideal) c i arg2 harg2 arg3 harg3 arg4 harg4 arg5 harg5 arg6 harg6 arg7 harg7 x0 x1 x2 x3 = block x0 x1 x2 x3 (i 1) := by
  unfold out0_A_4
  rw [View.read_writes_junk_eq_canon]
  funext (y : S1024x512.Idx)
  have P := rows x0 x1 x2 x3 (i 1) arg3 harg3 arg4 harg4
  have hW := load c i arg2 harg2 arg5 harg5 arg7 x0 x3
  have hW' := load' c i arg2 harg2 arg5 harg5 arg7 x0 x3
  have hP : View.PiecesOf (Val := Elt Ideal) (e := .bf16) (block x0 x1 x2 x3 (i 1)) (kernelRun0_A (F := Ideal) c i arg2 harg2 arg3 harg3 arg4 harg4 arg5 harg5 arg6 harg6 arg7 harg7 x0 x1 x2 x3).1 :=
    ⟨P _ hW' 768 _ _, P _ hW 512 _ _, P _ hW 256 _ _, P _ hW 0 _ _, trivial⟩
  exact View.canon_apply_of_pieces (block x0 x1 x2 x3 (i 1)) _ hP.mem y
    (cover0_A_4 c i arg2 harg2 arg3 harg3 arg4 harg4 arg5 harg5 arg6 harg6 arg7 harg7 x0 x1 x2 x3 y)

end Cert.Proof.DownBlock

end
-- ==== Proof.DownRef.lean ====
/- The down projection as one formula, and the reference's result read as that formula. -/
module

public import proofs.«01_k».proof.Proof.Gen.DownReferenceIdeal.Value
public import Idealize.ShloMosaic.Lib.Pointwise

@[expose] public section

set_option maxRecDepth 16384

noncomputable section

namespace Cert.Proof.DownRef

open Idealize.ShloMosaic Idealize.ShloMosaic.TcCoe Idealize.SL.Sem
open Cert.DownReferenceIdeal Cert.DownReferenceIdeal.Gen

/-- The residual plus the product of the activations with the widened weights. -/
def spec (a0 : Vec Ideal S50x40 .f32) (a1 : Vec Ideal S16384x6400 .bf16) (a2 : Vec Ideal S16384x5120 .f32)
    (a3 : Vec Ideal S6400x5120 .fp8e4m3) (j : S16384x5120.Idx) : EReal :=
  a2 j + ∑ k : Fin 6400, a1 (ix2 (j 0) k) *
    (a3 (ix2 k (j 1)) * a0 (ix2 (⟨k.val / 128, by omega⟩ : Fin 50) (⟨(j 1).val / 128, by have h : (j 1).val < 5120 := (j 1).isLt; omega⟩ : Fin 40)))

/-- The reference's array is `spec` of its arguments. -/
theorem ref_eq (a0 : Vec Ideal S50x40 .f32) (a1 : Vec Ideal S16384x6400 .bf16) (a2 : Vec Ideal S16384x5120 .f32)
    (a3 : Vec Ideal S6400x5120 .fp8e4m3) :
    Cert.DownReferenceIdeal.Value.G4 (F := Ideal) a0 a1 a2 a3 = spec a0 a1 a2 a3 := by
  funext j
  idx_vars j
  unfold Cert.DownReferenceIdeal.Value.G4 spec
  pointwise [k0_pay1]

end Cert.Proof.DownRef

end
-- ==== Proof.DownValue.lean ====
/- The down kernel's result array after the run, and the claim that it is the reference's. -/
module

public import proofs.«01_k».proof.Defs
public import proofs.«01_k».proof.Proof.DownBlock
public import proofs.«01_k».proof.Proof.DownRef
public import Idealize.ShloMosaic.Lib.Pipeline.ValueKit

@[expose] public section

set_option maxRecDepth 16384

noncomputable section

namespace Cert.Proof.DownValue

open Cert.DownIdeal Cert.DownIdeal.Gen Idealize.ShloMosaic Idealize.ShloMosaic.TcCoe Idealize.SL.Sem
open Cert.Proof.DownWide Cert.Proof.DownBlock

variable (m : (ℓ : Loc nD τ sig) → Buf (Elt Ideal) ℓ) (ρ : Dev nD → PrngReg)

/-- Which block each window stages at a grid point. -/
theorem idx : ∀ t : Fin cfg0.N, (win0_0.index t (0 : Fin 2) = 0 ∧ win0_0.index t (1 : Fin 2) = 0)
    ∧ (win0_1.index t (0 : Fin 2) = t.val / 10 ∧ win0_1.index t (1 : Fin 2) = 0)
    ∧ (win0_2.index t (0 : Fin 2) = t.val / 10 ∧ win0_2.index t (1 : Fin 2) = t.val % 10)
    ∧ (win0_3.index t (0 : Fin 2) = 0 ∧ win0_3.index t (1 : Fin 2) = t.val % 10)
    ∧ (win0_4.index t (0 : Fin 2) = t.val / 10 ∧ win0_4.index t (1 : Fin 2) = t.val % 10)
    ∧ (grid0.coords t 1).val = t.val % 10 := by
  decide +kernel

/-- The array after the run is the down projection of the arguments. -/
theorem final (c : Dev nD) :
    (dats m 0 c).arrAt 4 cfg0.N = DownRef.spec (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  rw [after0_4]; unfold outsAt0; rw [out_eq]
  obtain ⟨⟨h00, h01⟩, ⟨h10, h11⟩, ⟨h20, h21⟩, ⟨h30, h31⟩, ⟨h40, h41⟩, hc⟩ := idx t
  have hy0 : (y 0).val < 1024 := (y 0).isLt
  have hy1 : (y 1).val < 512 := (y 1).isLt
  have ht : t.val < 160 := t.isLt
  blk_simp
  unfold block DownRef.spec wide scaleAt
  refine congrArg₂ (· + ·) ?_ (Finset.sum_congr rfl fun k _ => congrArg₂ (· * ·) ?_ (congrArg₂ (· * ·) ?_ ?_))
  · blk_ext [iblk, V, h20, h21, h40, h41]
  · blk_ext [iblk, V, h10, h11, h40, h41]
  · blk_ext [iblk, V, h30, h31, h40, h41]
  · blk_ext [iblk, V, h00, h01, h40, h41, hc]

/-- The down kernel and its reference compute the same array. -/
theorem algebraic : Cert.algebraic_DownIdeal_DownReferenceIdeal (hDownIdeal := Cert.DownIdeal.Gen.facts)
    (hDownReferenceIdeal := Cert.DownReferenceIdeal.Gen.facts) := by
  intro m g m' g' _ h
  refine ⟨fun c => (dats m 0 c).arrAt 4 cfg0.N, Value.run_blocks m g, ?_⟩
  refine (θ_run _ _ _).mono (fun r hr c => ?_) (Cert.DownReferenceIdeal.Value.run m' g')
  obtain ⟨h0, h1, h2, h3⟩ := h c
  refine ⟨(hr c).1.trans ?_, (hr c).2⟩
  beta_reduce
  rw [h0, h1, h2, h3]
  exact (DownRef.ref_eq _ _ _ _).trans (final m c).symm

end Cert.Proof.DownValue

end
-- ==== Proof.GuBRuns.lean ====
/- The staging buffers of the gate and up kernel by name, and its branch condition in closed form. -/
module

public import proofs.«01_k».proof.Proof.Gen.GateUp.Frame
public import proofs.«01_k».proof.Proof.Gen.GateUp.Skeleton
public import Idealize.ShloMosaic.Lib.Pipeline.Frame

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

/-- The body's one branch condition: this is the last column step of a row tile. -/
abbrev isLast (i : grid0.Coords) : Prop := k0_cond1 i = 1#1

/-- It holds at the points with remainder 24 modulo 25. -/
theorem hlast : ∀ t : Fin cfg0.N, isLast (grid0.coords t) ↔ t.val % 25 = 24 :=
  (fun t => by
    have ht : t.val < 400 := Nat.lt_of_lt_of_eq t.isLt N_0
    have e0 : (grid0.coords t 0).val = t.val / 25 % 16 := Pipeline.Grid.coords_val t 0 (by decide) rfl
    have e1 : (grid0.coords t 1).val = t.val / 1 % 25 := Pipeline.Grid.coords_val t 1 (by decide) rfl
    simp only [isLast, k0_cond1, e0, e1]
    word_cmp
   : ∀ t : Fin grid0.N, isLast (grid0.coords t) ↔ t.val % 25 = 24)

/-- Off the last step the scales' window is idle. -/
theorem idle5 : ∀ t : Fin cfg0.N, ¬isLast (grid0.coords t) → cfg0.idle 5 (grid0.coords t) = true := by decide +kernel
/-- Off the last step the scales' window is not written back. -/
theorem noFlush5 : ∀ t : Fin cfg0.N, ¬isLast (grid0.coords t) → (cfg0.win 5).flush t = false := by decide +kernel
/-- At the last step the scales' window is live. -/
theorem live5 : ∀ t : Fin cfg0.N, isLast (grid0.coords t) → cfg0.idle 5 (grid0.coords t) = false := by decide +kernel

/-- One staging buffer of output window 4, through which its contents are stated (`View.read_writes_of_cover`: the
    choice does not matter). -/
abbrev VO0_4 : View sig .tc .vmem S1024x256 .fp8e4m3 := (Memref.whole cc0_stg4_0 : Memref sig .tc .vmem S1024x256 .fp8e4m3).view
/-- One staging buffer of output window 5, through which its contents are stated (`View.read_writes_of_cover`: the
    choice does not matter). -/
abbrev VO0_5 : View sig .tc .vmem S50x1024 .f32 := (Memref.whole cc0_stg5_0 : Memref sig .tc .vmem S50x1024 .f32).view
/-- One staging buffer of output window 6, through which its contents are stated (`View.read_writes_of_cover`: the
    choice does not matter). -/
abbrev VO0_6 : View sig .tc .vmem S1024x256 .bf16 := (Memref.whole cc0_stg6_0 : Memref sig .tc .vmem S1024x256 .bf16).view
/-- Each window's current staging memref at point `t`, spelled as the pipeline passes it (`bodyAt0`), and its wholeness. -/
abbrev ms0_0 (t : Fin cfg0.N) : Memref sig .tc .smem S40x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S50x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x512 .bf16 := Memref.whole cc0_scratch0
abbrev scM0_1 : Memref sig .tc .vmem S1024x128 .f32 := Memref.whole cc0_scratch1
/-- The scratch `arg10` the kernel carries between points, as a view: what it holds is stated through it. -/
abbrev VS0_1 : View sig .tc .vmem S1024x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.GuB

end
-- ==== Proof.GuBRunMid.lean ====
/- The run of the gate and up body off the last column step. -/
module

public import proofs.«01_k».proof.Proof.GuBRuns

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

set_option maxHeartbeats 7760000 in
/-- Off the last step: what the body's stores leave in the codes' and the wide output and in the two scratches, as pieces (last first), with the proof that the body runs. The scales' output is handed back untouched; the scratch of the scales starts at `xs1`. -/
noncomputable def runMid (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i)
    (x0 : Vec F S40x100 .f32) (x1 : Vec F S1024x5120 .bf16) (x2 : Vec F S5120x256 .fp8e4m3) (x3 : Vec F S5120x256 .fp8e4m3) (xs1 : Vec F S1024x128 .f32) :
    Σ' (L4 : List (View.Piece (Elt F) S1024x256 .fp8e4m3)), Σ' (L5 : List (View.Piece (Elt F) S50x1024 .f32)), Σ' (L6 : List (View.Piece (Elt F) S1024x256 .bf16)), Σ' (LS1 : List (View.Piece (Elt F) S1024x128 .f32)), { LT0 : List (View.Piece (Elt F) S5120x512 .bf16) //
      ∀ (xi5 : Vec F S50x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0_gate_up_eq_skeleton]; unfold cc0_gate_up_skel
    simp only [k0_part133_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part134_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg10.eq_unread hfs1
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]; · iexists _; iexact HS0
    iexists _; iexact HS1

end Cert.Proof.GuB

end
-- ==== Proof.GuBRunEnd.lean ====
/- The run of the gate and up body at the last column step. -/
module

public import proofs.«01_k».proof.Proof.GuBRunMid

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

set_option maxHeartbeats 7760000 in
/-- At the last step: what the body's stores leave in the three outputs and in the two scratches, as pieces (last first), with the proof that the body runs. The scratch of the scales starts at `xs1`. -/
noncomputable def runEnd (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i)
    (x0 : Vec F S40x100 .f32) (x1 : Vec F S1024x5120 .bf16) (x2 : Vec F S5120x256 .fp8e4m3) (x3 : Vec F S5120x256 .fp8e4m3) (xs1 : Vec F S1024x128 .f32) :
    Σ' (L4 : List (View.Piece (Elt F) S1024x256 .fp8e4m3)), Σ' (L5 : List (View.Piece (Elt F) S50x1024 .f32)), Σ' (L6 : List (View.Piece (Elt F) S1024x256 .bf16)), Σ' (LS1 : List (View.Piece (Elt F) S1024x128 .f32)), { LT0 : List (View.Piece (Elt F) S5120x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_gate_up_eq_skeleton]; unfold cc0_gate_up_skel
    simp only [k0_part133_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part134_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg10.eq_unread hfs1
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.Proof.GuB

end
-- ==== Proof.GuBWide.lean ====
/- The weight scratch of the gate and up kernel at one grid point: after its 160 stores it holds the gate columns and the up
   columns of the staged weight, each 128 x 128 tile multiplied by its own scale. -/
module

public import proofs.«01_k».proof.Proof.GuBRunEnd
public import Idealize.ShloMosaic.Lib.Pointwise
public import Idealize.ShloMosaic.Lib.WholeRead
public import Idealize.ShloMosaic.Lib.Pipeline.ReadBack
public import Idealize.ShloMosaic.Lib.Pipeline.ValueKit.Tiles

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

/-- One element of the widened weight: code times scale, at the kernel's formats. -/
def widen (a : Elt F .fp8e4m3) (s : Elt F .f32) : Elt F .bf16 := k0_pay143 (F := F) s (fun _ => a) (ix2 (0 : Fin 128) (0 : Fin 128))

/-- The code a column of the weight scratch takes: the gate columns first, the up columns after them. -/
def codeAt (x2 x3 : Vec F S5120x256 .fp8e4m3) (y : S5120x512.Idx) : Elt F .fp8e4m3 :=
  if h : (y 1).val < 256 then x2 (ix2 (y 0) (⟨(y 1).val, h⟩ : Fin 256))
  else x3 (ix2 (y 0) (⟨(y 1).val - 256, by have h' : (y 1).val < 512 := (y 1).isLt; omega⟩ : Fin 256))

/-- The scale of the 128 x 128 tile around an entry of the weight scratch. -/
def scaleAt (x0 : Vec F S40x100 .f32) (j : Fin 25) (y : S5120x512.Idx) : Elt F .f32 :=
  x0 (ix2 (⟨(y 0).val / 128, by have h : (y 0).val < 5120 := (y 0).isLt; omega⟩ : Fin 40)
    (⟨2 * j.val + (if (y 1).val < 256 then (y 1).val / 128 else 48 + (y 1).val / 128),
      by have h : (y 1).val < 512 := (y 1).isLt; split <;> omega⟩ : Fin 100))

/-- The weight scratch after its stores. -/
def wide (x0 : Vec F S40x100 .f32) (x2 x3 : Vec F S5120x256 .fp8e4m3) (j : Fin 25) (y : S5120x512.Idx) : Elt F .bf16 :=
  widen (codeAt x2 x3 y) (scaleAt x0 j y)

/-- The column of a gate tile's scale, computed as a 32-bit word. -/
theorem gate_col (i : grid0.Coords) (n : BitVec 32) (hn : n.toNat < 2) :
    (Scalar.indexCast (Scalar.addi (Scalar.muli (BitVec.ofNat 32 (i 1).val) 2#32) n)).toNat = 2 * (i 1).val + n.toNat := by
  have h : (i 1).val < 25 := (i 1).isLt
  show (BitVec.ofNat 32 (i 1).val * 2#32 + n).toNat = _
  rw [BitVec.toNat_add, BitVec.toNat_mul, BitVec.toNat_ofNat, BitVec.toNat_ofNat]
  omega

/-- The column of an up tile's scale, computed as a 32-bit word. -/
theorem up_col (i : grid0.Coords) (n : BitVec 32) (hn : n.toNat < 2) :
    (Scalar.indexCast (Scalar.addi (Scalar.addi 50#32 (Scalar.muli (BitVec.ofNat 32 (i 1).val) 2#32)) n)).toNat = 50 + 2 * (i 1).val + n.toNat := by
  have h : (i 1).val < 25 := (i 1).isLt
  show (50#32 + BitVec.ofNat 32 (i 1).val * 2#32 + n).toNat = _
  rw [BitVec.toNat_add, BitVec.toNat_add, BitVec.toNat_mul, BitVec.toNat_ofNat, BitVec.toNat_ofNat, BitVec.toNat_ofNat]
  omega

/-- A widening store at one entry. -/
theorem pay_apply (s : Elt F .f32) (b : Vec F S128x128 .fp8e4m3) (z : S128x128.Idx) :
    shapeCast S128x128 (truncf (F := F) .bf16 (mulf (extf .f32 b bitsLt_fp8e4m3_f32) (broadcast S128x128 s)) bitsLt_bf16_f32) shapeCasts_S128x128_S128x128 z
      = widen (b z) s := by
  unfold widen
  pointwise [k0_pay143]

/-- One store of the gate columns. -/
theorem gate (i : grid0.Coords) (arg2 : Memref sig .tc .smem S40x100 .f32) (harg2 : arg2.IsWhole)
    (arg4 : Memref sig .tc .vmem S5120x256 .fp8e4m3) (harg4 : arg4.IsWhole)
    (x0 : Vec F S40x100 .f32) (x2 x3 : Vec F S5120x256 .fp8e4m3) (k : ℕ) (n : BitVec 32) (d0 d1 s1 : ℕ) (hk : k < 40) (hn : n.toNat < 2) (hd0 : d0 = 128 * k) (hd1 : d1 = 128 * n.toNat) (hs1 : s1 = 128 * n.toNat)
    (inbd) (inb) (inb') (h0) (z : S128x128.Idx) :
    shapeCast S128x128 (truncf (F := F) .bf16 (mulf
        (extf .f32 (View.readAt (Elt F) arg4.view (Rect.unit (s := S5120x256) ![d0, s1] S128x128.size inb).toLoadRect (harg4.unread x2)) bitsLt_fp8e4m3_f32)
        (broadcast S128x128 (View.readAt (Elt F) arg2.view (Rect.unit (s := S40x100) ![k, (Scalar.indexCast (Scalar.addi (Scalar.muli (BitVec.ofNat 32 (i 1).val) 2#32) n)).toNat] S1x1.size inb').toLoadRect (harg2.unread x0) (Shape.Idx.first h0))))
        bitsLt_bf16_f32) shapeCasts_S128x128_S128x128 z
      = wide x0 x2 x3 (i 1) ((Rect.unit (s := S5120x512) ![d0, d1] S128x128.size inbd).emb z) := by
  subst hd0 hd1 hs1
  have hz0 : (z 0).val < 128 := (z 0).isLt
  have hz1 : (z 1).val < 128 := (z 1).isLt
  have e1 : (((Rect.unit (s := S5120x512) ![128 * k, 128 * n.toNat] S128x128.size inbd).emb z) 1).val = 128 * n.toNat + 1 * (z 1).val := rfl
  have e0 : (((Rect.unit (s := S5120x512) ![128 * k, 128 * n.toNat] S128x128.size inbd).emb z) 0).val = 128 * k + 1 * (z 0).val := rfl
  rw [pay_apply, Memref.IsWhole.readAt_unread, Memref.IsWhole.readAt_unread]
  unfold wide
  refine congrArg₂ widen ?_ ?_
  · unfold codeAt
    rw [dif_pos (by rw [e1]; omega)]
    refine congrArg x2 (funext fun a => Fin.ext ?_)
    match a with
    | ⟨0, _⟩ => rfl
    | ⟨1, _⟩ => rfl
  · unfold scaleAt
    refine congrArg x0 (funext fun a => Fin.ext ?_)
    match a with
    | ⟨0, _⟩ => show k + 1 * 0 = (128 * k + 1 * (z 0).val) / 128; omega
    | ⟨1, _⟩ =>
      show (Scalar.indexCast (Scalar.addi (Scalar.muli (BitVec.ofNat 32 (i 1).val) 2#32) n)).toNat + 1 * 0
        = 2 * (i 1).val + (if (128 * n.toNat + 1 * (z 1).val) < 256 then (128 * n.toNat + 1 * (z 1).val) / 128 else 48 + (128 * n.toNat + 1 * (z 1).val) / 128)
      rw [gate_col i n hn, if_pos (by omega)]; omega

/-- One store of the up columns. -/
theorem up (i : grid0.Coords) (arg2 : Memref sig .tc .smem S40x100 .f32) (harg2 : arg2.IsWhole)
    (arg5 : Memref sig .tc .vmem S5120x256 .fp8e4m3) (harg5 : arg5.IsWhole)
    (x0 : Vec F S40x100 .f32) (x2 x3 : Vec F S5120x256 .fp8e4m3) (k : ℕ) (n : BitVec 32) (d0 d1 s1 : ℕ) (hk : k < 40) (hn : n.toNat < 2) (hd0 : d0 = 128 * k) (hd1 : d1 = 256 + 128 * n.toNat) (hs1 : s1 = 128 * n.toNat)
    (inbd) (inb) (inb') (h0) (z : S128x128.Idx) :
    shapeCast S128x128 (truncf (F := F) .bf16 (mulf
        (extf .f32 (View.readAt (Elt F) arg5.view (Rect.unit (s := S5120x256) ![d0, s1] S128x128.size inb).toLoadRect (harg5.unread x3)) bitsLt_fp8e4m3_f32)
        (broadcast S128x128 (View.readAt (Elt F) arg2.view (Rect.unit (s := S40x100) ![k, (Scalar.indexCast (Scalar.addi (Scalar.addi 50#32 (Scalar.muli (BitVec.ofNat 32 (i 1).val) 2#32)) n)).toNat] S1x1.size inb').toLoadRect (harg2.unread x0) (Shape.Idx.first h0))))
        bitsLt_bf16_f32) shapeCasts_S128x128_S128x128 z
      = wide x0 x2 x3 (i 1) ((Rect.unit (s := S5120x512) ![d0, d1] S128x128.size inbd).emb z) := by
  subst hd0 hd1 hs1
  have hz0 : (z 0).val < 128 := (z 0).isLt
  have hz1 : (z 1).val < 128 := (z 1).isLt
  have e1 : (((Rect.unit (s := S5120x512) ![128 * k, 256 + 128 * n.toNat] S128x128.size inbd).emb z) 1).val = 256 + 128 * n.toNat + 1 * (z 1).val := rfl
  rw [pay_apply, Memref.IsWhole.readAt_unread, Memref.IsWhole.readAt_unread]
  unfold wide
  refine congrArg₂ widen ?_ ?_
  · unfold codeAt
    rw [dif_neg (by rw [e1]; omega)]
    refine congrArg x3 (funext fun a => Fin.ext ?_)
    match a with
    | ⟨0, _⟩ => rfl
    | ⟨1, _⟩ => show 128 * n.toNat + 1 * (z 1).val = 256 + 128 * n.toNat + 1 * (z 1).val - 256; omega
  · unfold scaleAt
    refine congrArg x0 (funext fun a => Fin.ext ?_)
    match a with
    | ⟨0, _⟩ => show k + 1 * 0 = (128 * k + 1 * (z 0).val) / 128; omega
    | ⟨1, _⟩ =>
      show (Scalar.indexCast (Scalar.addi (Scalar.addi 50#32 (Scalar.muli (BitVec.ofNat 32 (i 1).val) 2#32)) n)).toNat + 1 * 0
        = 2 * (i 1).val + (if (256 + 128 * n.toNat + 1 * (z 1).val) < 256 then (256 + 128 * n.toNat + 1 * (z 1).val) / 128 else 48 + (256 + 128 * n.toNat + 1 * (z 1).val) / 128)
      rw [up_col i n hn, if_neg (by omega)]; omega

set_option maxHeartbeats 4000000 in
set_option pp.maxSteps 200 in
/-- Every store into the weight scratch leaves its tile of `wide`. -/
theorem pieces (c : Dev nD) (i : grid0.Coords) (arg2 : Memref sig .tc .smem S40x100 .f32) (harg2 : arg2.IsWhole)
    (arg4 : Memref sig .tc .vmem S5120x256 .fp8e4m3) (harg4 : arg4.IsWhole) (arg5 : Memref sig .tc .vmem S5120x256 .fp8e4m3) (harg5 : arg5.IsWhole)
    (x0 : Vec F S40x100 .f32) (x2 x3 : Vec F S5120x256 .fp8e4m3) :
    View.PiecesOf (wide x0 x2 x3 (i 1)) (runMid.sl.HS0_160 (F := F) c i arg2 harg2 arg4 harg4 arg5 harg5 x0 x2 x3) := by
  have P := gate i arg2 harg2 arg4 harg4 x0 x2 x3
  have Q := up i arg2 harg2 arg5 harg5 x0 x2 x3
  unfold runMid.sl.HS0_160
  refine ⟨Q 39 1#32 4992 384 128 (by decide) (by decide) rfl rfl rfl inb_S5120x512_S128x128_4992_384 _ _ _, ?_⟩; refine ⟨Q 39 0#32 4992 256 0 (by decide) (by decide) rfl rfl rfl inb_S5120x512_S128x128_4992_256 _ _ _, ?_⟩
  refine ⟨Q 38 1#32 4864 384 128 (by decide) (by decide) rfl rfl rfl inb_S5120x512_S128x128_4864_384 _ _ _, ?_⟩; refine ⟨Q 38 0#32 4864 256 0 (by decide) (by decide) rfl rfl rfl inb_S5120x512_S128x128_4864_256 _ _ _, ?_⟩
  refine ⟨Q 37 1#32 4736 384 128 (by decide) (by decide) rfl rfl rfl inb_S5120x512_S128x128_4736_384 _ _ _, ?_⟩; refine ⟨Q 37 0#32 4736 256 0 (by decide) (by decide) rfl rfl rfl inb_S5120x512_S128x128_4736_256 _ _ _, ?_⟩
  refine ⟨Q 36 1#32 4608 384 128 (by decide) (by decide) rfl rfl rfl inb_S5120x512_S128x128_4608_384 _ _ _, ?_⟩; refine ⟨Q 36 0#32 4608 256 0 (by decide) (by decide) rfl rfl rfl inb_S5120x512_S128x128_4608_256 _ _ _, ?_⟩
  refine ⟨Q 35 1#32 4480 384 128 (by decide) (by decide) rfl rfl rfl inb_S5120x512_S128x128_4480_384 _ _ _, ?_⟩; refine ⟨Q 35 0#32 4480 256 0 (by decide) (by decide) rfl rfl rfl inb_S5120x512_S128x128_4480_256 _ _ _, ?_⟩
  refine ⟨Q 34 1#32 4352 384 128 (by decide) (by decide) rfl rfl rfl inb_S5120x512_S128x128_4352_384 _ _ _, ?_⟩; refine ⟨Q 34 0#32 4352 256 0 (by decide) (by decide) rfl rfl rfl inb_S5120x512_S128x128_4352_256 _ _ _, ?_⟩
  refine ⟨Q 33 1#32 4224 384 128 (by decide) (by decide) rfl rfl rfl inb_S5120x512_S128x128_4224_384 _ _ _, ?_⟩; refine ⟨Q 33 0#32 4224 256 0 (by decide) (by decide) rfl rfl rfl inb_S5120x512_S128x128_4224_256 _ _ _, ?_⟩
  refine ⟨Q 32 1#32 4096 384 128 (by decide) (by decide) rfl rfl rfl inb_S5120x512_S128x128_4096_384 _ _ _, ?_⟩; refine ⟨Q 32 0#32 4096 256 0 (by decide) (by decide) rfl rfl rfl inb_S5120x512_S128x128_4096_256 _ _ _, ?_⟩
  refine ⟨Q 31 1#32 3968 384 128 (by decide) (by decide) rfl rfl rfl inb_S5120x512_S128x128_3968_384 _ _ _, ?_⟩; refine ⟨Q 31 0#32 3968 256 0 (by decide) (by decide) rfl rfl rfl inb_S5120x512_S128x128_3968_256 _ _ _, ?_⟩
  refine ⟨Q 30 1#32 3840 384 128 (by decide) (by decide) rfl rfl rfl inb_S5120x512_S128x128_3840_384 _ _ _, ?_⟩; refine ⟨Q 30 0#32 3840 256 0 (by decide) (by decide) rfl rfl rfl inb_S5120x512_S128x128_3840_256 _ _ _, ?_⟩
  refine ⟨Q 29 1#32 3712 384 128 (by decide) (by decide) rfl rfl rfl inb_S5120x512_S128x128_3712_384 _ _ _, ?_⟩; refine ⟨Q 29 0#32 3712 256 0 (by decide) (by decide) rfl rfl rfl inb_S5120x512_S128x128_3712_256 _ _ _, ?_⟩
  refine ⟨Q 28 1#32 3584 384 128 (by decide) (by decide) rfl rfl rfl inb_S5120x512_S128x128_3584_384 _ _ _, ?_⟩; refine ⟨Q 28 0#32 3584 256 0 (by decide) (by decide) rfl rfl rfl inb_S5120x512_S128x128_3584_256 _ _ _, ?_⟩
  refine ⟨Q 27 1#32 3456 384 128 (by decide) (by decide) rfl rfl rfl inb_S5120x512_S128x128_3456_384 _ _ _, ?_⟩; refine ⟨Q 27 0#32 3456 256 0 (by decide) (by decide) rfl rfl rfl inb_S5120x512_S128x128_3456_256 _ _ _, ?_⟩
  refine ⟨Q 26 1#32 3328 384 128 (by decide) (by decide) rfl rfl rfl inb_S5120x512_S128x128_3328_384 _ _ _, ?_⟩; refine ⟨Q 26 0#32 3328 256 0 (by decide) (by decide) rfl rfl rfl inb_S5120x512_S128x128_3328_256 _ _ _, ?_⟩
  refine ⟨Q 25 1#32 3200 384 128 (by decide) (by decide) rfl rfl rfl inb_S5120x512_S128x128_3200_384 _ _ _, ?_⟩; refine ⟨Q 25 0#32 3200 256 0 (by decide) (by decide) rfl rfl rfl inb_S5120x512_S128x128_3200_256 _ _ _, ?_⟩
  refine ⟨Q 24 1#32 3072 384 128 (by decide) (by decide) rfl rfl rfl inb_S5120x512_S128x128_3072_384 _ _ _, ?_⟩; refine ⟨Q 24 0#32 3072 256 0 (by decide) (by decide) rfl rfl rfl inb_S5120x512_S128x128_3072_256 _ _ _, ?_⟩
  refine ⟨Q 23 1#32 2944 384 128 (by decide) (by decide) rfl rfl rfl inb_S5120x512_S128x128_2944_384 _ _ _, ?_⟩; refine ⟨Q 23 0#32 2944 256 0 (by decide) (by decide) rfl rfl rfl inb_S5120x512_S128x128_2944_256 _ _ _, ?_⟩
  refine ⟨Q 22 1#32 2816 384 128 (by decide) (by decide) rfl rfl rfl inb_S5120x512_S128x128_2816_384 _ _ _, ?_⟩; refine ⟨Q 22 0#32 2816 256 0 (by decide) (by decide) rfl rfl rfl inb_S5120x512_S128x128_2816_256 _ _ _, ?_⟩
  refine ⟨Q 21 1#32 2688 384 128 (by decide) (by decide) rfl rfl rfl inb_S5120x512_S128x128_2688_384 _ _ _, ?_⟩; refine ⟨Q 21 0#32 2688 256 0 (by decide) (by decide) rfl rfl rfl inb_S5120x512_S128x128_2688_256 _ _ _, ?_⟩
  refine ⟨Q 20 1#32 2560 384 128 (by decide) (by decide) rfl rfl rfl inb_S5120x512_S128x128_2560_384 _ _ _, ?_⟩; refine ⟨Q 20 0#32 2560 256 0 (by decide) (by decide) rfl rfl rfl inb_S5120x512_S128x128_2560_256 _ _ _, ?_⟩
  refine ⟨Q 19 1#32 2432 384 128 (by decide) (by decide) rfl rfl rfl inb_S5120x512_S128x128_2432_384 _ _ _, ?_⟩; refine ⟨Q 19 0#32 2432 256 0 (by decide) (by decide) rfl rfl rfl inb_S5120x512_S128x128_2432_256 _ _ _, ?_⟩
  refine ⟨Q 18 1#32 2304 384 128 (by decide) (by decide) rfl rfl rfl inb_S5120x512_S128x128_2304_384 _ _ _, ?_⟩; refine ⟨Q 18 0#32 2304 256 0 (by decide) (by decide) rfl rfl rfl inb_S5120x512_S128x128_2304_256 _ _ _, ?_⟩
  refine ⟨Q 17 1#32 2176 384 128 (by decide) (by decide) rfl rfl rfl inb_S5120x512_S128x128_2176_384 _ _ _, ?_⟩; refine ⟨Q 17 0#32 2176 256 0 (by decide) (by decide) rfl rfl rfl inb_S5120x512_S128x128_2176_256 _ _ _, ?_⟩
  refine ⟨Q 16 1#32 2048 384 128 (by decide) (by decide) rfl rfl rfl inb_S5120x512_S128x128_2048_384 _ _ _, ?_⟩; refine ⟨Q 16 0#32 2048 256 0 (by decide) (by decide) rfl rfl rfl inb_S5120x512_S128x128_2048_256 _ _ _, ?_⟩
  refine ⟨Q 15 1#32 1920 384 128 (by decide) (by decide) rfl rfl rfl inb_S5120x512_S128x128_1920_384 _ _ _, ?_⟩; refine ⟨Q 15 0#32 1920 256 0 (by decide) (by decide) rfl rfl rfl inb_S5120x512_S128x128_1920_256 _ _ _, ?_⟩
  refine ⟨Q 14 1#32 1792 384 128 (by decide) (by decide) rfl rfl rfl inb_S5120x512_S128x128_1792_384 _ _ _, ?_⟩; refine ⟨Q 14 0#32 1792 256 0 (by decide) (by decide) rfl rfl rfl inb_S5120x512_S128x128_1792_256 _ _ _, ?_⟩
  refine ⟨Q 13 1#32 1664 384 128 (by decide) (by decide) rfl rfl rfl inb_S5120x512_S128x128_1664_384 _ _ _, ?_⟩; refine ⟨Q 13 0#32 1664 256 0 (by decide) (by decide) rfl rfl rfl inb_S5120x512_S128x128_1664_256 _ _ _, ?_⟩
  refine ⟨Q 12 1#32 1536 384 128 (by decide) (by decide) rfl rfl rfl inb_S5120x512_S128x128_1536_384 _ _ _, ?_⟩; refine ⟨Q 12 0#32 1536 256 0 (by decide) (by decide) rfl rfl rfl inb_S5120x512_S128x128_1536_256 _ _ _, ?_⟩
  refine ⟨Q 11 1#32 1408 384 128 (by decide) (by decide) rfl rfl rfl inb_S5120x512_S128x128_1408_384 _ _ _, ?_⟩; refine ⟨Q 11 0#32 1408 256 0 (by decide) (by decide) rfl rfl rfl inb_S5120x512_S128x128_1408_256 _ _ _, ?_⟩
  refine ⟨Q 10 1#32 1280 384 128 (by decide) (by decide) rfl rfl rfl inb_S5120x512_S128x128_1280_384 _ _ _, ?_⟩; refine ⟨Q 10 0#32 1280 256 0 (by decide) (by decide) rfl rfl rfl inb_S5120x512_S128x128_1280_256 _ _ _, ?_⟩
  refine ⟨Q 9 1#32 1152 384 128 (by decide) (by decide) rfl rfl rfl inb_S5120x512_S128x128_1152_384 _ _ _, ?_⟩; refine ⟨Q 9 0#32 1152 256 0 (by decide) (by decide) rfl rfl rfl inb_S5120x512_S128x128_1152_256 _ _ _, ?_⟩
  refine ⟨Q 8 1#32 1024 384 128 (by decide) (by decide) rfl rfl rfl inb_S5120x512_S128x128_1024_384 _ _ _, ?_⟩; refine ⟨Q 8 0#32 1024 256 0 (by decide) (by decide) rfl rfl rfl inb_S5120x512_S128x128_1024_256 _ _ _, ?_⟩
  refine ⟨Q 7 1#32 896 384 128 (by decide) (by decide) rfl rfl rfl inb_S5120x512_S128x128_896_384 _ _ _, ?_⟩; refine ⟨Q 7 0#32 896 256 0 (by decide) (by decide) rfl rfl rfl inb_S5120x512_S128x128_896_256 _ _ _, ?_⟩
  refine ⟨Q 6 1#32 768 384 128 (by decide) (by decide) rfl rfl rfl inb_S5120x512_S128x128_768_384 _ _ _, ?_⟩; refine ⟨Q 6 0#32 768 256 0 (by decide) (by decide) rfl rfl rfl inb_S5120x512_S128x128_768_256 _ _ _, ?_⟩
  refine ⟨Q 5 1#32 640 384 128 (by decide) (by decide) rfl rfl rfl inb_S5120x512_S128x128_640_384 _ _ _, ?_⟩; refine ⟨Q 5 0#32 640 256 0 (by decide) (by decide) rfl rfl rfl inb_S5120x512_S128x128_640_256 _ _ _, ?_⟩
  refine ⟨Q 4 1#32 512 384 128 (by decide) (by decide) rfl rfl rfl inb_S5120x512_S128x128_512_384 _ _ _, ?_⟩; refine ⟨Q 4 0#32 512 256 0 (by decide) (by decide) rfl rfl rfl inb_S5120x512_S128x128_512_256 _ _ _, ?_⟩
  refine ⟨Q 3 1#32 384 384 128 (by decide) (by decide) rfl rfl rfl inb_S5120x512_S128x128_384_384 _ _ _, ?_⟩; refine ⟨Q 3 0#32 384 256 0 (by decide) (by decide) rfl rfl rfl inb_S5120x512_S128x128_384_256 _ _ _, ?_⟩
  refine ⟨Q 2 1#32 256 384 128 (by decide) (by decide) rfl rfl rfl inb_S5120x512_S128x128_256_384 _ _ _, ?_⟩; refine ⟨Q 2 0#32 256 256 0 (by decide) (by decide) rfl rfl rfl inb_S5120x512_S128x128_256_256 _ _ _, ?_⟩
  refine ⟨Q 1 1#32 128 384 128 (by decide) (by decide) rfl rfl rfl inb_S5120x512_S128x128_128_384 _ _ _, ?_⟩; refine ⟨Q 1 0#32 128 256 0 (by decide) (by decide) rfl rfl rfl inb_S5120x512_S128x128_128_256 _ _ _, ?_⟩
  refine ⟨Q 0 1#32 0 384 128 (by decide) (by decide) rfl rfl rfl inb_S5120x512_S128x128_0_384 _ _ _, ?_⟩; refine ⟨Q 0 0#32 0 256 0 (by decide) (by decide) rfl rfl rfl inb_S5120x512_S128x128_0_256 _ _ _, ?_⟩
  refine ⟨P 39 1#32 4992 128 128 (by decide) (by decide) rfl rfl rfl inb_S5120x512_S128x128_4992_128 _ _ _, ?_⟩; refine ⟨P 39 0#32 4992 0 0 (by decide) (by decide) rfl rfl rfl inb_S5120x512_S128x128_4992_0 _ _ _, ?_⟩
  refine ⟨P 38 1#32 4864 128 128 (by decide) (by decide) rfl rfl rfl inb_S5120x512_S128x128_4864_128 _ _ _, ?_⟩; refine ⟨P 38 0#32 4864 0 0 (by decide) (by decide) rfl rfl rfl inb_S5120x512_S128x128_4864_0 _ _ _, ?_⟩
  refine ⟨P 37 1#32 4736 128 128 (by decide) (by decide) rfl rfl rfl inb_S5120x512_S128x128_4736_128 _ _ _, ?_⟩; refine ⟨P 37 0#32 4736 0 0 (by decide) (by decide) rfl rfl rfl inb_S5120x512_S128x128_4736_0 _ _ _, ?_⟩
  refine ⟨P 36 1#32 4608 128 128 (by decide) (by decide) rfl rfl rfl inb_S5120x512_S128x128_4608_128 _ _ _, ?_⟩; refine ⟨P 36 0#32 4608 0 0 (by decide) (by decide) rfl rfl rfl inb_S5120x512_S128x128_4608_0 _ _ _, ?_⟩
  refine ⟨P 35 1#32 4480 128 128 (by decide) (by decide) rfl rfl rfl inb_S5120x512_S128x128_4480_128 _ _ _, ?_⟩; refine ⟨P 35 0#32 4480 0 0 (by decide) (by decide) rfl rfl rfl inb_S5120x512_S128x128_4480_0 _ _ _, ?_⟩
  refine ⟨P 34 1#32 4352 128 128 (by decide) (by decide) rfl rfl rfl inb_S5120x512_S128x128_4352_128 _ _ _, ?_⟩; refine ⟨P 34 0#32 4352 0 0 (by decide) (by decide) rfl rfl rfl inb_S5120x512_S128x128_4352_0 _ _ _, ?_⟩
  refine ⟨P 33 1#32 4224 128 128 (by decide) (by decide) rfl rfl rfl inb_S5120x512_S128x128_4224_128 _ _ _, ?_⟩; refine ⟨P 33 0#32 4224 0 0 (by decide) (by decide) rfl rfl rfl inb_S5120x512_S128x128_4224_0 _ _ _, ?_⟩
  refine ⟨P 32 1#32 4096 128 128 (by decide) (by decide) rfl rfl rfl inb_S5120x512_S128x128_4096_128 _ _ _, ?_⟩; refine ⟨P 32 0#32 4096 0 0 (by decide) (by decide) rfl rfl rfl inb_S5120x512_S128x128_4096_0 _ _ _, ?_⟩
  refine ⟨P 31 1#32 3968 128 128 (by decide) (by decide) rfl rfl rfl inb_S5120x512_S128x128_3968_128 _ _ _, ?_⟩; refine ⟨P 31 0#32 3968 0 0 (by decide) (by decide) rfl rfl rfl inb_S5120x512_S128x128_3968_0 _ _ _, ?_⟩
  refine ⟨P 30 1#32 3840 128 128 (by decide) (by decide) rfl rfl rfl inb_S5120x512_S128x128_3840_128 _ _ _, ?_⟩; refine ⟨P 30 0#32 3840 0 0 (by decide) (by decide) rfl rfl rfl inb_S5120x512_S128x128_3840_0 _ _ _, ?_⟩
  refine ⟨P 29 1#32 3712 128 128 (by decide) (by decide) rfl rfl rfl inb_S5120x512_S128x128_3712_128 _ _ _, ?_⟩; refine ⟨P 29 0#32 3712 0 0 (by decide) (by decide) rfl rfl rfl inb_S5120x512_S128x128_3712_0 _ _ _, ?_⟩
  refine ⟨P 28 1#32 3584 128 128 (by decide) (by decide) rfl rfl rfl inb_S5120x512_S128x128_3584_128 _ _ _, ?_⟩; refine ⟨P 28 0#32 3584 0 0 (by decide) (by decide) rfl rfl rfl inb_S5120x512_S128x128_3584_0 _ _ _, ?_⟩
  refine ⟨P 27 1#32 3456 128 128 (by decide) (by decide) rfl rfl rfl inb_S5120x512_S128x128_3456_128 _ _ _, ?_⟩; refine ⟨P 27 0#32 3456 0 0 (by decide) (by decide) rfl rfl rfl inb_S5120x512_S128x128_3456_0 _ _ _, ?_⟩
  refine ⟨P 26 1#32 3328 128 128 (by decide) (by decide) rfl rfl rfl inb_S5120x512_S128x128_3328_128 _ _ _, ?_⟩; refine ⟨P 26 0#32 3328 0 0 (by decide) (by decide) rfl rfl rfl inb_S5120x512_S128x128_3328_0 _ _ _, ?_⟩
  refine ⟨P 25 1#32 3200 128 128 (by decide) (by decide) rfl rfl rfl inb_S5120x512_S128x128_3200_128 _ _ _, ?_⟩; refine ⟨P 25 0#32 3200 0 0 (by decide) (by decide) rfl rfl rfl inb_S5120x512_S128x128_3200_0 _ _ _, ?_⟩
  refine ⟨P 24 1#32 3072 128 128 (by decide) (by decide) rfl rfl rfl inb_S5120x512_S128x128_3072_128 _ _ _, ?_⟩; refine ⟨P 24 0#32 3072 0 0 (by decide) (by decide) rfl rfl rfl inb_S5120x512_S128x128_3072_0 _ _ _, ?_⟩
  refine ⟨P 23 1#32 2944 128 128 (by decide) (by decide) rfl rfl rfl inb_S5120x512_S128x128_2944_128 _ _ _, ?_⟩; refine ⟨P 23 0#32 2944 0 0 (by decide) (by decide) rfl rfl rfl inb_S5120x512_S128x128_2944_0 _ _ _, ?_⟩
  refine ⟨P 22 1#32 2816 128 128 (by decide) (by decide) rfl rfl rfl inb_S5120x512_S128x128_2816_128 _ _ _, ?_⟩; refine ⟨P 22 0#32 2816 0 0 (by decide) (by decide) rfl rfl rfl inb_S5120x512_S128x128_2816_0 _ _ _, ?_⟩
  refine ⟨P 21 1#32 2688 128 128 (by decide) (by decide) rfl rfl rfl inb_S5120x512_S128x128_2688_128 _ _ _, ?_⟩; refine ⟨P 21 0#32 2688 0 0 (by decide) (by decide) rfl rfl rfl inb_S5120x512_S128x128_2688_0 _ _ _, ?_⟩
  refine ⟨P 20 1#32 2560 128 128 (by decide) (by decide) rfl rfl rfl inb_S5120x512_S128x128_2560_128 _ _ _, ?_⟩; refine ⟨P 20 0#32 2560 0 0 (by decide) (by decide) rfl rfl rfl inb_S5120x512_S128x128_2560_0 _ _ _, ?_⟩
  refine ⟨P 19 1#32 2432 128 128 (by decide) (by decide) rfl rfl rfl inb_S5120x512_S128x128_2432_128 _ _ _, ?_⟩; refine ⟨P 19 0#32 2432 0 0 (by decide) (by decide) rfl rfl rfl inb_S5120x512_S128x128_2432_0 _ _ _, ?_⟩
  refine ⟨P 18 1#32 2304 128 128 (by decide) (by decide) rfl rfl rfl inb_S5120x512_S128x128_2304_128 _ _ _, ?_⟩; refine ⟨P 18 0#32 2304 0 0 (by decide) (by decide) rfl rfl rfl inb_S5120x512_S128x128_2304_0 _ _ _, ?_⟩
  refine ⟨P 17 1#32 2176 128 128 (by decide) (by decide) rfl rfl rfl inb_S5120x512_S128x128_2176_128 _ _ _, ?_⟩; refine ⟨P 17 0#32 2176 0 0 (by decide) (by decide) rfl rfl rfl inb_S5120x512_S128x128_2176_0 _ _ _, ?_⟩
  refine ⟨P 16 1#32 2048 128 128 (by decide) (by decide) rfl rfl rfl inb_S5120x512_S128x128_2048_128 _ _ _, ?_⟩; refine ⟨P 16 0#32 2048 0 0 (by decide) (by decide) rfl rfl rfl inb_S5120x512_S128x128_2048_0 _ _ _, ?_⟩
  refine ⟨P 15 1#32 1920 128 128 (by decide) (by decide) rfl rfl rfl inb_S5120x512_S128x128_1920_128 _ _ _, ?_⟩; refine ⟨P 15 0#32 1920 0 0 (by decide) (by decide) rfl rfl rfl inb_S5120x512_S128x128_1920_0 _ _ _, ?_⟩
  refine ⟨P 14 1#32 1792 128 128 (by decide) (by decide) rfl rfl rfl inb_S5120x512_S128x128_1792_128 _ _ _, ?_⟩; refine ⟨P 14 0#32 1792 0 0 (by decide) (by decide) rfl rfl rfl inb_S5120x512_S128x128_1792_0 _ _ _, ?_⟩
  refine ⟨P 13 1#32 1664 128 128 (by decide) (by decide) rfl rfl rfl inb_S5120x512_S128x128_1664_128 _ _ _, ?_⟩; refine ⟨P 13 0#32 1664 0 0 (by decide) (by decide) rfl rfl rfl inb_S5120x512_S128x128_1664_0 _ _ _, ?_⟩
  refine ⟨P 12 1#32 1536 128 128 (by decide) (by decide) rfl rfl rfl inb_S5120x512_S128x128_1536_128 _ _ _, ?_⟩; refine ⟨P 12 0#32 1536 0 0 (by decide) (by decide) rfl rfl rfl inb_S5120x512_S128x128_1536_0 _ _ _, ?_⟩
  refine ⟨P 11 1#32 1408 128 128 (by decide) (by decide) rfl rfl rfl inb_S5120x512_S128x128_1408_128 _ _ _, ?_⟩; refine ⟨P 11 0#32 1408 0 0 (by decide) (by decide) rfl rfl rfl inb_S5120x512_S128x128_1408_0 _ _ _, ?_⟩
  refine ⟨P 10 1#32 1280 128 128 (by decide) (by decide) rfl rfl rfl inb_S5120x512_S128x128_1280_128 _ _ _, ?_⟩; refine ⟨P 10 0#32 1280 0 0 (by decide) (by decide) rfl rfl rfl inb_S5120x512_S128x128_1280_0 _ _ _, ?_⟩
  refine ⟨P 9 1#32 1152 128 128 (by decide) (by decide) rfl rfl rfl inb_S5120x512_S128x128_1152_128 _ _ _, ?_⟩; refine ⟨P 9 0#32 1152 0 0 (by decide) (by decide) rfl rfl rfl inb_S5120x512_S128x128_1152_0 _ _ _, ?_⟩
  refine ⟨P 8 1#32 1024 128 128 (by decide) (by decide) rfl rfl rfl inb_S5120x512_S128x128_1024_128 _ _ _, ?_⟩; refine ⟨P 8 0#32 1024 0 0 (by decide) (by decide) rfl rfl rfl inb_S5120x512_S128x128_1024_0 _ _ _, ?_⟩
  refine ⟨P 7 1#32 896 128 128 (by decide) (by decide) rfl rfl rfl inb_S5120x512_S128x128_896_128 _ _ _, ?_⟩; refine ⟨P 7 0#32 896 0 0 (by decide) (by decide) rfl rfl rfl inb_S5120x512_S128x128_896_0 _ _ _, ?_⟩
  refine ⟨P 6 1#32 768 128 128 (by decide) (by decide) rfl rfl rfl inb_S5120x512_S128x128_768_128 _ _ _, ?_⟩; refine ⟨P 6 0#32 768 0 0 (by decide) (by decide) rfl rfl rfl inb_S5120x512_S128x128_768_0 _ _ _, ?_⟩
  refine ⟨P 5 1#32 640 128 128 (by decide) (by decide) rfl rfl rfl inb_S5120x512_S128x128_640_128 _ _ _, ?_⟩; refine ⟨P 5 0#32 640 0 0 (by decide) (by decide) rfl rfl rfl inb_S5120x512_S128x128_640_0 _ _ _, ?_⟩
  refine ⟨P 4 1#32 512 128 128 (by decide) (by decide) rfl rfl rfl inb_S5120x512_S128x128_512_128 _ _ _, ?_⟩; refine ⟨P 4 0#32 512 0 0 (by decide) (by decide) rfl rfl rfl inb_S5120x512_S128x128_512_0 _ _ _, ?_⟩
  refine ⟨P 3 1#32 384 128 128 (by decide) (by decide) rfl rfl rfl inb_S5120x512_S128x128_384_128 _ _ _, ?_⟩; refine ⟨P 3 0#32 384 0 0 (by decide) (by decide) rfl rfl rfl inb_S5120x512_S128x128_384_0 _ _ _, ?_⟩
  refine ⟨P 2 1#32 256 128 128 (by decide) (by decide) rfl rfl rfl inb_S5120x512_S128x128_256_128 _ _ _, ?_⟩; refine ⟨P 2 0#32 256 0 0 (by decide) (by decide) rfl rfl rfl inb_S5120x512_S128x128_256_0 _ _ _, ?_⟩
  refine ⟨P 1 1#32 128 128 128 (by decide) (by decide) rfl rfl rfl inb_S5120x512_S128x128_128_128 _ _ _, ?_⟩; refine ⟨P 1 0#32 128 0 0 (by decide) (by decide) rfl rfl rfl inb_S5120x512_S128x128_128_0 _ _ _, ?_⟩
  refine ⟨P 0 1#32 0 128 128 (by decide) (by decide) rfl rfl rfl inb_S5120x512_S128x128_0_128 _ _ _, ?_⟩; refine ⟨P 0 0#32 0 0 0 (by decide) (by decide) rfl rfl rfl inb_S5120x512_S128x128_0_0 _ _ _, ?_⟩
  trivial

/-- The whole weight scratch, loaded back, is `wide`. -/
theorem load (c : Dev nD) (i : grid0.Coords) (arg2 : Memref sig .tc .smem S40x100 .f32) (harg2 : arg2.IsWhole)
    (arg4 : Memref sig .tc .vmem S5120x256 .fp8e4m3) (harg4 : arg4.IsWhole) (arg5 : Memref sig .tc .vmem S5120x256 .fp8e4m3) (harg5 : arg5.IsWhole) (arg9 : Memref sig .tc .vmem S5120x512 .bf16)
    (x0 : Vec F S40x100 .f32) (x2 x3 : Vec F S5120x256 .fp8e4m3) :
    runMid.sl.v1765 (F := F) c i arg2 harg2 arg4 harg4 arg5 harg5 arg9 x0 x2 x3 = wide x0 x2 x3 (i 1) := by
  unfold runMid.sl.v1765
  rw [View.readCov_eq_canon']
  funext (j : S5120x512.Idx)
  have hj : (Rect.unit (s := S5120x512) ![0, 0] S5120x512.size inb_S5120x512_S5120x512_0_0).toLoadRect.idx j = j := by
    funext a; apply Fin.ext
    match a with
    | ⟨0, _⟩ => show 0 + 1 * (j 0).val = (j 0).val; omega
    | ⟨1, _⟩ => show 0 + 1 * (j 1).val = (j 1).val; omega
  rw [hj]
  exact View.canon_apply_of_pieces _ _ (pieces c i arg2 harg2 arg4 harg4 arg5 harg5 x0 x2 x3).mem j
    (View.cover_of_tiledL (s := S5120x512) _ S128x128.size (by sl_kernel_rfl) j)

/-- The same for the run of the last column step. -/
theorem loadEnd (c : Dev nD) (i : grid0.Coords) (arg2 : Memref sig .tc .smem S40x100 .f32) (harg2 : arg2.IsWhole)
    (arg4 : Memref sig .tc .vmem S5120x256 .fp8e4m3) (harg4 : arg4.IsWhole) (arg5 : Memref sig .tc .vmem S5120x256 .fp8e4m3) (harg5 : arg5.IsWhole) (arg9 : Memref sig .tc .vmem S5120x512 .bf16)
    (x0 : Vec F S40x100 .f32) (x2 x3 : Vec F S5120x256 .fp8e4m3) :
    runEnd.sl.v1765 (F := F) c i arg2 harg2 arg4 harg4 arg5 harg5 arg9 x0 x2 x3 = wide x0 x2 x3 (i 1) :=
  (show runEnd.sl.v1765 (F := F) c i arg2 harg2 arg4 harg4 arg5 harg5 arg9 x0 x2 x3 = runMid.sl.v1765 (F := F) c i arg2 harg2 arg4 harg4 arg5 harg5 arg9 x0 x2 x3 from rfl).trans
    (load c i arg2 harg2 arg4 harg4 arg5 harg5 arg9 x0 x2 x3)

end Cert.Proof.GuB

end
-- ==== Proof.GuBChunk.lean ====
/- One chunk of the gate and up kernel: the gated product of 32 rows and 128 columns, its row scales, its codes and the values they
   stand for, and the blocks of them a grid point leaves. -/
module

public import proofs.«01_k».proof.Proof.GuBWide

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

/-- The scores of 256 rows against the widened gate and up columns. -/
def acc (X : Vec F S256x5120 .bf16) (W : Vec F S5120x512 .bf16) : FVec F S256x512 .f32 :=
  matmul dot_S256x5120_S5120x512_S256x512_1_0_0_1_n_n none X W (constant S256x512 .f32 0x00000000#32)

/-- The gated product of 32 rows and 128 columns. -/
def vOf (A : FVec F S256x512 .f32) (o b b2 : ℕ) (h1 : S256x512.Slices ![o, b] S32x128) (h2 : S256x512.Slices ![o, b2] S32x128) :
    FVec F S32x128 .f32 :=
  mulf (mulf (extractStridedSlice S32x128 ![o, b] A h1) (logistic (extractStridedSlice S32x128 ![o, b] A h1)))
    (extractStridedSlice S32x128 ![o, b2] A h2)

/-- The exponent bits the kernel counts for every row of a chunk. -/
def bitsOf (v : FVec F S32x128 .f32) : IVec S32x1 32 :=
  let cnt : IVec S32 32 := multiReductionI .add [1] S32
    (extui 32 (cmpf .oge (broadcastTo S32x253
        (mulf (shapeCast S32x1 (multiReduction .maximumf [1] S32 (absf v) 0xFF800000#32 reduces_S32x128_S32 (.inl rfl) rfl) shapeCasts_S32_S32x1)
          (broadcast S32x1 (Scalar.ofBits .f32 0x3B124925#32)))
        broadcasts_S32x1_S32x253)
      (bitcastToFloat (F := F) .f32 (shli (iota .tc S32x253 32 [1] iota_S32x253_d1_w32) (broadcast S32x253 23#32)))) natLt_1_32)
    0#32 reduces_S32x253_S32 rfl
  let e : IVec S32x1 32 := shli (subi (shapeCast S32x1 cnt shapeCasts_S32_S32x1) (broadcast S32x1 1#32)) (broadcast S32x1 23#32)
  select (cmpi .eq e (broadcast S32x1 0#32)) (broadcast S32x1 1056964608#32) e

/-- The scale of every row of a chunk. -/
def scaleOf (v : FVec F S32x128 .f32) : FVec F S32x1 .f32 :=
  bitcastToFloat .f32 (addi (bitsOf v) (broadcast S32x1 8388608#32))

/-- The codes of a chunk. -/
def codesOf (v : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf v (broadcastTo S32x128 (bitcastToFloat (F := F) .f32 (subi (broadcast S32x1 2122317824#32) (bitsOf v))) broadcasts_S32x1_S32x128))))
    bitsLt_fp8e4m3_f32

/-- The values the codes of a chunk stand for. -/
def wideOf (v : FVec F S32x128 .f32) : FVec F S32x128 .bf16 :=
  truncf .bf16 (mulf (extf .f32 (codesOf v) bitsLt_fp8e4m3_f32) (broadcastTo S32x128 (scaleOf v) broadcasts_S32x1_S32x128)) bitsLt_bf16_f32

/-- A block of 256 rows of the staged activations. -/
def rows (x1 : Vec F S1024x5120 .bf16) (q : ℕ) (hq : q < 4) : Vec F S256x5120 .bf16 :=
  fun z => x1 (ix2 (⟨256 * q + (z 0).val, by have h : (z 0).val < 256 := (z 0).isLt; omega⟩ : Fin 1024) (z 1))

/-- A 32 x 128 chunk lies inside the scores. -/
theorem slices (o b : ℕ) (ho : o + 32 ≤ 256) (hb : b + 128 ≤ 512) : S256x512.Slices ![o, b] S32x128 :=
  ⟨rfl, fun a => match a with
    | ⟨0, _⟩ => ho
    | ⟨1, _⟩ => hb⟩

/-- The gated product of chunk `(r, b)` of the block. -/
def gu (x1 : Vec F S1024x5120 .bf16) (W : Vec F S5120x512 .bf16) (r : Fin 32) (b : Fin 2) : FVec F S32x128 .f32 :=
  vOf (acc (rows x1 (r.val / 8) (by have h := r.isLt; omega)) W) (32 * (r.val % 8)) (128 * b.val) (256 + 128 * b.val)
    (slices _ _ (by omega) (by have h := b.isLt; omega)) (slices _ _ (by omega) (by have h := b.isLt; omega))

/-- The codes of a block. -/
def codesBlk (x1 : Vec F S1024x5120 .bf16) (W : Vec F S5120x512 .bf16) (y : S1024x256.Idx) : Elt F .fp8e4m3 :=
  codesOf (gu x1 W (⟨(y 0).val / 32, by have h : (y 0).val < 1024 := (y 0).isLt; omega⟩ : Fin 32) (⟨(y 1).val / 128, by have h : (y 1).val < 256 := (y 1).isLt; omega⟩ : Fin 2))
    (ix2 (⟨(y 0).val % 32, by omega⟩ : Fin 32) (⟨(y 1).val % 128, by omega⟩ : Fin 128))

/-- The values the codes of a block stand for. -/
def wideBlk (x1 : Vec F S1024x5120 .bf16) (W : Vec F S5120x512 .bf16) (y : S1024x256.Idx) : Elt F .bf16 :=
  wideOf (gu x1 W (⟨(y 0).val / 32, by have h : (y 0).val < 1024 := (y 0).isLt; omega⟩ : Fin 32) (⟨(y 1).val / 128, by have h : (y 1).val < 256 := (y 1).isLt; omega⟩ : Fin 2))
    (ix2 (⟨(y 0).val % 32, by omega⟩ : Fin 32) (⟨(y 1).val % 128, by omega⟩ : Fin 128))

/-- The scale of one row and one chunk of columns of a block. -/
def scaleBlk (x1 : Vec F S1024x5120 .bf16) (W : Vec F S5120x512 .bf16) (a : Fin 1024) (b : Fin 2) : Elt F .f32 :=
  scaleOf (gu x1 W (⟨a.val / 32, by have h := a.isLt; omega⟩ : Fin 32) b) (ix2 (⟨a.val % 32, by omega⟩ : Fin 32) (0 : Fin 1))

/-- The scale scratch after a grid point: the point's two lanes are its scales, every other lane stays. -/
def lanes (x1 : Vec F S1024x5120 .bf16) (W : Vec F S5120x512 .bf16) (j : Fin 25) (xs : Vec F S1024x128 .f32) (y : S1024x128.Idx) : Elt F .f32 :=
  if (y 1).val = 2 * j.val + 1 then scaleBlk x1 W (y 0) 1
  else if (y 1).val = 2 * j.val then scaleBlk x1 W (y 0) 0
  else xs y

/-- The chunk a store computes is the block's chunk. -/
theorem gu_eq (arg3 : Memref sig .tc .vmem S1024x5120 .bf16) (harg3 : arg3.IsWhole) (x1 : Vec F S1024x5120 .bf16) (W W' : Vec F S5120x512 .bf16) (hW : W' = W)
    (r b e o b1 b2 : ℕ) (hr : r < 32) (hb : b < 2) (he : e = 256 * (r / 8)) (ho : o = 32 * (r % 8)) (hb1 : b1 = 128 * b) (hb2 : b2 = 256 + 128 * b) (inb) (h1) (h2) :
    vOf (acc (View.readAt (Elt F) arg3.view (Rect.unit (s := S1024x5120) ![e, 0] S256x5120.size inb).toLoadRect (harg3.unread x1)) W') o b1 b2 h1 h2
      = gu x1 W ⟨r, hr⟩ ⟨b, hb⟩ := by
  subst hW he ho hb1 hb2
  unfold gu
  have hx : View.readAt (Elt F) arg3.view (Rect.unit (s := S1024x5120) ![256 * (r / 8), 0] S256x5120.size inb).toLoadRect (harg3.unread x1) = rows x1 (r / 8) (by omega) := by
    funext (z : S256x5120.Idx)
    rw [Memref.IsWhole.readAt_unread]
    refine congrArg x1 (funext fun a => Fin.ext ?_)
    match a with
    | ⟨0, _⟩ => show 256 * (r / 8) + 1 * (z 0).val = 256 * (r / 8) + (z 0).val; omega
    | ⟨1, _⟩ => show 0 + 1 * (z 1).val = (z 1).val; omega
  exact congrArg (fun X => vOf (acc X W') _ _ _ _ _) hx

/-- One store of codes. -/
theorem codes (arg3 : Memref sig .tc .vmem S1024x5120 .bf16) (harg3 : arg3.IsWhole) (x1 : Vec F S1024x5120 .bf16) (W W' : Vec F S5120x512 .bf16) (hW : W' = W)
    (r b e o d0 b1 b2 : ℕ) (hr : r < 32) (hb : b < 2) (he : e = 256 * (r / 8)) (ho : o = 32 * (r % 8)) (hd0 : d0 = 32 * r) (hb1 : b1 = 128 * b) (hb2 : b2 = 256 + 128 * b)
    (inbd) (inb) (h1) (h2) (z : S32x128.Idx) :
    codesOf (vOf (acc (View.readAt (Elt F) arg3.view (Rect.unit (s := S1024x5120) ![e, 0] S256x5120.size inb).toLoadRect (harg3.unread x1)) W') o b1 b2 h1 h2) z
      = codesBlk x1 W ((Rect.unit (s := S1024x256) ![d0, b1] S32x128.size inbd).emb z) := by
  rw [gu_eq arg3 harg3 x1 W W' hW r b e o b1 b2 hr hb he ho hb1 hb2]
  subst hd0 hb1
  have hz0 : (z 0).val < 32 := (z 0).isLt
  have hz1 : (z 1).val < 128 := (z 1).isLt
  refine (congr (congrArg codesOf (congrArg₂ (gu x1 W) (Fin.ext ?_) (Fin.ext ?_))) (funext fun a => Fin.ext ?_))
  · show r = (32 * r + 1 * (z 0).val) / 32; omega
  · show b = (128 * b + 1 * (z 1).val) / 128; omega
  · match a with
    | ⟨0, _⟩ => show (z 0).val = (32 * r + 1 * (z 0).val) % 32; omega
    | ⟨1, _⟩ => show (z 1).val = (128 * b + 1 * (z 1).val) % 128; omega

/-- One store of the values. -/
theorem wides (arg3 : Memref sig .tc .vmem S1024x5120 .bf16) (harg3 : arg3.IsWhole) (x1 : Vec F S1024x5120 .bf16) (W W' : Vec F S5120x512 .bf16) (hW : W' = W)
    (r b e o d0 b1 b2 : ℕ) (hr : r < 32) (hb : b < 2) (he : e = 256 * (r / 8)) (ho : o = 32 * (r % 8)) (hd0 : d0 = 32 * r) (hb1 : b1 = 128 * b) (hb2 : b2 = 256 + 128 * b)
    (inbd) (inb) (h1) (h2) (z : S32x128.Idx) :
    wideOf (vOf (acc (View.readAt (Elt F) arg3.view (Rect.unit (s := S1024x5120) ![e, 0] S256x5120.size inb).toLoadRect (harg3.unread x1)) W') o b1 b2 h1 h2) z
      = wideBlk x1 W ((Rect.unit (s := S1024x256) ![d0, b1] S32x128.size inbd).emb z) := by
  rw [gu_eq arg3 harg3 x1 W W' hW r b e o b1 b2 hr hb he ho hb1 hb2]
  subst hd0 hb1
  have hz0 : (z 0).val < 32 := (z 0).isLt
  have hz1 : (z 1).val < 128 := (z 1).isLt
  refine (congr (congrArg wideOf (congrArg₂ (gu x1 W) (Fin.ext ?_) (Fin.ext ?_))) (funext fun a => Fin.ext ?_))
  · show r = (32 * r + 1 * (z 0).val) / 32; omega
  · show b = (128 * b + 1 * (z 1).val) / 128; omega
  · match a with
    | ⟨0, _⟩ => show (z 0).val = (32 * r + 1 * (z 0).val) % 32; omega
    | ⟨1, _⟩ => show (z 1).val = (128 * b + 1 * (z 1).val) % 128; omega

/-- The lane test of the scale scratch. -/
theorem lane_test (i : grid0.Coords) (k : BitVec 32) (hk : k.toNat < 2) (z : S32x128.Idx) :
    ((cmpi .eq (iota .tc S32x128 32 [1] iota_S32x128_d1_w32) (broadcast S32x128 (Scalar.addi (Scalar.muli (BitVec.ofNat 32 (i 1).val) 2#32) k)) : IVec S32x128 1) z = 1#1)
      ↔ (z 1).val = 2 * (i 1).val + k.toNat := by
  have h : (i 1).val < 25 := (i 1).isLt
  have hz1 : (z 1).val < 128 := (z 1).isLt
  have e2 : (BitVec.ofNat 32 (i 1).val * 2#32 + k).toNat = 2 * (i 1).val + k.toNat := by
    rw [BitVec.toNat_add, BitVec.toNat_mul, BitVec.toNat_ofNat, BitVec.toNat_ofNat]
    omega
  have e1 : (BitVec.ofNat 32 (0 * 128 + (z 1).val)).toNat = (z 1).val := by
    rw [BitVec.toNat_ofNat]; omega
  show BitVec.ofBool (BitVec.ofNat 32 (0 * 128 + (z 1).val) == BitVec.ofNat 32 (i 1).val * 2#32 + k) = 1#1 ↔ _
  rw [← e2]
  constructor
  · intro h
    have hb : (BitVec.ofNat 32 (0 * 128 + (z 1).val) == BitVec.ofNat 32 (i 1).val * 2#32 + k) = true := by
      cases hc : (BitVec.ofNat 32 (0 * 128 + (z 1).val) == BitVec.ofNat 32 (i 1).val * 2#32 + k)
      · rw [hc] at h; exact absurd h (by decide)
      · rfl
    rw [← eq_of_beq hb]; exact e1.symm
  · intro h
    have h' : BitVec.ofNat 32 (0 * 128 + (z 1).val) = BitVec.ofNat 32 (i 1).val * 2#32 + k := BitVec.eq_of_toNat_eq (e1.trans h)
    rw [h', beq_self_eq_true]; rfl

/-- The two lanes a chunk's row writes into the scale scratch, at one entry. -/
theorem lanes_apply (i : grid0.Coords) (s0 s1 : FVec F S32x1 .f32) (xs : FVec F S32x128 .f32) (z : S32x128.Idx) :
    shapeCast S32x128 (select (cmpi .eq (iota .tc S32x128 32 [1] iota_S32x128_d1_w32) (broadcast S32x128 (Scalar.addi (Scalar.muli (BitVec.ofNat 32 (i 1).val) 2#32) 1#32)))
        (broadcastTo S32x128 (shapeCast S32x1 s1 shapeCasts_S32x1_S32x1) broadcasts_S32x1_S32x128)
        (select (cmpi .eq (iota .tc S32x128 32 [1] iota_S32x128_d1_w32) (broadcast S32x128 (Scalar.addi (Scalar.muli (BitVec.ofNat 32 (i 1).val) 2#32) 0#32)))
          (broadcastTo S32x128 (shapeCast S32x1 s0 shapeCasts_S32x1_S32x1) broadcasts_S32x1_S32x128) xs)) shapeCasts_S32x128_S32x128 z
      = if (z 1).val = 2 * (i 1).val + 1 then s1 (ix2 (z 0) (0 : Fin 1)) else if (z 1).val = 2 * (i 1).val then s0 (ix2 (z 0) (0 : Fin 1)) else xs z := by
  have hb : ∀ s : FVec F S32x1 .f32, broadcastTo S32x128 (shapeCast S32x1 s shapeCasts_S32x1_S32x1) broadcasts_S32x1_S32x128 z = s (ix2 (z 0) (0 : Fin 1)) := by
    intro s
    rw [shapeCast_self]
    refine congrArg s (funext fun a => Fin.ext ?_)
    match a with
    | ⟨0, _⟩ => rfl
    | ⟨1, _⟩ => rfl
  have l1 := lane_test i 1#32 (by decide) z
  have l0 := lane_test i 0#32 (by decide) z
  rw [shapeCast_self]
  show Scalar.select _ _ (Scalar.select _ _ _) = _
  rw [hb, hb]
  unfold Scalar.select
  by_cases h1 : (z 1).val = 2 * (i 1).val + 1
  · rw [if_pos h1]; exact if_pos (l1.mpr h1)
  · rw [if_neg h1]
    refine (if_neg (fun h => h1 (l1.mp h))).trans ?_
    by_cases h0 : (z 1).val = 2 * (i 1).val
    · rw [if_pos h0]; exact if_pos (l0.mpr h0)
    · rw [if_neg h0]; exact if_neg (fun h => h0 (l0.mp h))

/-- One store of the scale scratch. -/
theorem scales (i : grid0.Coords) (arg3 : Memref sig .tc .vmem S1024x5120 .bf16) (harg3 : arg3.IsWhole)
    (arg10 : Memref sig .tc .vmem S1024x128 .f32) (harg10 : arg10.IsWhole) (x1 : Vec F S1024x5120 .bf16) (xs : Vec F S1024x128 .f32) (W W' : Vec F S5120x512 .bf16) (hW : W' = W)
    (r e o d0 : ℕ) (hr : r < 32) (he : e = 256 * (r / 8)) (ho : o = 32 * (r % 8)) (hd0 : d0 = 32 * r)
    (inbd) (inb) (inb') (h1) (h2) (h3) (h4) (z : S32x128.Idx) :
    shapeCast S32x128 (select (cmpi .eq (iota .tc S32x128 32 [1] iota_S32x128_d1_w32) (broadcast S32x128 (Scalar.addi (Scalar.muli (BitVec.ofNat 32 (i 1).val) 2#32) 1#32)))
        (broadcastTo S32x128 (shapeCast S32x1 (scaleOf (vOf (acc (View.readAt (Elt F) arg3.view (Rect.unit (s := S1024x5120) ![e, 0] S256x5120.size inb).toLoadRect (harg3.unread x1)) W') o 128 384 h1 h2)) shapeCasts_S32x1_S32x1) broadcasts_S32x1_S32x128)
        (select (cmpi .eq (iota .tc S32x128 32 [1] iota_S32x128_d1_w32) (broadcast S32x128 (Scalar.addi (Scalar.muli (BitVec.ofNat 32 (i 1).val) 2#32) 0#32)))
          (broadcastTo S32x128 (shapeCast S32x1 (scaleOf (vOf (acc (View.readAt (Elt F) arg3.view (Rect.unit (s := S1024x5120) ![e, 0] S256x5120.size inb).toLoadRect (harg3.unread x1)) W') o 0 256 h3 h4)) shapeCasts_S32x1_S32x1) broadcasts_S32x1_S32x128)
          (View.readAt (Elt F) arg10.view (Rect.unit (s := S1024x128) ![d0, 0] S32x128.size inb').toLoadRect (harg10.unread xs)))) shapeCasts_S32x128_S32x128 z
      = lanes x1 W (i 1) xs ((Rect.unit (s := S1024x128) ![d0, 0] S32x128.size inbd).emb z) := by
  rw [gu_eq arg3 harg3 x1 W W' hW r 1 e o 128 384 hr (by omega) he ho rfl rfl, gu_eq arg3 harg3 x1 W W' hW r 0 e o 0 256 hr (by omega) he ho rfl rfl,
    lanes_apply, Memref.IsWhole.readAt_unread]
  subst hd0
  have hz0 : (z 0).val < 32 := (z 0).isLt
  have e1 : (((Rect.unit (s := S1024x128) ![32 * r, 0] S32x128.size inbd).emb z) 1).val = (z 1).val := by
    show 0 + 1 * (z 1).val = (z 1).val; omega
  have hs : ∀ b : Fin 2, scaleBlk x1 W (((Rect.unit (s := S1024x128) ![32 * r, 0] S32x128.size inbd).emb z) 0) b = scaleOf (gu x1 W ⟨r, hr⟩ b) (ix2 (z 0) (0 : Fin 1)) := by
    intro b
    unfold scaleBlk
    refine (congr (congrArg scaleOf (congrArg₂ (gu x1 W) (Fin.ext ?_) rfl)) (congrArg (fun q : Fin 32 => ix2 q (0 : Fin 1)) (Fin.ext ?_)))
    · show (32 * r + 1 * (z 0).val) / 32 = r; omega
    · show (32 * r + 1 * (z 0).val) % 32 = (z 0).val; omega
  unfold lanes
  rw [e1, hs, hs]
  rfl

end Cert.Proof.GuB

end
-- ==== Proof.GuBMidOut.lean ====
/- What a grid point that is not the last of its row leaves in its output blocks and in the scale scratch. -/
module

public import proofs.«01_k».proof.Proof.GuBChunk

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

/-- Stores that tile a buffer and leave their tiles of one value leave that value. -/
theorem read_of {sp : Space} {s : Shape} {e : EltTy} (v : View sig .tc sp s e) (f) (L : List (View.Piece (Elt F) s e)) (P : s.Idx → Elt F e)
    (hP : View.PiecesOf P L) (hc : ∀ y, ∃ p ∈ L, y ∈ p.1.set) : v.read (Elt F) (v.writes (Elt F) f L) = P := by
  rw [View.read_writes_of_cover v f v v.junk L hc, View.read_writes_junk_eq_canon]
  funext y
  exact View.canon_apply_of_pieces P L hP.mem y (hc y)

set_option maxHeartbeats 16000000 in
/-- Every store of the codes leaves its part of the block. -/
theorem runMidCodesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .fp8e4m3) (codesBlk x1 (wide x0 x2 x3 (i 1))) (runMid (F := F) c i arg2 harg2 arg3 harg3 arg4 harg4 arg5 harg5 arg6 harg6 arg7 harg7 arg8 harg8 arg9 harg9 arg10 harg10 hc1 x0 x1 x2 x3 xs1).1 := by
  have C := codes (F := F) arg3 harg3 x1 (wide x0 x2 x3 (i 1))
  have hW := load (F := F) c i arg2 harg2 arg4 harg4 arg5 harg5 arg9 x0 x2 x3
  unfold runMid; dsimp only
  refine ⟨C _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨C _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨C _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨C _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨C _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨C _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨C _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨C _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨C _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨C _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨C _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨C _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨C _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨C _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨C _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨C _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨C _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨C _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨C _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨C _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨C _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨C _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨C _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨C _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨C _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨C _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨C _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨C _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨C _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨C _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨C _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨C _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨C _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨C _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨C _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨C _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨C _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨C _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨C _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨C _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨C _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨C _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨C _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨C _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨C _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨C _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨C _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨C _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨C _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨C _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨C _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨C _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨C _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨C _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨C _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨C _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨C _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨C _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨C _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨C _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨C _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨C _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨C _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨C _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the codes hold after the run. -/
theorem runMidCodes (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .fp8e4m3) (f) :
    v.read (Elt F) (v.writes (Elt F) f (runMid (F := F) c i arg2 harg2 arg3 harg3 arg4 harg4 arg5 harg5 arg6 harg6 arg7 harg7 arg8 harg8 arg9 harg9 arg10 harg10 hc1 x0 x1 x2 x3 xs1).1) = (codesBlk x1 (wide x0 x2 x3 (i 1))) :=
  read_of v f _ _ (runMidCodesPieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the values leaves its part of the block. -/
theorem runMidWidePieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .bf16) (wideBlk x1 (wide x0 x2 x3 (i 1))) (runMid (F := F) c i arg2 harg2 arg3 harg3 arg4 harg4 arg5 harg5 arg6 harg6 arg7 harg7 arg8 harg8 arg9 harg9 arg10 harg10 hc1 x0 x1 x2 x3 xs1).2.2.1 := by
  have D := wides (F := F) arg3 harg3 x1 (wide x0 x2 x3 (i 1))
  have hW := load (F := F) c i arg2 harg2 arg4 harg4 arg5 harg5 arg9 x0 x2 x3
  unfold runMid; dsimp only
  refine ⟨D _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨D _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨D _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨D _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨D _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨D _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨D _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨D _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨D _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨D _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨D _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨D _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨D _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨D _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨D _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨D _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨D _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨D _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨D _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨D _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨D _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨D _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨D _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨D _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨D _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨D _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨D _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨D _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨D _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨D _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨D _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨D _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨D _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨D _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨D _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨D _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨D _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨D _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨D _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨D _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨D _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨D _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨D _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨D _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨D _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨D _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨D _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨D _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨D _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨D _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨D _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨D _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨D _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨D _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨D _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨D _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨D _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨D _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨D _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨D _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨D _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨D _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨D _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨D _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the values hold after the run. -/
theorem runMidWide (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .bf16) (f) :
    v.read (Elt F) (v.writes (Elt F) f (runMid (F := F) c i arg2 harg2 arg3 harg3 arg4 harg4 arg5 harg5 arg6 harg6 arg7 harg7 arg8 harg8 arg9 harg9 arg10 harg10 hc1 x0 x1 x2 x3 xs1).2.2.1) = (wideBlk x1 (wide x0 x2 x3 (i 1))) :=
  read_of v f _ _ (runMidWidePieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the scale scratch leaves its part of the block. -/
theorem runMidScalesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x128) (e := .f32) (lanes x1 (wide x0 x2 x3 (i 1)) (i 1) xs1) (runMid (F := F) c i arg2 harg2 arg3 harg3 arg4 harg4 arg5 harg5 arg6 harg6 arg7 harg7 arg8 harg8 arg9 harg9 arg10 harg10 hc1 x0 x1 x2 x3 xs1).2.2.2.1 := by
  have S := scales (F := F) i arg3 harg3 arg10 harg10 x1 xs1 (wide x0 x2 x3 (i 1))
  have hW := load (F := F) c i arg2 harg2 arg4 harg4 arg5 harg5 arg9 x0 x2 x3
  unfold runMid; dsimp only
  refine ⟨S _ hW 31 768 224 992 (by decide) rfl rfl rfl inb_S1024x128_S32x128_992_0 inb_S1024x5120_S256x5120_768_0 inb_S1024x128_S32x128_992_0 slices_S256x512_o224_128_S32x128 slices_S256x512_o224_384_S32x128 slices_S256x512_o224_0_S32x128 slices_S256x512_o224_256_S32x128, ?_⟩
  refine ⟨S _ hW 30 768 192 960 (by decide) rfl rfl rfl inb_S1024x128_S32x128_960_0 inb_S1024x5120_S256x5120_768_0 inb_S1024x128_S32x128_960_0 slices_S256x512_o192_128_S32x128 slices_S256x512_o192_384_S32x128 slices_S256x512_o192_0_S32x128 slices_S256x512_o192_256_S32x128, ?_⟩
  refine ⟨S _ hW 29 768 160 928 (by decide) rfl rfl rfl inb_S1024x128_S32x128_928_0 inb_S1024x5120_S256x5120_768_0 inb_S1024x128_S32x128_928_0 slices_S256x512_o160_128_S32x128 slices_S256x512_o160_384_S32x128 slices_S256x512_o160_0_S32x128 slices_S256x512_o160_256_S32x128, ?_⟩
  refine ⟨S _ hW 28 768 128 896 (by decide) rfl rfl rfl inb_S1024x128_S32x128_896_0 inb_S1024x5120_S256x5120_768_0 inb_S1024x128_S32x128_896_0 slices_S256x512_o128_128_S32x128 slices_S256x512_o128_384_S32x128 slices_S256x512_o128_0_S32x128 slices_S256x512_o128_256_S32x128, ?_⟩
  refine ⟨S _ hW 27 768 96 864 (by decide) rfl rfl rfl inb_S1024x128_S32x128_864_0 inb_S1024x5120_S256x5120_768_0 inb_S1024x128_S32x128_864_0 slices_S256x512_o96_128_S32x128 slices_S256x512_o96_384_S32x128 slices_S256x512_o96_0_S32x128 slices_S256x512_o96_256_S32x128, ?_⟩
  refine ⟨S _ hW 26 768 64 832 (by decide) rfl rfl rfl inb_S1024x128_S32x128_832_0 inb_S1024x5120_S256x5120_768_0 inb_S1024x128_S32x128_832_0 slices_S256x512_o64_128_S32x128 slices_S256x512_o64_384_S32x128 slices_S256x512_o64_0_S32x128 slices_S256x512_o64_256_S32x128, ?_⟩
  refine ⟨S _ hW 25 768 32 800 (by decide) rfl rfl rfl inb_S1024x128_S32x128_800_0 inb_S1024x5120_S256x5120_768_0 inb_S1024x128_S32x128_800_0 slices_S256x512_o32_128_S32x128 slices_S256x512_o32_384_S32x128 slices_S256x512_o32_0_S32x128 slices_S256x512_o32_256_S32x128, ?_⟩
  refine ⟨S _ hW 24 768 0 768 (by decide) rfl rfl rfl inb_S1024x128_S32x128_768_0 inb_S1024x5120_S256x5120_768_0 inb_S1024x128_S32x128_768_0 slices_S256x512_o0_128_S32x128 slices_S256x512_o0_384_S32x128 slices_S256x512_o0_0_S32x128 slices_S256x512_o0_256_S32x128, ?_⟩
  refine ⟨S _ hW 23 512 224 736 (by decide) rfl rfl rfl inb_S1024x128_S32x128_736_0 inb_S1024x5120_S256x5120_512_0 inb_S1024x128_S32x128_736_0 slices_S256x512_o224_128_S32x128 slices_S256x512_o224_384_S32x128 slices_S256x512_o224_0_S32x128 slices_S256x512_o224_256_S32x128, ?_⟩
  refine ⟨S _ hW 22 512 192 704 (by decide) rfl rfl rfl inb_S1024x128_S32x128_704_0 inb_S1024x5120_S256x5120_512_0 inb_S1024x128_S32x128_704_0 slices_S256x512_o192_128_S32x128 slices_S256x512_o192_384_S32x128 slices_S256x512_o192_0_S32x128 slices_S256x512_o192_256_S32x128, ?_⟩
  refine ⟨S _ hW 21 512 160 672 (by decide) rfl rfl rfl inb_S1024x128_S32x128_672_0 inb_S1024x5120_S256x5120_512_0 inb_S1024x128_S32x128_672_0 slices_S256x512_o160_128_S32x128 slices_S256x512_o160_384_S32x128 slices_S256x512_o160_0_S32x128 slices_S256x512_o160_256_S32x128, ?_⟩
  refine ⟨S _ hW 20 512 128 640 (by decide) rfl rfl rfl inb_S1024x128_S32x128_640_0 inb_S1024x5120_S256x5120_512_0 inb_S1024x128_S32x128_640_0 slices_S256x512_o128_128_S32x128 slices_S256x512_o128_384_S32x128 slices_S256x512_o128_0_S32x128 slices_S256x512_o128_256_S32x128, ?_⟩
  refine ⟨S _ hW 19 512 96 608 (by decide) rfl rfl rfl inb_S1024x128_S32x128_608_0 inb_S1024x5120_S256x5120_512_0 inb_S1024x128_S32x128_608_0 slices_S256x512_o96_128_S32x128 slices_S256x512_o96_384_S32x128 slices_S256x512_o96_0_S32x128 slices_S256x512_o96_256_S32x128, ?_⟩
  refine ⟨S _ hW 18 512 64 576 (by decide) rfl rfl rfl inb_S1024x128_S32x128_576_0 inb_S1024x5120_S256x5120_512_0 inb_S1024x128_S32x128_576_0 slices_S256x512_o64_128_S32x128 slices_S256x512_o64_384_S32x128 slices_S256x512_o64_0_S32x128 slices_S256x512_o64_256_S32x128, ?_⟩
  refine ⟨S _ hW 17 512 32 544 (by decide) rfl rfl rfl inb_S1024x128_S32x128_544_0 inb_S1024x5120_S256x5120_512_0 inb_S1024x128_S32x128_544_0 slices_S256x512_o32_128_S32x128 slices_S256x512_o32_384_S32x128 slices_S256x512_o32_0_S32x128 slices_S256x512_o32_256_S32x128, ?_⟩
  refine ⟨S _ hW 16 512 0 512 (by decide) rfl rfl rfl inb_S1024x128_S32x128_512_0 inb_S1024x5120_S256x5120_512_0 inb_S1024x128_S32x128_512_0 slices_S256x512_o0_128_S32x128 slices_S256x512_o0_384_S32x128 slices_S256x512_o0_0_S32x128 slices_S256x512_o0_256_S32x128, ?_⟩
  refine ⟨S _ hW 15 256 224 480 (by decide) rfl rfl rfl inb_S1024x128_S32x128_480_0 inb_S1024x5120_S256x5120_256_0 inb_S1024x128_S32x128_480_0 slices_S256x512_o224_128_S32x128 slices_S256x512_o224_384_S32x128 slices_S256x512_o224_0_S32x128 slices_S256x512_o224_256_S32x128, ?_⟩
  refine ⟨S _ hW 14 256 192 448 (by decide) rfl rfl rfl inb_S1024x128_S32x128_448_0 inb_S1024x5120_S256x5120_256_0 inb_S1024x128_S32x128_448_0 slices_S256x512_o192_128_S32x128 slices_S256x512_o192_384_S32x128 slices_S256x512_o192_0_S32x128 slices_S256x512_o192_256_S32x128, ?_⟩
  refine ⟨S _ hW 13 256 160 416 (by decide) rfl rfl rfl inb_S1024x128_S32x128_416_0 inb_S1024x5120_S256x5120_256_0 inb_S1024x128_S32x128_416_0 slices_S256x512_o160_128_S32x128 slices_S256x512_o160_384_S32x128 slices_S256x512_o160_0_S32x128 slices_S256x512_o160_256_S32x128, ?_⟩
  refine ⟨S _ hW 12 256 128 384 (by decide) rfl rfl rfl inb_S1024x128_S32x128_384_0 inb_S1024x5120_S256x5120_256_0 inb_S1024x128_S32x128_384_0 slices_S256x512_o128_128_S32x128 slices_S256x512_o128_384_S32x128 slices_S256x512_o128_0_S32x128 slices_S256x512_o128_256_S32x128, ?_⟩
  refine ⟨S _ hW 11 256 96 352 (by decide) rfl rfl rfl inb_S1024x128_S32x128_352_0 inb_S1024x5120_S256x5120_256_0 inb_S1024x128_S32x128_352_0 slices_S256x512_o96_128_S32x128 slices_S256x512_o96_384_S32x128 slices_S256x512_o96_0_S32x128 slices_S256x512_o96_256_S32x128, ?_⟩
  refine ⟨S _ hW 10 256 64 320 (by decide) rfl rfl rfl inb_S1024x128_S32x128_320_0 inb_S1024x5120_S256x5120_256_0 inb_S1024x128_S32x128_320_0 slices_S256x512_o64_128_S32x128 slices_S256x512_o64_384_S32x128 slices_S256x512_o64_0_S32x128 slices_S256x512_o64_256_S32x128, ?_⟩
  refine ⟨S _ hW 9 256 32 288 (by decide) rfl rfl rfl inb_S1024x128_S32x128_288_0 inb_S1024x5120_S256x5120_256_0 inb_S1024x128_S32x128_288_0 slices_S256x512_o32_128_S32x128 slices_S256x512_o32_384_S32x128 slices_S256x512_o32_0_S32x128 slices_S256x512_o32_256_S32x128, ?_⟩
  refine ⟨S _ hW 8 256 0 256 (by decide) rfl rfl rfl inb_S1024x128_S32x128_256_0 inb_S1024x5120_S256x5120_256_0 inb_S1024x128_S32x128_256_0 slices_S256x512_o0_128_S32x128 slices_S256x512_o0_384_S32x128 slices_S256x512_o0_0_S32x128 slices_S256x512_o0_256_S32x128, ?_⟩
  refine ⟨S _ hW 7 0 224 224 (by decide) rfl rfl rfl inb_S1024x128_S32x128_224_0 inb_S1024x5120_S256x5120_0_0 inb_S1024x128_S32x128_224_0 slices_S256x512_o224_128_S32x128 slices_S256x512_o224_384_S32x128 slices_S256x512_o224_0_S32x128 slices_S256x512_o224_256_S32x128, ?_⟩
  refine ⟨S _ hW 6 0 192 192 (by decide) rfl rfl rfl inb_S1024x128_S32x128_192_0 inb_S1024x5120_S256x5120_0_0 inb_S1024x128_S32x128_192_0 slices_S256x512_o192_128_S32x128 slices_S256x512_o192_384_S32x128 slices_S256x512_o192_0_S32x128 slices_S256x512_o192_256_S32x128, ?_⟩
  refine ⟨S _ hW 5 0 160 160 (by decide) rfl rfl rfl inb_S1024x128_S32x128_160_0 inb_S1024x5120_S256x5120_0_0 inb_S1024x128_S32x128_160_0 slices_S256x512_o160_128_S32x128 slices_S256x512_o160_384_S32x128 slices_S256x512_o160_0_S32x128 slices_S256x512_o160_256_S32x128, ?_⟩
  refine ⟨S _ hW 4 0 128 128 (by decide) rfl rfl rfl inb_S1024x128_S32x128_128_0 inb_S1024x5120_S256x5120_0_0 inb_S1024x128_S32x128_128_0 slices_S256x512_o128_128_S32x128 slices_S256x512_o128_384_S32x128 slices_S256x512_o128_0_S32x128 slices_S256x512_o128_256_S32x128, ?_⟩
  refine ⟨S _ hW 3 0 96 96 (by decide) rfl rfl rfl inb_S1024x128_S32x128_96_0 inb_S1024x5120_S256x5120_0_0 inb_S1024x128_S32x128_96_0 slices_S256x512_o96_128_S32x128 slices_S256x512_o96_384_S32x128 slices_S256x512_o96_0_S32x128 slices_S256x512_o96_256_S32x128, ?_⟩
  refine ⟨S _ hW 2 0 64 64 (by decide) rfl rfl rfl inb_S1024x128_S32x128_64_0 inb_S1024x5120_S256x5120_0_0 inb_S1024x128_S32x128_64_0 slices_S256x512_o64_128_S32x128 slices_S256x512_o64_384_S32x128 slices_S256x512_o64_0_S32x128 slices_S256x512_o64_256_S32x128, ?_⟩
  refine ⟨S _ hW 1 0 32 32 (by decide) rfl rfl rfl inb_S1024x128_S32x128_32_0 inb_S1024x5120_S256x5120_0_0 inb_S1024x128_S32x128_32_0 slices_S256x512_o32_128_S32x128 slices_S256x512_o32_384_S32x128 slices_S256x512_o32_0_S32x128 slices_S256x512_o32_256_S32x128, ?_⟩
  refine ⟨S _ hW 0 0 0 0 (by decide) rfl rfl rfl inb_S1024x128_S32x128_0_0 inb_S1024x5120_S256x5120_0_0 inb_S1024x128_S32x128_0_0 slices_S256x512_o0_128_S32x128 slices_S256x512_o0_384_S32x128 slices_S256x512_o0_0_S32x128 slices_S256x512_o0_256_S32x128, ?_⟩
  trivial

/-- What the scale scratch hold after the run. -/
theorem runMidScales (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x128 .f32) (f) :
    v.read (Elt F) (v.writes (Elt F) f (runMid (F := F) c i arg2 harg2 arg3 harg3 arg4 harg4 arg5 harg5 arg6 harg6 arg7 harg7 arg8 harg8 arg9 harg9 arg10 harg10 hc1 x0 x1 x2 x3 xs1).2.2.2.1) = (lanes x1 (wide x0 x2 x3 (i 1)) (i 1) xs1) :=
  read_of v f _ _ (runMidScalesPieces c i arg2 harg2 arg3 harg3 arg4 harg4 arg5 harg5 arg6 harg6 arg7 harg7 arg8 harg8 arg9 harg9 arg10 harg10 hc1 x0 x1 x2 x3 xs1) (View.cover_of_tiledL (s := S1024x128) _ S32x128.size (by sl_kernel_rfl))

end Cert.Proof.GuB

end
-- ==== Proof.GuBEndOut.lean ====
/- What the last grid point of a row of the grid leaves in its output blocks and in the scale scratch. -/
module

public import proofs.«01_k».proof.Proof.GuBMidOut

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

set_option maxHeartbeats 16000000 in
/-- Every store of the codes leaves its part of the block. -/
theorem runEndCodesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .fp8e4m3) (codesBlk x1 (wide x0 x2 x3 (i 1))) (runEnd (F := F) c i arg2 harg2 arg3 harg3 arg4 harg4 arg5 harg5 arg6 harg6 arg7 harg7 arg8 harg8 arg9 harg9 arg10 harg10 hc1 x0 x1 x2 x3 xs1).1 := by
  have C := codes (F := F) arg3 harg3 x1 (wide x0 x2 x3 (i 1))
  have hW := loadEnd (F := F) c i arg2 harg2 arg4 harg4 arg5 harg5 arg9 x0 x2 x3
  unfold runEnd; dsimp only
  refine ⟨C _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨C _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨C _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨C _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨C _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨C _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨C _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨C _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨C _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨C _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨C _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨C _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨C _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨C _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨C _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨C _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨C _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨C _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨C _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨C _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨C _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨C _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨C _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨C _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨C _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨C _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨C _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨C _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨C _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨C _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨C _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨C _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨C _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨C _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨C _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨C _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨C _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨C _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨C _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨C _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨C _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨C _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨C _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨C _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨C _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨C _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨C _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨C _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨C _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨C _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨C _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨C _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨C _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨C _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨C _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨C _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨C _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨C _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨C _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨C _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨C _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨C _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨C _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨C _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the codes hold after the run. -/
theorem runEndCodes (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .fp8e4m3) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).1) = (codesBlk x1 (wide x0 x2 x3 (i 1))) :=
  read_of v f _ _ (runEndCodesPieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the values leaves its part of the block. -/
theorem runEndWidePieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .bf16) (wideBlk x1 (wide x0 x2 x3 (i 1))) (runEnd (F := F) c i arg2 harg2 arg3 harg3 arg4 harg4 arg5 harg5 arg6 harg6 arg7 harg7 arg8 harg8 arg9 harg9 arg10 harg10 hc1 x0 x1 x2 x3 xs1).2.2.1 := by
  have D := wides (F := F) arg3 harg3 x1 (wide x0 x2 x3 (i 1))
  have hW := loadEnd (F := F) c i arg2 harg2 arg4 harg4 arg5 harg5 arg9 x0 x2 x3
  unfold runEnd; dsimp only
  refine ⟨D _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨D _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨D _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨D _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨D _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨D _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨D _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨D _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨D _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨D _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨D _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨D _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨D _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨D _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨D _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨D _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨D _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨D _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨D _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨D _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨D _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨D _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨D _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨D _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨D _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨D _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨D _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨D _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨D _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨D _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨D _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨D _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨D _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨D _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨D _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨D _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨D _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨D _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨D _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨D _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨D _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨D _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨D _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨D _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨D _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨D _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨D _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨D _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨D _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨D _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨D _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨D _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨D _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨D _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨D _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨D _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨D _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨D _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨D _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨D _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨D _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨D _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨D _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨D _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the values hold after the run. -/
theorem runEndWide (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .bf16) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).2.2.1) = (wideBlk x1 (wide x0 x2 x3 (i 1))) :=
  read_of v f _ _ (runEndWidePieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the scale scratch leaves its part of the block. -/
theorem runEndScalesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x128) (e := .f32) (lanes x1 (wide x0 x2 x3 (i 1)) (i 1) xs1) (runEnd (F := F) c i arg2 harg2 arg3 harg3 arg4 harg4 arg5 harg5 arg6 harg6 arg7 harg7 arg8 harg8 arg9 harg9 arg10 harg10 hc1 x0 x1 x2 x3 xs1).2.2.2.1 := by
  have S := scales (F := F) i arg3 harg3 arg10 harg10 x1 xs1 (wide x0 x2 x3 (i 1))
  have hW := loadEnd (F := F) c i arg2 harg2 arg4 harg4 arg5 harg5 arg9 x0 x2 x3
  show View.PiecesOf (lanes x1 (wide x0 x2 x3 (i 1)) (i 1) xs1) (runEnd.sl.HS1_32 (F := F) c i arg2 harg2 arg3 harg3 arg4 harg4 arg5 harg5 arg9 arg10 harg10 x0 x1 x2 x3 xs1)
  unfold runEnd.sl.HS1_32
  refine ⟨S _ hW 31 768 224 992 (by decide) rfl rfl rfl inb_S1024x128_S32x128_992_0 inb_S1024x5120_S256x5120_768_0 inb_S1024x128_S32x128_992_0 slices_S256x512_o224_128_S32x128 slices_S256x512_o224_384_S32x128 slices_S256x512_o224_0_S32x128 slices_S256x512_o224_256_S32x128, ?_⟩
  refine ⟨S _ hW 30 768 192 960 (by decide) rfl rfl rfl inb_S1024x128_S32x128_960_0 inb_S1024x5120_S256x5120_768_0 inb_S1024x128_S32x128_960_0 slices_S256x512_o192_128_S32x128 slices_S256x512_o192_384_S32x128 slices_S256x512_o192_0_S32x128 slices_S256x512_o192_256_S32x128, ?_⟩
  refine ⟨S _ hW 29 768 160 928 (by decide) rfl rfl rfl inb_S1024x128_S32x128_928_0 inb_S1024x5120_S256x5120_768_0 inb_S1024x128_S32x128_928_0 slices_S256x512_o160_128_S32x128 slices_S256x512_o160_384_S32x128 slices_S256x512_o160_0_S32x128 slices_S256x512_o160_256_S32x128, ?_⟩
  refine ⟨S _ hW 28 768 128 896 (by decide) rfl rfl rfl inb_S1024x128_S32x128_896_0 inb_S1024x5120_S256x5120_768_0 inb_S1024x128_S32x128_896_0 slices_S256x512_o128_128_S32x128 slices_S256x512_o128_384_S32x128 slices_S256x512_o128_0_S32x128 slices_S256x512_o128_256_S32x128, ?_⟩
  refine ⟨S _ hW 27 768 96 864 (by decide) rfl rfl rfl inb_S1024x128_S32x128_864_0 inb_S1024x5120_S256x5120_768_0 inb_S1024x128_S32x128_864_0 slices_S256x512_o96_128_S32x128 slices_S256x512_o96_384_S32x128 slices_S256x512_o96_0_S32x128 slices_S256x512_o96_256_S32x128, ?_⟩
  refine ⟨S _ hW 26 768 64 832 (by decide) rfl rfl rfl inb_S1024x128_S32x128_832_0 inb_S1024x5120_S256x5120_768_0 inb_S1024x128_S32x128_832_0 slices_S256x512_o64_128_S32x128 slices_S256x512_o64_384_S32x128 slices_S256x512_o64_0_S32x128 slices_S256x512_o64_256_S32x128, ?_⟩
  refine ⟨S _ hW 25 768 32 800 (by decide) rfl rfl rfl inb_S1024x128_S32x128_800_0 inb_S1024x5120_S256x5120_768_0 inb_S1024x128_S32x128_800_0 slices_S256x512_o32_128_S32x128 slices_S256x512_o32_384_S32x128 slices_S256x512_o32_0_S32x128 slices_S256x512_o32_256_S32x128, ?_⟩
  refine ⟨S _ hW 24 768 0 768 (by decide) rfl rfl rfl inb_S1024x128_S32x128_768_0 inb_S1024x5120_S256x5120_768_0 inb_S1024x128_S32x128_768_0 slices_S256x512_o0_128_S32x128 slices_S256x512_o0_384_S32x128 slices_S256x512_o0_0_S32x128 slices_S256x512_o0_256_S32x128, ?_⟩
  refine ⟨S _ hW 23 512 224 736 (by decide) rfl rfl rfl inb_S1024x128_S32x128_736_0 inb_S1024x5120_S256x5120_512_0 inb_S1024x128_S32x128_736_0 slices_S256x512_o224_128_S32x128 slices_S256x512_o224_384_S32x128 slices_S256x512_o224_0_S32x128 slices_S256x512_o224_256_S32x128, ?_⟩
  refine ⟨S _ hW 22 512 192 704 (by decide) rfl rfl rfl inb_S1024x128_S32x128_704_0 inb_S1024x5120_S256x5120_512_0 inb_S1024x128_S32x128_704_0 slices_S256x512_o192_128_S32x128 slices_S256x512_o192_384_S32x128 slices_S256x512_o192_0_S32x128 slices_S256x512_o192_256_S32x128, ?_⟩
  refine ⟨S _ hW 21 512 160 672 (by decide) rfl rfl rfl inb_S1024x128_S32x128_672_0 inb_S1024x5120_S256x5120_512_0 inb_S1024x128_S32x128_672_0 slices_S256x512_o160_128_S32x128 slices_S256x512_o160_384_S32x128 slices_S256x512_o160_0_S32x128 slices_S256x512_o160_256_S32x128, ?_⟩
  refine ⟨S _ hW 20 512 128 640 (by decide) rfl rfl rfl inb_S1024x128_S32x128_640_0 inb_S1024x5120_S256x5120_512_0 inb_S1024x128_S32x128_640_0 slices_S256x512_o128_128_S32x128 slices_S256x512_o128_384_S32x128 slices_S256x512_o128_0_S32x128 slices_S256x512_o128_256_S32x128, ?_⟩
  refine ⟨S _ hW 19 512 96 608 (by decide) rfl rfl rfl inb_S1024x128_S32x128_608_0 inb_S1024x5120_S256x5120_512_0 inb_S1024x128_S32x128_608_0 slices_S256x512_o96_128_S32x128 slices_S256x512_o96_384_S32x128 slices_S256x512_o96_0_S32x128 slices_S256x512_o96_256_S32x128, ?_⟩
  refine ⟨S _ hW 18 512 64 576 (by decide) rfl rfl rfl inb_S1024x128_S32x128_576_0 inb_S1024x5120_S256x5120_512_0 inb_S1024x128_S32x128_576_0 slices_S256x512_o64_128_S32x128 slices_S256x512_o64_384_S32x128 slices_S256x512_o64_0_S32x128 slices_S256x512_o64_256_S32x128, ?_⟩
  refine ⟨S _ hW 17 512 32 544 (by decide) rfl rfl rfl inb_S1024x128_S32x128_544_0 inb_S1024x5120_S256x5120_512_0 inb_S1024x128_S32x128_544_0 slices_S256x512_o32_128_S32x128 slices_S256x512_o32_384_S32x128 slices_S256x512_o32_0_S32x128 slices_S256x512_o32_256_S32x128, ?_⟩
  refine ⟨S _ hW 16 512 0 512 (by decide) rfl rfl rfl inb_S1024x128_S32x128_512_0 inb_S1024x5120_S256x5120_512_0 inb_S1024x128_S32x128_512_0 slices_S256x512_o0_128_S32x128 slices_S256x512_o0_384_S32x128 slices_S256x512_o0_0_S32x128 slices_S256x512_o0_256_S32x128, ?_⟩
  refine ⟨S _ hW 15 256 224 480 (by decide) rfl rfl rfl inb_S1024x128_S32x128_480_0 inb_S1024x5120_S256x5120_256_0 inb_S1024x128_S32x128_480_0 slices_S256x512_o224_128_S32x128 slices_S256x512_o224_384_S32x128 slices_S256x512_o224_0_S32x128 slices_S256x512_o224_256_S32x128, ?_⟩
  refine ⟨S _ hW 14 256 192 448 (by decide) rfl rfl rfl inb_S1024x128_S32x128_448_0 inb_S1024x5120_S256x5120_256_0 inb_S1024x128_S32x128_448_0 slices_S256x512_o192_128_S32x128 slices_S256x512_o192_384_S32x128 slices_S256x512_o192_0_S32x128 slices_S256x512_o192_256_S32x128, ?_⟩
  refine ⟨S _ hW 13 256 160 416 (by decide) rfl rfl rfl inb_S1024x128_S32x128_416_0 inb_S1024x5120_S256x5120_256_0 inb_S1024x128_S32x128_416_0 slices_S256x512_o160_128_S32x128 slices_S256x512_o160_384_S32x128 slices_S256x512_o160_0_S32x128 slices_S256x512_o160_256_S32x128, ?_⟩
  refine ⟨S _ hW 12 256 128 384 (by decide) rfl rfl rfl inb_S1024x128_S32x128_384_0 inb_S1024x5120_S256x5120_256_0 inb_S1024x128_S32x128_384_0 slices_S256x512_o128_128_S32x128 slices_S256x512_o128_384_S32x128 slices_S256x512_o128_0_S32x128 slices_S256x512_o128_256_S32x128, ?_⟩
  refine ⟨S _ hW 11 256 96 352 (by decide) rfl rfl rfl inb_S1024x128_S32x128_352_0 inb_S1024x5120_S256x5120_256_0 inb_S1024x128_S32x128_352_0 slices_S256x512_o96_128_S32x128 slices_S256x512_o96_384_S32x128 slices_S256x512_o96_0_S32x128 slices_S256x512_o96_256_S32x128, ?_⟩
  refine ⟨S _ hW 10 256 64 320 (by decide) rfl rfl rfl inb_S1024x128_S32x128_320_0 inb_S1024x5120_S256x5120_256_0 inb_S1024x128_S32x128_320_0 slices_S256x512_o64_128_S32x128 slices_S256x512_o64_384_S32x128 slices_S256x512_o64_0_S32x128 slices_S256x512_o64_256_S32x128, ?_⟩
  refine ⟨S _ hW 9 256 32 288 (by decide) rfl rfl rfl inb_S1024x128_S32x128_288_0 inb_S1024x5120_S256x5120_256_0 inb_S1024x128_S32x128_288_0 slices_S256x512_o32_128_S32x128 slices_S256x512_o32_384_S32x128 slices_S256x512_o32_0_S32x128 slices_S256x512_o32_256_S32x128, ?_⟩
  refine ⟨S _ hW 8 256 0 256 (by decide) rfl rfl rfl inb_S1024x128_S32x128_256_0 inb_S1024x5120_S256x5120_256_0 inb_S1024x128_S32x128_256_0 slices_S256x512_o0_128_S32x128 slices_S256x512_o0_384_S32x128 slices_S256x512_o0_0_S32x128 slices_S256x512_o0_256_S32x128, ?_⟩
  refine ⟨S _ hW 7 0 224 224 (by decide) rfl rfl rfl inb_S1024x128_S32x128_224_0 inb_S1024x5120_S256x5120_0_0 inb_S1024x128_S32x128_224_0 slices_S256x512_o224_128_S32x128 slices_S256x512_o224_384_S32x128 slices_S256x512_o224_0_S32x128 slices_S256x512_o224_256_S32x128, ?_⟩
  refine ⟨S _ hW 6 0 192 192 (by decide) rfl rfl rfl inb_S1024x128_S32x128_192_0 inb_S1024x5120_S256x5120_0_0 inb_S1024x128_S32x128_192_0 slices_S256x512_o192_128_S32x128 slices_S256x512_o192_384_S32x128 slices_S256x512_o192_0_S32x128 slices_S256x512_o192_256_S32x128, ?_⟩
  refine ⟨S _ hW 5 0 160 160 (by decide) rfl rfl rfl inb_S1024x128_S32x128_160_0 inb_S1024x5120_S256x5120_0_0 inb_S1024x128_S32x128_160_0 slices_S256x512_o160_128_S32x128 slices_S256x512_o160_384_S32x128 slices_S256x512_o160_0_S32x128 slices_S256x512_o160_256_S32x128, ?_⟩
  refine ⟨S _ hW 4 0 128 128 (by decide) rfl rfl rfl inb_S1024x128_S32x128_128_0 inb_S1024x5120_S256x5120_0_0 inb_S1024x128_S32x128_128_0 slices_S256x512_o128_128_S32x128 slices_S256x512_o128_384_S32x128 slices_S256x512_o128_0_S32x128 slices_S256x512_o128_256_S32x128, ?_⟩
  refine ⟨S _ hW 3 0 96 96 (by decide) rfl rfl rfl inb_S1024x128_S32x128_96_0 inb_S1024x5120_S256x5120_0_0 inb_S1024x128_S32x128_96_0 slices_S256x512_o96_128_S32x128 slices_S256x512_o96_384_S32x128 slices_S256x512_o96_0_S32x128 slices_S256x512_o96_256_S32x128, ?_⟩
  refine ⟨S _ hW 2 0 64 64 (by decide) rfl rfl rfl inb_S1024x128_S32x128_64_0 inb_S1024x5120_S256x5120_0_0 inb_S1024x128_S32x128_64_0 slices_S256x512_o64_128_S32x128 slices_S256x512_o64_384_S32x128 slices_S256x512_o64_0_S32x128 slices_S256x512_o64_256_S32x128, ?_⟩
  refine ⟨S _ hW 1 0 32 32 (by decide) rfl rfl rfl inb_S1024x128_S32x128_32_0 inb_S1024x5120_S256x5120_0_0 inb_S1024x128_S32x128_32_0 slices_S256x512_o32_128_S32x128 slices_S256x512_o32_384_S32x128 slices_S256x512_o32_0_S32x128 slices_S256x512_o32_256_S32x128, ?_⟩
  refine ⟨S _ hW 0 0 0 0 (by decide) rfl rfl rfl inb_S1024x128_S32x128_0_0 inb_S1024x5120_S256x5120_0_0 inb_S1024x128_S32x128_0_0 slices_S256x512_o0_128_S32x128 slices_S256x512_o0_384_S32x128 slices_S256x512_o0_0_S32x128 slices_S256x512_o0_256_S32x128, ?_⟩
  trivial

/-- What the scale scratch hold after the run. -/
theorem runEndScales (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x128 .f32) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).2.2.2.1) = (lanes x1 (wide x0 x2 x3 (i 1)) (i 1) xs1) :=
  read_of v f _ _ (runEndScalesPieces c i arg2 harg2 arg3 harg3 arg4 harg4 arg5 harg5 arg6 harg6 arg7 harg7 arg8 harg8 arg9 harg9 arg10 harg10 hc1 x0 x1 x2 x3 xs1) (View.cover_of_tiledL (s := S1024x128) _ S32x128.size (by sl_kernel_rfl))

/-- Transposed scales: one store. -/
theorem turn (G : S1024x128.Idx → Elt F .f32) (v : Vec F S128x128 .f32) (o : ℕ) (ho : o + 128 ≤ 1024)
    (hv : ∀ z : S128x128.Idx, v z = G (ix2 (⟨o + (z 0).val, by have h : (z 0).val < 128 := (z 0).isLt; omega⟩ : Fin 1024) (z 1)))
    (inbd) (z : S50x128.Idx) :
    k0_pay4 (F := F) v z = (fun y : S50x1024.Idx => G (ix2 (y 1) (⟨(y 0).val, by have h : (y 0).val < 50 := (y 0).isLt; omega⟩ : Fin 128)))
      ((Rect.unit (s := S50x1024) ![0, o] S50x128.size inbd).emb z) := by
  have hz0 : (z 0).val < 50 := (z 0).isLt
  have hz1 : (z 1).val < 128 := (z 1).isLt
  have e : k0_pay4 (F := F) v z = v (ix2 (⟨(z 1).val, hz1⟩ : Fin 128) (⟨(z 0).val, by omega⟩ : Fin 128)) := by
    unfold k0_pay4
    refine congrArg v (funext fun a => Fin.ext ?_)
    match a with
    | ⟨0, _⟩ => show 0 + (z 1).val = (z 1).val; omega
    | ⟨1, _⟩ => show 0 + (z 0).val = (z 0).val; omega
  rw [e, hv]
  refine congrArg G (funext fun a => Fin.ext ?_)
  match a with
  | ⟨0, _⟩ => show o + (z 1).val = o + 1 * (z 1).val; omega
  | ⟨1, _⟩ => show (z 0).val = 0 + 1 * (z 0).val; omega

/-- The scale scratch, one block of 128 rows loaded back. -/
theorem back (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (o : ℕ) (ho : o + 128 ≤ 1024) (inb) (z : S128x128.Idx) :
    arg10.view.readCov (runEnd.sl.HS1_32 (F := F) c i arg2 harg2 arg3 harg3 arg4 harg4 arg5 harg5 arg9 arg10 harg10 x0 x1 x2 x3 xs1) (Rect.unit (s := S1024x128) ![o, 0] S128x128.size inb).toLoadRect z
      = lanes x1 (wide x0 x2 x3 (i 1)) (i 1) xs1 (ix2 (⟨o + (z 0).val, by have h : (z 0).val < 128 := (z 0).isLt; omega⟩ : Fin 1024) (z 1)) := by
  rw [View.readCov_eq_canon']
  have hP := runEndScalesPieces (F := F) c i arg2 harg2 arg3 harg3 arg4 harg4 arg5 harg5 arg6 harg6 arg7 harg7 arg8 harg8 arg9 harg9 arg10 harg10 hc1 x0 x1 x2 x3 xs1
  refine (View.canon_apply_of_pieces (lanes x1 (wide x0 x2 x3 (i 1)) (i 1) xs1) _ hP.mem _ (View.cover_of_tiledL (s := S1024x128) _ S32x128.size (by sl_kernel_rfl) _)).trans ?_
  refine congrArg _ (funext fun a => Fin.ext ?_)
  match a with
  | ⟨0, _⟩ => show o + 1 * (z 0).val = o + (z 0).val; omega
  | ⟨1, _⟩ => show 0 + 1 * (z 1).val = (z 1).val; omega

/-- The stores of the transposed scales. -/
theorem runEndRowPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S50x1024) (e := .f32) (fun y : S50x1024.Idx => lanes x1 (wide x0 x2 x3 (i 1)) (i 1) xs1 (ix2 (y 1) (⟨(y 0).val, by have h : (y 0).val < 50 := (y 0).isLt; omega⟩ : Fin 128))) (runEnd (F := F) c i arg2 harg2 arg3 harg3 arg4 harg4 arg5 harg5 arg6 harg6 arg7 harg7 arg8 harg8 arg9 harg9 arg10 harg10 hc1 x0 x1 x2 x3 xs1).2.1 := by
  have T := turn (F := F) (lanes x1 (wide x0 x2 x3 (i 1)) (i 1) xs1)
  have R := back (F := F) c i arg2 harg2 arg3 harg3 arg4 harg4 arg5 harg5 arg6 harg6 arg7 harg7 arg8 harg8 arg9 harg9 arg10 harg10 hc1 x0 x1 x2 x3 xs1
  unfold runEnd; dsimp only
  refine ⟨T _ 896 (by decide) (R 896 (by decide) inb_S1024x128_S128x128_896_0) inb_S50x1024_S50x128_0_896, ?_⟩
  refine ⟨T _ 768 (by decide) (R 768 (by decide) inb_S1024x128_S128x128_768_0) inb_S50x1024_S50x128_0_768, ?_⟩
  refine ⟨T _ 640 (by decide) (R 640 (by decide) inb_S1024x128_S128x128_640_0) inb_S50x1024_S50x128_0_640, ?_⟩
  refine ⟨T _ 512 (by decide) (R 512 (by decide) inb_S1024x128_S128x128_512_0) inb_S50x1024_S50x128_0_512, ?_⟩
  refine ⟨T _ 384 (by decide) (R 384 (by decide) inb_S1024x128_S128x128_384_0) inb_S50x1024_S50x128_0_384, ?_⟩
  refine ⟨T _ 256 (by decide) (R 256 (by decide) inb_S1024x128_S128x128_256_0) inb_S50x1024_S50x128_0_256, ?_⟩
  refine ⟨T _ 128 (by decide) (R 128 (by decide) inb_S1024x128_S128x128_128_0) inb_S50x1024_S50x128_0_128, ?_⟩
  refine ⟨T _ 0 (by decide) (R 0 (by decide) inb_S1024x128_S128x128_0_0) inb_S50x1024_S50x128_0_0, ?_⟩
  trivial

/-- What the row scales' output holds after the run. -/
theorem runEndRow (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S50x1024 .f32) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).2.1) = fun y : S50x1024.Idx => lanes x1 (wide x0 x2 x3 (i 1)) (i 1) xs1 (ix2 (y 1) (⟨(y 0).val, by have h : (y 0).val < 50 := (y 0).isLt; omega⟩ : Fin 128)) :=
  read_of v f _ _ (runEndRowPieces c i arg2 harg2 arg3 harg3 arg4 harg4 arg5 harg5 arg6 harg6 arg7 harg7 arg8 harg8 arg9 harg9 arg10 harg10 hc1 x0 x1 x2 x3 xs1) (View.cover_of_tiledL (s := S50x1024) _ S50x128.size (by sl_kernel_rfl))

end Cert.Proof.GuB

end
-- ==== Proof.GuBBody.lean ====
/- The frame of the gate and up kernel. The body reads its scale scratch before anything was stored there, so the invariant says
   which lanes are already known: those of the column steps since the row tile began. The last step of a row tile reads only such lanes. -/
module

public import proofs.«01_k».proof.Proof.GuBEndOut
public import proofs.«01_k».proof.Proof.Gen.GateUp.Launch
public import Idealize.ShloMosaic.Lib.Claim

@[expose] public section

set_option maxRecDepth 16384

noncomputable section

namespace Cert.Proof.GuB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window but the scales' is live at every point. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live6 : ∀ t : Fin cfg0.N, cfg0.idle 6 (grid0.coords t) = false := fun _ => rfl

/-- The widened columns a point multiplies by. -/
def blkW (c : Dev nD) (t : Fin cfg0.N) : Vec F S5120x512 .bf16 := wide (iblk m c 0 t) (iblk m c 2 t) (iblk m c 3 t) (grid0.coords t 1)

/-- The scale a point computes for row `a` and its column chunk `b`. -/
def sv (c : Dev nD) (t : Fin cfg0.N) (a : Fin 1024) (b : Fin 2) : Elt F .f32 := scaleBlk (iblk m c 1 t) (blkW m c t) a b

/-- A point's column step. -/
theorem step_eq (t : Fin cfg0.N) : (grid0.coords t 1).val = t.val % 25 := by
  have e : (grid0.coords t 1).val = t.val / 1 % 25 := Pipeline.Grid.coords_val (G := grid0) t 1 (by decide) rfl
  rw [e, Nat.div_one]

/-- The scale scratch before position `n`: every lane written since the row tile began holds its point's scale. -/
def Good (c : Dev nD) (n : ℕ) (d : Vec F S1024x128 .f32) : Prop :=
  ∀ t : Fin cfg0.N, t.val < n → t.val / 25 = n / 25 → ∀ (a : Fin 1024) (b : Fin 2),
    d (ix2 a (⟨2 * (t.val % 25) + b.val, by have h := b.isLt; omega⟩ : Fin 128)) = sv m c t a b

/-- A point adds its own two lanes. -/
theorem good_lanes (c : Dev nD) (t : Fin cfg0.N) (d : Vec F S1024x128 .f32) (hg : Good m c t.val d) (t' : Fin cfg0.N) (hle : t'.val ≤ t.val) (hrow : t'.val / 25 = t.val / 25)
    (a : Fin 1024) (b : Fin 2) :
    lanes (iblk m c 1 t) (blkW m c t) (grid0.coords t 1) d (ix2 a (⟨2 * (t'.val % 25) + b.val, by have h := b.isLt; omega⟩ : Fin 128)) = sv m c t' a b := by
  have hb := b.isLt
  unfold lanes
  rw [step_eq t]
  show (if 2 * (t'.val % 25) + b.val = 2 * (t.val % 25) + 1 then scaleBlk (iblk m c 1 t) (blkW m c t) a 1
    else if 2 * (t'.val % 25) + b.val = 2 * (t.val % 25) then scaleBlk (iblk m c 1 t) (blkW m c t) a 0 else d _) = sv m c t' a b
  rcases Nat.lt_or_ge t'.val t.val with hlt | hge
  · rw [if_neg (by omega), if_neg (by omega)]
    exact hg t' hlt hrow a b
  · obtain rfl : t' = t := Fin.ext (by omega)
    by_cases h1 : b.val = 1
    · rw [if_pos (by omega)]
      obtain rfl : b = 1 := Fin.ext h1
      rfl
    · rw [if_neg (by omega), if_pos (by omega)]
      obtain rfl : b = 0 := Fin.ext (by show b.val = 0; omega)
      rfl

/-- The scratch stays good. -/
theorem good_step (c : Dev nD) (t : Fin cfg0.N) (d : Vec F S1024x128 .f32) (hg : Good m c t.val d) :
    Good m c (t.val + 1) (lanes (iblk m c 1 t) (blkW m c t) (grid0.coords t 1) d) := by
  intro t' hlt hrow a b
  exact good_lanes m c t d hg t' (by omega) (by omega) a b

/-- The point of column step `k` in the row tile of point `t`. -/
def rowPoint (t : Fin cfg0.N) (k : ℕ) (hk : k < 25) : Fin cfg0.N :=
  ⟨25 * (t.val / 25) + k, by have ht : t.val < 400 := Nat.lt_of_lt_of_eq t.isLt N_0; exact Nat.lt_of_lt_of_eq (show 25 * (t.val / 25) + k < 400 by omega) N_0.symm⟩

/-- The row tile's scales, transposed, as its last point writes them. -/
def rowScales (c : Dev nD) (t : Fin cfg0.N) (y : S50x1024.Idx) : Elt F .f32 :=
  sv m c (rowPoint t ((y 0).val / 2) (by have h : (y 0).val < 50 := (y 0).isLt; omega)) (y 1) ⟨(y 0).val % 2, by omega⟩

/-- At the last point of a row tile the scratch holds all its scales. -/
theorem row_eq (c : Dev nD) (t : Fin cfg0.N) (d : Vec F S1024x128 .f32) (hg : Good m c t.val d) (hc : isLast (grid0.coords t)) :
    (fun y : S50x1024.Idx => lanes (iblk m c 1 t) (wide (iblk m c 0 t) (iblk m c 2 t) (iblk m c 3 t) (grid0.coords t 1)) (grid0.coords t 1) d (ix2 (y 1) (⟨(y 0).val, by have h : (y 0).val < 50 := (y 0).isLt; omega⟩ : Fin 128)))
      = rowScales m c t := by
  funext y
  have h24 := (hlast t).mp hc
  have hy : (y 0).val < 50 := (y 0).isLt
  have e := good_lanes m c t d hg (rowPoint t ((y 0).val / 2) (by omega)) (by show 25 * (t.val / 25) + (y 0).val / 2 ≤ t.val; omega)
    (by show (25 * (t.val / 25) + (y 0).val / 2) / 25 = t.val / 25; omega) (y 1) ⟨(y 0).val % 2, by omega⟩
  refine Eq.trans (congrArg _ ?_) e
  refine congrArg (fun q : Fin 128 => ix2 (y 1) q) (Fin.ext ?_)
  show (y 0).val = 2 * ((25 * (t.val / 25) + (y 0).val / 2) % 25) + (y 0).val % 2
  omega

/-- The invariant before position `n`: the weight scratch at anything, the scale scratch good, the generator register at some state. -/
def PhiS (c : Dev nD) (n : ℕ) : sProp 𝕄 :=
  iprop(iprop((∃ d, owns (c : Thread nD τ) scM0_0 fullShare d) ∗ (∃ d, ⌜Good m c n d⌝ ∗ owns (c : Thread nD τ) scM0_1 fullShare d)) ∗ (∃ r, prngReg c r))

/-- The proof data: each input's buffer at its block, the outputs at the block the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesBlk (iblk m c 1 t) (blkW m c t)
    | ⟨5, _⟩ => rowScales m c t
    | ⟨6, _⟩ => wideBlk (iblk m c 1 t) (blkW m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesBlk (iblk m c 1 t) (blkW m c t) := by dsimp only [dats]
theorem after0_5 (c : Dev nD) (t : Fin cfg0.N) : (dats m 0 c).after 5 t = rowScales m c t := by dsimp only [dats]
theorem after0_6 (c : Dev nD) (t : Fin cfg0.N) : (dats m 0 c).after 6 t = wideBlk (iblk m c 1 t) (blkW m c t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12000000 in
/-- The body at any point: off the last column step the scales' window is handed back untouched, at the last step it takes the transposed scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  by_cases hc : isLast (grid0.coords t)
  · rw [show (dats m 0 c).leavesExact 0 t = owns (c : Thread nD τ) (ms0_0 t) fullShare ((dats m 0 c).after 0 t) from by
      unfold Dat.leavesExact; rw [live0 t], after0_0]
    rw [show (dats m 0 c).leavesExact 1 t = owns (c : Thread nD τ) (ms0_1 t) fullShare ((dats m 0 c).after 1 t) from by
      unfold Dat.leavesExact; rw [live1 t], after0_1]
    rw [show (dats m 0 c).leavesExact 2 t = owns (c : Thread nD τ) (ms0_2 t) fullShare ((dats m 0 c).after 2 t) from by
      unfold Dat.leavesExact; rw [live2 t], after0_2]
    rw [show (dats m 0 c).leavesExact 3 t = owns (c : Thread nD τ) (ms0_3 t) fullShare ((dats m 0 c).after 3 t) from by
      unfold Dat.leavesExact; rw [live3 t], after0_3]
    rw [show (dats m 0 c).leavesExact 4 t = owns (c : Thread nD τ) (ms0_4 t) fullShare ((dats m 0 c).after 4 t) from by
      unfold Dat.leavesExact; rw [live4 t], after0_4]
    rw [show (dats m 0 c).leavesExact 5 t = owns (c : Thread nD τ) (ms0_5 t) fullShare ((dats m 0 c).after 5 t) from by
      unfold Dat.leavesExact; rw [live5 t hc], after0_5]
    rw [show (dats m 0 c).leavesExact 6 t = owns (c : Thread nD τ) (ms0_6 t) fullShare ((dats m 0 c).after 6 t) from by
      unfold Dat.leavesExact; rw [live6 t], after0_6]
    iintro ⟨⟨⟨⟨%ds0, HS0⟩, ⟨%xs, %hg, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexists _; iexact HS0
    isplitl [HS1]; · iexact HS1
    iintro ⟨H0, H1, H2, H3, ⟨%e4, H4⟩, ⟨%e5, H5⟩, ⟨%e6, H6⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        iexists (lanes (iblk m c 1 t) (blkW m c t) (grid0.coords t 1) xs)
        isplitr
        · ipureintro; exact good_step m c t xs hg
        unfold owns; iexists _; isplitr
        swap; · iexact HS1
        ipureintro; exact runEndScales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact runEndCodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
    isplitl [H5]
    · unfold owns; iexists _; isplitr
      swap; · iexact H5
      ipureintro; exact (runEndRow c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _).trans (row_eq m c t xs hg hc)
    unfold owns; iexists _; isplitr
    swap; · iexact H6
    ipureintro; exact runEndWide c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
  · rw [show (dats m 0 c).leavesExact 0 t = owns (c : Thread nD τ) (ms0_0 t) fullShare ((dats m 0 c).after 0 t) from by
      unfold Dat.leavesExact; rw [live0 t], after0_0]
    rw [show (dats m 0 c).leavesExact 1 t = owns (c : Thread nD τ) (ms0_1 t) fullShare ((dats m 0 c).after 1 t) from by
      unfold Dat.leavesExact; rw [live1 t], after0_1]
    rw [show (dats m 0 c).leavesExact 2 t = owns (c : Thread nD τ) (ms0_2 t) fullShare ((dats m 0 c).after 2 t) from by
      unfold Dat.leavesExact; rw [live2 t], after0_2]
    rw [show (dats m 0 c).leavesExact 3 t = owns (c : Thread nD τ) (ms0_3 t) fullShare ((dats m 0 c).after 3 t) from by
      unfold Dat.leavesExact; rw [live3 t], after0_3]
    rw [show (dats m 0 c).leavesExact 4 t = owns (c : Thread nD τ) (ms0_4 t) fullShare ((dats m 0 c).after 4 t) from by
      unfold Dat.leavesExact; rw [live4 t], after0_4]
    rw [Dat.leavesExact_idle (dats m 0 c) 5 t (idle5 t hc) (noFlush5 t hc)]
    rw [show (dats m 0 c).leavesExact 6 t = owns (c : Thread nD τ) (ms0_6 t) fullShare ((dats m 0 c).after 6 t) from by
      unfold Dat.leavesExact; rw [live6 t], after0_6]
    iintro ⟨⟨⟨⟨%ds0, HS0⟩, ⟨%xs, %hg, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs).2.2.2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexists _; iexact HS0
    isplitl [HS1]; · iexact HS1
    iintro ⟨H0, H1, H2, H3, ⟨%e4, H4⟩, H5, ⟨%e6, H6⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        iexists (lanes (iblk m c 1 t) (blkW m c t) (grid0.coords t 1) xs)
        isplitr
        · ipureintro; exact good_step m c t xs hg
        unfold owns; iexists _; isplitr
        swap; · iexact HS1
        ipureintro; exact runMidScales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact runMidCodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
    isplitl [H5]; · iexists _; iexact H5
    unfold owns; iexists _; isplitr
    swap; · iexact H6
    ipureintro; exact runMidWide c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, ⟨%d, HS1⟩⟩, Hg⟩
  isplitl [HS0 HS1]
  · isplitl [HS0]
    · iexact HS0
    iexists d
    isplitr
    · ipureintro; exact fun t' h => absurd h (Nat.not_lt_zero _)
    iexact HS1
  iexact Hg

/-- After the last point the invariant gives the region its scratch back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, ⟨%d, %hg, HS1⟩⟩, Hg⟩
  isplitl [HS0 HS1]
  · isplitl [HS0]
    · iexact HS0
    iexists _; iexact HS1
  iexact Hg

set_option backward.isDefEq.respectTransparency.types false in
/-- The launch: every final state has the pipeline's arrays at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: termination, the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.GuB

end
-- ==== Proof.GuIRuns.lean ====
/- The staging buffers of the gate and up kernel by name, and its branch condition in closed form. -/
module

public import proofs.«01_k».proof.Proof.Gen.GateUpIdeal.Frame
public import proofs.«01_k».proof.Proof.Gen.GateUpIdeal.Skeleton
public import Idealize.ShloMosaic.Lib.Pipeline.Frame

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

/-- The body's one branch condition: this is the last column step of a row tile. -/
abbrev isLast (i : grid0.Coords) : Prop := k0_cond1 i = 1#1

/-- It holds at the points with remainder 24 modulo 25. -/
theorem hlast : ∀ t : Fin cfg0.N, isLast (grid0.coords t) ↔ t.val % 25 = 24 :=
  (fun t => by
    have ht : t.val < 400 := Nat.lt_of_lt_of_eq t.isLt N_0
    have e0 : (grid0.coords t 0).val = t.val / 25 % 16 := Pipeline.Grid.coords_val t 0 (by decide) rfl
    have e1 : (grid0.coords t 1).val = t.val / 1 % 25 := Pipeline.Grid.coords_val t 1 (by decide) rfl
    simp only [isLast, k0_cond1, e0, e1]
    word_cmp
   : ∀ t : Fin grid0.N, isLast (grid0.coords t) ↔ t.val % 25 = 24)

/-- Off the last step the scales' window is idle. -/
theorem idle5 : ∀ t : Fin cfg0.N, ¬isLast (grid0.coords t) → cfg0.idle 5 (grid0.coords t) = true := by decide +kernel
/-- Off the last step the scales' window is not written back. -/
theorem noFlush5 : ∀ t : Fin cfg0.N, ¬isLast (grid0.coords t) → (cfg0.win 5).flush t = false := by decide +kernel
/-- At the last step the scales' window is live. -/
theorem live5 : ∀ t : Fin cfg0.N, isLast (grid0.coords t) → cfg0.idle 5 (grid0.coords t) = false := by decide +kernel

/-- One staging buffer of output window 4, through which its contents are stated (`View.read_writes_of_cover`: the
    choice does not matter). -/
abbrev VO0_4 : View sig .tc .vmem S1024x256 .fp8e4m3 := (Memref.whole cc0_stg4_0 : Memref sig .tc .vmem S1024x256 .fp8e4m3).view
/-- One staging buffer of output window 5, through which its contents are stated (`View.read_writes_of_cover`: the
    choice does not matter). -/
abbrev VO0_5 : View sig .tc .vmem S50x1024 .f32 := (Memref.whole cc0_stg5_0 : Memref sig .tc .vmem S50x1024 .f32).view
/-- One staging buffer of output window 6, through which its contents are stated (`View.read_writes_of_cover`: the
    choice does not matter). -/
abbrev VO0_6 : View sig .tc .vmem S1024x256 .bf16 := (Memref.whole cc0_stg6_0 : Memref sig .tc .vmem S1024x256 .bf16).view
/-- Each window's current staging memref at point `t`, spelled as the pipeline passes it (`bodyAt0`), and its wholeness. -/
abbrev ms0_0 (t : Fin cfg0.N) : Memref sig .tc .smem S40x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S50x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x512 .bf16 := Memref.whole cc0_scratch0
abbrev scM0_1 : Memref sig .tc .vmem S1024x128 .f32 := Memref.whole cc0_scratch1
/-- The scratch `arg10` the kernel carries between points, as a view: what it holds is stated through it. -/
abbrev VS0_1 : View sig .tc .vmem S1024x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.GuI

end
-- ==== Proof.GuIRunMid.lean ====
/- The run of the gate and up body off the last column step. -/
module

public import proofs.«01_k».proof.Proof.GuIRuns

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

set_option maxHeartbeats 7760000 in
/-- Off the last step: what the body's stores leave in the codes' and the wide output and in the two scratches, as pieces (last first), with the proof that the body runs. The scales' output is handed back untouched; the scratch of the scales starts at `xs1`. -/
noncomputable def runMid (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i)
    (x0 : Vec F S40x100 .f32) (x1 : Vec F S1024x5120 .bf16) (x2 : Vec F S5120x256 .fp8e4m3) (x3 : Vec F S5120x256 .fp8e4m3) (xs1 : Vec F S1024x128 .f32) :
    Σ' (L4 : List (View.Piece (Elt F) S1024x256 .fp8e4m3)), Σ' (L5 : List (View.Piece (Elt F) S50x1024 .f32)), Σ' (L6 : List (View.Piece (Elt F) S1024x256 .bf16)), Σ' (LS1 : List (View.Piece (Elt F) S1024x128 .f32)), { LT0 : List (View.Piece (Elt F) S5120x512 .bf16) //
      ∀ (xi5 : Vec F S50x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0_gate_up_eq_skeleton]; unfold cc0_gate_up_skel
    simp only [k0_part133_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part134_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg10.eq_unread hfs1
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]; · iexists _; iexact HS0
    iexists _; iexact HS1

end Cert.Proof.GuI

end
-- ==== Proof.GuIRunEnd.lean ====
/- The run of the gate and up body at the last column step. -/
module

public import proofs.«01_k».proof.Proof.GuIRunMid

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

set_option maxHeartbeats 7760000 in
/-- At the last step: what the body's stores leave in the three outputs and in the two scratches, as pieces (last first), with the proof that the body runs. The scratch of the scales starts at `xs1`. -/
noncomputable def runEnd (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i)
    (x0 : Vec F S40x100 .f32) (x1 : Vec F S1024x5120 .bf16) (x2 : Vec F S5120x256 .fp8e4m3) (x3 : Vec F S5120x256 .fp8e4m3) (xs1 : Vec F S1024x128 .f32) :
    Σ' (L4 : List (View.Piece (Elt F) S1024x256 .fp8e4m3)), Σ' (L5 : List (View.Piece (Elt F) S50x1024 .f32)), Σ' (L6 : List (View.Piece (Elt F) S1024x256 .bf16)), Σ' (LS1 : List (View.Piece (Elt F) S1024x128 .f32)), { LT0 : List (View.Piece (Elt F) S5120x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_gate_up_eq_skeleton]; unfold cc0_gate_up_skel
    simp only [k0_part133_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part134_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg10.eq_unread hfs1
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.Proof.GuI

end
-- ==== Proof.GuIWide.lean ====
/- The weight scratch of the gate and up kernel at one grid point: after its 160 stores it holds the gate columns and the up
   columns of the staged weight, each 128 x 128 tile multiplied by its own scale. -/
module

public import proofs.«01_k».proof.Proof.GuIRunEnd
public import Idealize.ShloMosaic.Lib.Pointwise
public import Idealize.ShloMosaic.Lib.WholeRead
public import Idealize.ShloMosaic.Lib.Pipeline.ReadBack
public import Idealize.ShloMosaic.Lib.Pipeline.ValueKit.Tiles

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

/-- One element of the widened weight: code times scale, at the kernel's formats. -/
def widen (a : Elt F .fp8e4m3) (s : Elt F .f32) : Elt F .bf16 := k0_pay143 (F := F) s (fun _ => a) (ix2 (0 : Fin 128) (0 : Fin 128))

/-- The code a column of the weight scratch takes: the gate columns first, the up columns after them. -/
def codeAt (x2 x3 : Vec F S5120x256 .fp8e4m3) (y : S5120x512.Idx) : Elt F .fp8e4m3 :=
  if h : (y 1).val < 256 then x2 (ix2 (y 0) (⟨(y 1).val, h⟩ : Fin 256))
  else x3 (ix2 (y 0) (⟨(y 1).val - 256, by have h' : (y 1).val < 512 := (y 1).isLt; omega⟩ : Fin 256))

/-- The scale of the 128 x 128 tile around an entry of the weight scratch. -/
def scaleAt (x0 : Vec F S40x100 .f32) (j : Fin 25) (y : S5120x512.Idx) : Elt F .f32 :=
  x0 (ix2 (⟨(y 0).val / 128, by have h : (y 0).val < 5120 := (y 0).isLt; omega⟩ : Fin 40)
    (⟨2 * j.val + (if (y 1).val < 256 then (y 1).val / 128 else 48 + (y 1).val / 128),
      by have h : (y 1).val < 512 := (y 1).isLt; split <;> omega⟩ : Fin 100))

/-- The weight scratch after its stores. -/
def wide (x0 : Vec F S40x100 .f32) (x2 x3 : Vec F S5120x256 .fp8e4m3) (j : Fin 25) (y : S5120x512.Idx) : Elt F .bf16 :=
  widen (codeAt x2 x3 y) (scaleAt x0 j y)

/-- The column of a gate tile's scale, computed as a 32-bit word. -/
theorem gate_col (i : grid0.Coords) (n : BitVec 32) (hn : n.toNat < 2) :
    (Scalar.indexCast (Scalar.addi (Scalar.muli (BitVec.ofNat 32 (i 1).val) 2#32) n)).toNat = 2 * (i 1).val + n.toNat := by
  have h : (i 1).val < 25 := (i 1).isLt
  show (BitVec.ofNat 32 (i 1).val * 2#32 + n).toNat = _
  rw [BitVec.toNat_add, BitVec.toNat_mul, BitVec.toNat_ofNat, BitVec.toNat_ofNat]
  omega

/-- The column of an up tile's scale, computed as a 32-bit word. -/
theorem up_col (i : grid0.Coords) (n : BitVec 32) (hn : n.toNat < 2) :
    (Scalar.indexCast (Scalar.addi (Scalar.addi 50#32 (Scalar.muli (BitVec.ofNat 32 (i 1).val) 2#32)) n)).toNat = 50 + 2 * (i 1).val + n.toNat := by
  have h : (i 1).val < 25 := (i 1).isLt
  show (50#32 + BitVec.ofNat 32 (i 1).val * 2#32 + n).toNat = _
  rw [BitVec.toNat_add, BitVec.toNat_add, BitVec.toNat_mul, BitVec.toNat_ofNat, BitVec.toNat_ofNat, BitVec.toNat_ofNat]
  omega

/-- A widening store at one entry. -/
theorem pay_apply (s : Elt F .f32) (b : Vec F S128x128 .fp8e4m3) (z : S128x128.Idx) :
    shapeCast S128x128 (truncf (F := F) .bf16 (mulf (extf .f32 b bitsLt_fp8e4m3_f32) (broadcast S128x128 s)) bitsLt_bf16_f32) shapeCasts_S128x128_S128x128 z
      = widen (b z) s := by
  unfold widen
  pointwise [k0_pay143]

/-- One store of the gate columns. -/
theorem gate (i : grid0.Coords) (arg2 : Memref sig .tc .smem S40x100 .f32) (harg2 : arg2.IsWhole)
    (arg4 : Memref sig .tc .vmem S5120x256 .fp8e4m3) (harg4 : arg4.IsWhole)
    (x0 : Vec F S40x100 .f32) (x2 x3 : Vec F S5120x256 .fp8e4m3) (k : ℕ) (n : BitVec 32) (d0 d1 s1 : ℕ) (hk : k < 40) (hn : n.toNat < 2) (hd0 : d0 = 128 * k) (hd1 : d1 = 128 * n.toNat) (hs1 : s1 = 128 * n.toNat)
    (inbd) (inb) (inb') (h0) (z : S128x128.Idx) :
    shapeCast S128x128 (truncf (F := F) .bf16 (mulf
        (extf .f32 (View.readAt (Elt F) arg4.view (Rect.unit (s := S5120x256) ![d0, s1] S128x128.size inb).toLoadRect (harg4.unread x2)) bitsLt_fp8e4m3_f32)
        (broadcast S128x128 (View.readAt (Elt F) arg2.view (Rect.unit (s := S40x100) ![k, (Scalar.indexCast (Scalar.addi (Scalar.muli (BitVec.ofNat 32 (i 1).val) 2#32) n)).toNat] S1x1.size inb').toLoadRect (harg2.unread x0) (Shape.Idx.first h0))))
        bitsLt_bf16_f32) shapeCasts_S128x128_S128x128 z
      = wide x0 x2 x3 (i 1) ((Rect.unit (s := S5120x512) ![d0, d1] S128x128.size inbd).emb z) := by
  subst hd0 hd1 hs1
  have hz0 : (z 0).val < 128 := (z 0).isLt
  have hz1 : (z 1).val < 128 := (z 1).isLt
  have e1 : (((Rect.unit (s := S5120x512) ![128 * k, 128 * n.toNat] S128x128.size inbd).emb z) 1).val = 128 * n.toNat + 1 * (z 1).val := rfl
  have e0 : (((Rect.unit (s := S5120x512) ![128 * k, 128 * n.toNat] S128x128.size inbd).emb z) 0).val = 128 * k + 1 * (z 0).val := rfl
  rw [pay_apply, Memref.IsWhole.readAt_unread, Memref.IsWhole.readAt_unread]
  unfold wide
  refine congrArg₂ widen ?_ ?_
  · unfold codeAt
    rw [dif_pos (by rw [e1]; omega)]
    refine congrArg x2 (funext fun a => Fin.ext ?_)
    match a with
    | ⟨0, _⟩ => rfl
    | ⟨1, _⟩ => rfl
  · unfold scaleAt
    refine congrArg x0 (funext fun a => Fin.ext ?_)
    match a with
    | ⟨0, _⟩ => show k + 1 * 0 = (128 * k + 1 * (z 0).val) / 128; omega
    | ⟨1, _⟩ =>
      show (Scalar.indexCast (Scalar.addi (Scalar.muli (BitVec.ofNat 32 (i 1).val) 2#32) n)).toNat + 1 * 0
        = 2 * (i 1).val + (if (128 * n.toNat + 1 * (z 1).val) < 256 then (128 * n.toNat + 1 * (z 1).val) / 128 else 48 + (128 * n.toNat + 1 * (z 1).val) / 128)
      rw [gate_col i n hn, if_pos (by omega)]; omega

/-- One store of the up columns. -/
theorem up (i : grid0.Coords) (arg2 : Memref sig .tc .smem S40x100 .f32) (harg2 : arg2.IsWhole)
    (arg5 : Memref sig .tc .vmem S5120x256 .fp8e4m3) (harg5 : arg5.IsWhole)
    (x0 : Vec F S40x100 .f32) (x2 x3 : Vec F S5120x256 .fp8e4m3) (k : ℕ) (n : BitVec 32) (d0 d1 s1 : ℕ) (hk : k < 40) (hn : n.toNat < 2) (hd0 : d0 = 128 * k) (hd1 : d1 = 256 + 128 * n.toNat) (hs1 : s1 = 128 * n.toNat)
    (inbd) (inb) (inb') (h0) (z : S128x128.Idx) :
    shapeCast S128x128 (truncf (F := F) .bf16 (mulf
        (extf .f32 (View.readAt (Elt F) arg5.view (Rect.unit (s := S5120x256) ![d0, s1] S128x128.size inb).toLoadRect (harg5.unread x3)) bitsLt_fp8e4m3_f32)
        (broadcast S128x128 (View.readAt (Elt F) arg2.view (Rect.unit (s := S40x100) ![k, (Scalar.indexCast (Scalar.addi (Scalar.addi 50#32 (Scalar.muli (BitVec.ofNat 32 (i 1).val) 2#32)) n)).toNat] S1x1.size inb').toLoadRect (harg2.unread x0) (Shape.Idx.first h0))))
        bitsLt_bf16_f32) shapeCasts_S128x128_S128x128 z
      = wide x0 x2 x3 (i 1) ((Rect.unit (s := S5120x512) ![d0, d1] S128x128.size inbd).emb z) := by
  subst hd0 hd1 hs1
  have hz0 : (z 0).val < 128 := (z 0).isLt
  have hz1 : (z 1).val < 128 := (z 1).isLt
  have e1 : (((Rect.unit (s := S5120x512) ![128 * k, 256 + 128 * n.toNat] S128x128.size inbd).emb z) 1).val = 256 + 128 * n.toNat + 1 * (z 1).val := rfl
  rw [pay_apply, Memref.IsWhole.readAt_unread, Memref.IsWhole.readAt_unread]
  unfold wide
  refine congrArg₂ widen ?_ ?_
  · unfold codeAt
    rw [dif_neg (by rw [e1]; omega)]
    refine congrArg x3 (funext fun a => Fin.ext ?_)
    match a with
    | ⟨0, _⟩ => rfl
    | ⟨1, _⟩ => show 128 * n.toNat + 1 * (z 1).val = 256 + 128 * n.toNat + 1 * (z 1).val - 256; omega
  · unfold scaleAt
    refine congrArg x0 (funext fun a => Fin.ext ?_)
    match a with
    | ⟨0, _⟩ => show k + 1 * 0 = (128 * k + 1 * (z 0).val) / 128; omega
    | ⟨1, _⟩ =>
      show (Scalar.indexCast (Scalar.addi (Scalar.addi 50#32 (Scalar.muli (BitVec.ofNat 32 (i 1).val) 2#32)) n)).toNat + 1 * 0
        = 2 * (i 1).val + (if (256 + 128 * n.toNat + 1 * (z 1).val) < 256 then (256 + 128 * n.toNat + 1 * (z 1).val) / 128 else 48 + (256 + 128 * n.toNat + 1 * (z 1).val) / 128)
      rw [up_col i n hn, if_neg (by omega)]; omega

set_option maxHeartbeats 4000000 in
set_option pp.maxSteps 200 in
/-- Every store into the weight scratch leaves its tile of `wide`. -/
theorem pieces (c : Dev nD) (i : grid0.Coords) (arg2 : Memref sig .tc .smem S40x100 .f32) (harg2 : arg2.IsWhole)
    (arg4 : Memref sig .tc .vmem S5120x256 .fp8e4m3) (harg4 : arg4.IsWhole) (arg5 : Memref sig .tc .vmem S5120x256 .fp8e4m3) (harg5 : arg5.IsWhole)
    (x0 : Vec F S40x100 .f32) (x2 x3 : Vec F S5120x256 .fp8e4m3) :
    View.PiecesOf (wide x0 x2 x3 (i 1)) (runMid.sl.HS0_160 (F := F) c i arg2 harg2 arg4 harg4 arg5 harg5 x0 x2 x3) := by
  have P := gate i arg2 harg2 arg4 harg4 x0 x2 x3
  have Q := up i arg2 harg2 arg5 harg5 x0 x2 x3
  unfold runMid.sl.HS0_160
  refine ⟨Q 39 1#32 4992 384 128 (by decide) (by decide) rfl rfl rfl inb_S5120x512_S128x128_4992_384 _ _ _, ?_⟩; refine ⟨Q 39 0#32 4992 256 0 (by decide) (by decide) rfl rfl rfl inb_S5120x512_S128x128_4992_256 _ _ _, ?_⟩
  refine ⟨Q 38 1#32 4864 384 128 (by decide) (by decide) rfl rfl rfl inb_S5120x512_S128x128_4864_384 _ _ _, ?_⟩; refine ⟨Q 38 0#32 4864 256 0 (by decide) (by decide) rfl rfl rfl inb_S5120x512_S128x128_4864_256 _ _ _, ?_⟩
  refine ⟨Q 37 1#32 4736 384 128 (by decide) (by decide) rfl rfl rfl inb_S5120x512_S128x128_4736_384 _ _ _, ?_⟩; refine ⟨Q 37 0#32 4736 256 0 (by decide) (by decide) rfl rfl rfl inb_S5120x512_S128x128_4736_256 _ _ _, ?_⟩
  refine ⟨Q 36 1#32 4608 384 128 (by decide) (by decide) rfl rfl rfl inb_S5120x512_S128x128_4608_384 _ _ _, ?_⟩; refine ⟨Q 36 0#32 4608 256 0 (by decide) (by decide) rfl rfl rfl inb_S5120x512_S128x128_4608_256 _ _ _, ?_⟩
  refine ⟨Q 35 1#32 4480 384 128 (by decide) (by decide) rfl rfl rfl inb_S5120x512_S128x128_4480_384 _ _ _, ?_⟩; refine ⟨Q 35 0#32 4480 256 0 (by decide) (by decide) rfl rfl rfl inb_S5120x512_S128x128_4480_256 _ _ _, ?_⟩
  refine ⟨Q 34 1#32 4352 384 128 (by decide) (by decide) rfl rfl rfl inb_S5120x512_S128x128_4352_384 _ _ _, ?_⟩; refine ⟨Q 34 0#32 4352 256 0 (by decide) (by decide) rfl rfl rfl inb_S5120x512_S128x128_4352_256 _ _ _, ?_⟩
  refine ⟨Q 33 1#32 4224 384 128 (by decide) (by decide) rfl rfl rfl inb_S5120x512_S128x128_4224_384 _ _ _, ?_⟩; refine ⟨Q 33 0#32 4224 256 0 (by decide) (by decide) rfl rfl rfl inb_S5120x512_S128x128_4224_256 _ _ _, ?_⟩
  refine ⟨Q 32 1#32 4096 384 128 (by decide) (by decide) rfl rfl rfl inb_S5120x512_S128x128_4096_384 _ _ _, ?_⟩; refine ⟨Q 32 0#32 4096 256 0 (by decide) (by decide) rfl rfl rfl inb_S5120x512_S128x128_4096_256 _ _ _, ?_⟩
  refine ⟨Q 31 1#32 3968 384 128 (by decide) (by decide) rfl rfl rfl inb_S5120x512_S128x128_3968_384 _ _ _, ?_⟩; refine ⟨Q 31 0#32 3968 256 0 (by decide) (by decide) rfl rfl rfl inb_S5120x512_S128x128_3968_256 _ _ _, ?_⟩
  refine ⟨Q 30 1#32 3840 384 128 (by decide) (by decide) rfl rfl rfl inb_S5120x512_S128x128_3840_384 _ _ _, ?_⟩; refine ⟨Q 30 0#32 3840 256 0 (by decide) (by decide) rfl rfl rfl inb_S5120x512_S128x128_3840_256 _ _ _, ?_⟩
  refine ⟨Q 29 1#32 3712 384 128 (by decide) (by decide) rfl rfl rfl inb_S5120x512_S128x128_3712_384 _ _ _, ?_⟩; refine ⟨Q 29 0#32 3712 256 0 (by decide) (by decide) rfl rfl rfl inb_S5120x512_S128x128_3712_256 _ _ _, ?_⟩
  refine ⟨Q 28 1#32 3584 384 128 (by decide) (by decide) rfl rfl rfl inb_S5120x512_S128x128_3584_384 _ _ _, ?_⟩; refine ⟨Q 28 0#32 3584 256 0 (by decide) (by decide) rfl rfl rfl inb_S5120x512_S128x128_3584_256 _ _ _, ?_⟩
  refine ⟨Q 27 1#32 3456 384 128 (by decide) (by decide) rfl rfl rfl inb_S5120x512_S128x128_3456_384 _ _ _, ?_⟩; refine ⟨Q 27 0#32 3456 256 0 (by decide) (by decide) rfl rfl rfl inb_S5120x512_S128x128_3456_256 _ _ _, ?_⟩
  refine ⟨Q 26 1#32 3328 384 128 (by decide) (by decide) rfl rfl rfl inb_S5120x512_S128x128_3328_384 _ _ _, ?_⟩; refine ⟨Q 26 0#32 3328 256 0 (by decide) (by decide) rfl rfl rfl inb_S5120x512_S128x128_3328_256 _ _ _, ?_⟩
  refine ⟨Q 25 1#32 3200 384 128 (by decide) (by decide) rfl rfl rfl inb_S5120x512_S128x128_3200_384 _ _ _, ?_⟩; refine ⟨Q 25 0#32 3200 256 0 (by decide) (by decide) rfl rfl rfl inb_S5120x512_S128x128_3200_256 _ _ _, ?_⟩
  refine ⟨Q 24 1#32 3072 384 128 (by decide) (by decide) rfl rfl rfl inb_S5120x512_S128x128_3072_384 _ _ _, ?_⟩; refine ⟨Q 24 0#32 3072 256 0 (by decide) (by decide) rfl rfl rfl inb_S5120x512_S128x128_3072_256 _ _ _, ?_⟩
  refine ⟨Q 23 1#32 2944 384 128 (by decide) (by decide) rfl rfl rfl inb_S5120x512_S128x128_2944_384 _ _ _, ?_⟩; refine ⟨Q 23 0#32 2944 256 0 (by decide) (by decide) rfl rfl rfl inb_S5120x512_S128x128_2944_256 _ _ _, ?_⟩
  refine ⟨Q 22 1#32 2816 384 128 (by decide) (by decide) rfl rfl rfl inb_S5120x512_S128x128_2816_384 _ _ _, ?_⟩; refine ⟨Q 22 0#32 2816 256 0 (by decide) (by decide) rfl rfl rfl inb_S5120x512_S128x128_2816_256 _ _ _, ?_⟩
  refine ⟨Q 21 1#32 2688 384 128 (by decide) (by decide) rfl rfl rfl inb_S5120x512_S128x128_2688_384 _ _ _, ?_⟩; refine ⟨Q 21 0#32 2688 256 0 (by decide) (by decide) rfl rfl rfl inb_S5120x512_S128x128_2688_256 _ _ _, ?_⟩
  refine ⟨Q 20 1#32 2560 384 128 (by decide) (by decide) rfl rfl rfl inb_S5120x512_S128x128_2560_384 _ _ _, ?_⟩; refine ⟨Q 20 0#32 2560 256 0 (by decide) (by decide) rfl rfl rfl inb_S5120x512_S128x128_2560_256 _ _ _, ?_⟩
  refine ⟨Q 19 1#32 2432 384 128 (by decide) (by decide) rfl rfl rfl inb_S5120x512_S128x128_2432_384 _ _ _, ?_⟩; refine ⟨Q 19 0#32 2432 256 0 (by decide) (by decide) rfl rfl rfl inb_S5120x512_S128x128_2432_256 _ _ _, ?_⟩
  refine ⟨Q 18 1#32 2304 384 128 (by decide) (by decide) rfl rfl rfl inb_S5120x512_S128x128_2304_384 _ _ _, ?_⟩; refine ⟨Q 18 0#32 2304 256 0 (by decide) (by decide) rfl rfl rfl inb_S5120x512_S128x128_2304_256 _ _ _, ?_⟩
  refine ⟨Q 17 1#32 2176 384 128 (by decide) (by decide) rfl rfl rfl inb_S5120x512_S128x128_2176_384 _ _ _, ?_⟩; refine ⟨Q 17 0#32 2176 256 0 (by decide) (by decide) rfl rfl rfl inb_S5120x512_S128x128_2176_256 _ _ _, ?_⟩
  refine ⟨Q 16 1#32 2048 384 128 (by decide) (by decide) rfl rfl rfl inb_S5120x512_S128x128_2048_384 _ _ _, ?_⟩; refine ⟨Q 16 0#32 2048 256 0 (by decide) (by decide) rfl rfl rfl inb_S5120x512_S128x128_2048_256 _ _ _, ?_⟩
  refine ⟨Q 15 1#32 1920 384 128 (by decide) (by decide) rfl rfl rfl inb_S5120x512_S128x128_1920_384 _ _ _, ?_⟩; refine ⟨Q 15 0#32 1920 256 0 (by decide) (by decide) rfl rfl rfl inb_S5120x512_S128x128_1920_256 _ _ _, ?_⟩
  refine ⟨Q 14 1#32 1792 384 128 (by decide) (by decide) rfl rfl rfl inb_S5120x512_S128x128_1792_384 _ _ _, ?_⟩; refine ⟨Q 14 0#32 1792 256 0 (by decide) (by decide) rfl rfl rfl inb_S5120x512_S128x128_1792_256 _ _ _, ?_⟩
  refine ⟨Q 13 1#32 1664 384 128 (by decide) (by decide) rfl rfl rfl inb_S5120x512_S128x128_1664_384 _ _ _, ?_⟩; refine ⟨Q 13 0#32 1664 256 0 (by decide) (by decide) rfl rfl rfl inb_S5120x512_S128x128_1664_256 _ _ _, ?_⟩
  refine ⟨Q 12 1#32 1536 384 128 (by decide) (by decide) rfl rfl rfl inb_S5120x512_S128x128_1536_384 _ _ _, ?_⟩; refine ⟨Q 12 0#32 1536 256 0 (by decide) (by decide) rfl rfl rfl inb_S5120x512_S128x128_1536_256 _ _ _, ?_⟩
  refine ⟨Q 11 1#32 1408 384 128 (by decide) (by decide) rfl rfl rfl inb_S5120x512_S128x128_1408_384 _ _ _, ?_⟩; refine ⟨Q 11 0#32 1408 256 0 (by decide) (by decide) rfl rfl rfl inb_S5120x512_S128x128_1408_256 _ _ _, ?_⟩
  refine ⟨Q 10 1#32 1280 384 128 (by decide) (by decide) rfl rfl rfl inb_S5120x512_S128x128_1280_384 _ _ _, ?_⟩; refine ⟨Q 10 0#32 1280 256 0 (by decide) (by decide) rfl rfl rfl inb_S5120x512_S128x128_1280_256 _ _ _, ?_⟩
  refine ⟨Q 9 1#32 1152 384 128 (by decide) (by decide) rfl rfl rfl inb_S5120x512_S128x128_1152_384 _ _ _, ?_⟩; refine ⟨Q 9 0#32 1152 256 0 (by decide) (by decide) rfl rfl rfl inb_S5120x512_S128x128_1152_256 _ _ _, ?_⟩
  refine ⟨Q 8 1#32 1024 384 128 (by decide) (by decide) rfl rfl rfl inb_S5120x512_S128x128_1024_384 _ _ _, ?_⟩; refine ⟨Q 8 0#32 1024 256 0 (by decide) (by decide) rfl rfl rfl inb_S5120x512_S128x128_1024_256 _ _ _, ?_⟩
  refine ⟨Q 7 1#32 896 384 128 (by decide) (by decide) rfl rfl rfl inb_S5120x512_S128x128_896_384 _ _ _, ?_⟩; refine ⟨Q 7 0#32 896 256 0 (by decide) (by decide) rfl rfl rfl inb_S5120x512_S128x128_896_256 _ _ _, ?_⟩
  refine ⟨Q 6 1#32 768 384 128 (by decide) (by decide) rfl rfl rfl inb_S5120x512_S128x128_768_384 _ _ _, ?_⟩; refine ⟨Q 6 0#32 768 256 0 (by decide) (by decide) rfl rfl rfl inb_S5120x512_S128x128_768_256 _ _ _, ?_⟩
  refine ⟨Q 5 1#32 640 384 128 (by decide) (by decide) rfl rfl rfl inb_S5120x512_S128x128_640_384 _ _ _, ?_⟩; refine ⟨Q 5 0#32 640 256 0 (by decide) (by decide) rfl rfl rfl inb_S5120x512_S128x128_640_256 _ _ _, ?_⟩
  refine ⟨Q 4 1#32 512 384 128 (by decide) (by decide) rfl rfl rfl inb_S5120x512_S128x128_512_384 _ _ _, ?_⟩; refine ⟨Q 4 0#32 512 256 0 (by decide) (by decide) rfl rfl rfl inb_S5120x512_S128x128_512_256 _ _ _, ?_⟩
  refine ⟨Q 3 1#32 384 384 128 (by decide) (by decide) rfl rfl rfl inb_S5120x512_S128x128_384_384 _ _ _, ?_⟩; refine ⟨Q 3 0#32 384 256 0 (by decide) (by decide) rfl rfl rfl inb_S5120x512_S128x128_384_256 _ _ _, ?_⟩
  refine ⟨Q 2 1#32 256 384 128 (by decide) (by decide) rfl rfl rfl inb_S5120x512_S128x128_256_384 _ _ _, ?_⟩; refine ⟨Q 2 0#32 256 256 0 (by decide) (by decide) rfl rfl rfl inb_S5120x512_S128x128_256_256 _ _ _, ?_⟩
  refine ⟨Q 1 1#32 128 384 128 (by decide) (by decide) rfl rfl rfl inb_S5120x512_S128x128_128_384 _ _ _, ?_⟩; refine ⟨Q 1 0#32 128 256 0 (by decide) (by decide) rfl rfl rfl inb_S5120x512_S128x128_128_256 _ _ _, ?_⟩
  refine ⟨Q 0 1#32 0 384 128 (by decide) (by decide) rfl rfl rfl inb_S5120x512_S128x128_0_384 _ _ _, ?_⟩; refine ⟨Q 0 0#32 0 256 0 (by decide) (by decide) rfl rfl rfl inb_S5120x512_S128x128_0_256 _ _ _, ?_⟩
  refine ⟨P 39 1#32 4992 128 128 (by decide) (by decide) rfl rfl rfl inb_S5120x512_S128x128_4992_128 _ _ _, ?_⟩; refine ⟨P 39 0#32 4992 0 0 (by decide) (by decide) rfl rfl rfl inb_S5120x512_S128x128_4992_0 _ _ _, ?_⟩
  refine ⟨P 38 1#32 4864 128 128 (by decide) (by decide) rfl rfl rfl inb_S5120x512_S128x128_4864_128 _ _ _, ?_⟩; refine ⟨P 38 0#32 4864 0 0 (by decide) (by decide) rfl rfl rfl inb_S5120x512_S128x128_4864_0 _ _ _, ?_⟩
  refine ⟨P 37 1#32 4736 128 128 (by decide) (by decide) rfl rfl rfl inb_S5120x512_S128x128_4736_128 _ _ _, ?_⟩; refine ⟨P 37 0#32 4736 0 0 (by decide) (by decide) rfl rfl rfl inb_S5120x512_S128x128_4736_0 _ _ _, ?_⟩
  refine ⟨P 36 1#32 4608 128 128 (by decide) (by decide) rfl rfl rfl inb_S5120x512_S128x128_4608_128 _ _ _, ?_⟩; refine ⟨P 36 0#32 4608 0 0 (by decide) (by decide) rfl rfl rfl inb_S5120x512_S128x128_4608_0 _ _ _, ?_⟩
  refine ⟨P 35 1#32 4480 128 128 (by decide) (by decide) rfl rfl rfl inb_S5120x512_S128x128_4480_128 _ _ _, ?_⟩; refine ⟨P 35 0#32 4480 0 0 (by decide) (by decide) rfl rfl rfl inb_S5120x512_S128x128_4480_0 _ _ _, ?_⟩
  refine ⟨P 34 1#32 4352 128 128 (by decide) (by decide) rfl rfl rfl inb_S5120x512_S128x128_4352_128 _ _ _, ?_⟩; refine ⟨P 34 0#32 4352 0 0 (by decide) (by decide) rfl rfl rfl inb_S5120x512_S128x128_4352_0 _ _ _, ?_⟩
  refine ⟨P 33 1#32 4224 128 128 (by decide) (by decide) rfl rfl rfl inb_S5120x512_S128x128_4224_128 _ _ _, ?_⟩; refine ⟨P 33 0#32 4224 0 0 (by decide) (by decide) rfl rfl rfl inb_S5120x512_S128x128_4224_0 _ _ _, ?_⟩
  refine ⟨P 32 1#32 4096 128 128 (by decide) (by decide) rfl rfl rfl inb_S5120x512_S128x128_4096_128 _ _ _, ?_⟩; refine ⟨P 32 0#32 4096 0 0 (by decide) (by decide) rfl rfl rfl inb_S5120x512_S128x128_4096_0 _ _ _, ?_⟩
  refine ⟨P 31 1#32 3968 128 128 (by decide) (by decide) rfl rfl rfl inb_S5120x512_S128x128_3968_128 _ _ _, ?_⟩; refine ⟨P 31 0#32 3968 0 0 (by decide) (by decide) rfl rfl rfl inb_S5120x512_S128x128_3968_0 _ _ _, ?_⟩
  refine ⟨P 30 1#32 3840 128 128 (by decide) (by decide) rfl rfl rfl inb_S5120x512_S128x128_3840_128 _ _ _, ?_⟩; refine ⟨P 30 0#32 3840 0 0 (by decide) (by decide) rfl rfl rfl inb_S5120x512_S128x128_3840_0 _ _ _, ?_⟩
  refine ⟨P 29 1#32 3712 128 128 (by decide) (by decide) rfl rfl rfl inb_S5120x512_S128x128_3712_128 _ _ _, ?_⟩; refine ⟨P 29 0#32 3712 0 0 (by decide) (by decide) rfl rfl rfl inb_S5120x512_S128x128_3712_0 _ _ _, ?_⟩
  refine ⟨P 28 1#32 3584 128 128 (by decide) (by decide) rfl rfl rfl inb_S5120x512_S128x128_3584_128 _ _ _, ?_⟩; refine ⟨P 28 0#32 3584 0 0 (by decide) (by decide) rfl rfl rfl inb_S5120x512_S128x128_3584_0 _ _ _, ?_⟩
  refine ⟨P 27 1#32 3456 128 128 (by decide) (by decide) rfl rfl rfl inb_S5120x512_S128x128_3456_128 _ _ _, ?_⟩; refine ⟨P 27 0#32 3456 0 0 (by decide) (by decide) rfl rfl rfl inb_S5120x512_S128x128_3456_0 _ _ _, ?_⟩
  refine ⟨P 26 1#32 3328 128 128 (by decide) (by decide) rfl rfl rfl inb_S5120x512_S128x128_3328_128 _ _ _, ?_⟩; refine ⟨P 26 0#32 3328 0 0 (by decide) (by decide) rfl rfl rfl inb_S5120x512_S128x128_3328_0 _ _ _, ?_⟩
  refine ⟨P 25 1#32 3200 128 128 (by decide) (by decide) rfl rfl rfl inb_S5120x512_S128x128_3200_128 _ _ _, ?_⟩; refine ⟨P 25 0#32 3200 0 0 (by decide) (by decide) rfl rfl rfl inb_S5120x512_S128x128_3200_0 _ _ _, ?_⟩
  refine ⟨P 24 1#32 3072 128 128 (by decide) (by decide) rfl rfl rfl inb_S5120x512_S128x128_3072_128 _ _ _, ?_⟩; refine ⟨P 24 0#32 3072 0 0 (by decide) (by decide) rfl rfl rfl inb_S5120x512_S128x128_3072_0 _ _ _, ?_⟩
  refine ⟨P 23 1#32 2944 128 128 (by decide) (by decide) rfl rfl rfl inb_S5120x512_S128x128_2944_128 _ _ _, ?_⟩; refine ⟨P 23 0#32 2944 0 0 (by decide) (by decide) rfl rfl rfl inb_S5120x512_S128x128_2944_0 _ _ _, ?_⟩
  refine ⟨P 22 1#32 2816 128 128 (by decide) (by decide) rfl rfl rfl inb_S5120x512_S128x128_2816_128 _ _ _, ?_⟩; refine ⟨P 22 0#32 2816 0 0 (by decide) (by decide) rfl rfl rfl inb_S5120x512_S128x128_2816_0 _ _ _, ?_⟩
  refine ⟨P 21 1#32 2688 128 128 (by decide) (by decide) rfl rfl rfl inb_S5120x512_S128x128_2688_128 _ _ _, ?_⟩; refine ⟨P 21 0#32 2688 0 0 (by decide) (by decide) rfl rfl rfl inb_S5120x512_S128x128_2688_0 _ _ _, ?_⟩
  refine ⟨P 20 1#32 2560 128 128 (by decide) (by decide) rfl rfl rfl inb_S5120x512_S128x128_2560_128 _ _ _, ?_⟩; refine ⟨P 20 0#32 2560 0 0 (by decide) (by decide) rfl rfl rfl inb_S5120x512_S128x128_2560_0 _ _ _, ?_⟩
  refine ⟨P 19 1#32 2432 128 128 (by decide) (by decide) rfl rfl rfl inb_S5120x512_S128x128_2432_128 _ _ _, ?_⟩; refine ⟨P 19 0#32 2432 0 0 (by decide) (by decide) rfl rfl rfl inb_S5120x512_S128x128_2432_0 _ _ _, ?_⟩
  refine ⟨P 18 1#32 2304 128 128 (by decide) (by decide) rfl rfl rfl inb_S5120x512_S128x128_2304_128 _ _ _, ?_⟩; refine ⟨P 18 0#32 2304 0 0 (by decide) (by decide) rfl rfl rfl inb_S5120x512_S128x128_2304_0 _ _ _, ?_⟩
  refine ⟨P 17 1#32 2176 128 128 (by decide) (by decide) rfl rfl rfl inb_S5120x512_S128x128_2176_128 _ _ _, ?_⟩; refine ⟨P 17 0#32 2176 0 0 (by decide) (by decide) rfl rfl rfl inb_S5120x512_S128x128_2176_0 _ _ _, ?_⟩
  refine ⟨P 16 1#32 2048 128 128 (by decide) (by decide) rfl rfl rfl inb_S5120x512_S128x128_2048_128 _ _ _, ?_⟩; refine ⟨P 16 0#32 2048 0 0 (by decide) (by decide) rfl rfl rfl inb_S5120x512_S128x128_2048_0 _ _ _, ?_⟩
  refine ⟨P 15 1#32 1920 128 128 (by decide) (by decide) rfl rfl rfl inb_S5120x512_S128x128_1920_128 _ _ _, ?_⟩; refine ⟨P 15 0#32 1920 0 0 (by decide) (by decide) rfl rfl rfl inb_S5120x512_S128x128_1920_0 _ _ _, ?_⟩
  refine ⟨P 14 1#32 1792 128 128 (by decide) (by decide) rfl rfl rfl inb_S5120x512_S128x128_1792_128 _ _ _, ?_⟩; refine ⟨P 14 0#32 1792 0 0 (by decide) (by decide) rfl rfl rfl inb_S5120x512_S128x128_1792_0 _ _ _, ?_⟩
  refine ⟨P 13 1#32 1664 128 128 (by decide) (by decide) rfl rfl rfl inb_S5120x512_S128x128_1664_128 _ _ _, ?_⟩; refine ⟨P 13 0#32 1664 0 0 (by decide) (by decide) rfl rfl rfl inb_S5120x512_S128x128_1664_0 _ _ _, ?_⟩
  refine ⟨P 12 1#32 1536 128 128 (by decide) (by decide) rfl rfl rfl inb_S5120x512_S128x128_1536_128 _ _ _, ?_⟩; refine ⟨P 12 0#32 1536 0 0 (by decide) (by decide) rfl rfl rfl inb_S5120x512_S128x128_1536_0 _ _ _, ?_⟩
  refine ⟨P 11 1#32 1408 128 128 (by decide) (by decide) rfl rfl rfl inb_S5120x512_S128x128_1408_128 _ _ _, ?_⟩; refine ⟨P 11 0#32 1408 0 0 (by decide) (by decide) rfl rfl rfl inb_S5120x512_S128x128_1408_0 _ _ _, ?_⟩
  refine ⟨P 10 1#32 1280 128 128 (by decide) (by decide) rfl rfl rfl inb_S5120x512_S128x128_1280_128 _ _ _, ?_⟩; refine ⟨P 10 0#32 1280 0 0 (by decide) (by decide) rfl rfl rfl inb_S5120x512_S128x128_1280_0 _ _ _, ?_⟩
  refine ⟨P 9 1#32 1152 128 128 (by decide) (by decide) rfl rfl rfl inb_S5120x512_S128x128_1152_128 _ _ _, ?_⟩; refine ⟨P 9 0#32 1152 0 0 (by decide) (by decide) rfl rfl rfl inb_S5120x512_S128x128_1152_0 _ _ _, ?_⟩
  refine ⟨P 8 1#32 1024 128 128 (by decide) (by decide) rfl rfl rfl inb_S5120x512_S128x128_1024_128 _ _ _, ?_⟩; refine ⟨P 8 0#32 1024 0 0 (by decide) (by decide) rfl rfl rfl inb_S5120x512_S128x128_1024_0 _ _ _, ?_⟩
  refine ⟨P 7 1#32 896 128 128 (by decide) (by decide) rfl rfl rfl inb_S5120x512_S128x128_896_128 _ _ _, ?_⟩; refine ⟨P 7 0#32 896 0 0 (by decide) (by decide) rfl rfl rfl inb_S5120x512_S128x128_896_0 _ _ _, ?_⟩
  refine ⟨P 6 1#32 768 128 128 (by decide) (by decide) rfl rfl rfl inb_S5120x512_S128x128_768_128 _ _ _, ?_⟩; refine ⟨P 6 0#32 768 0 0 (by decide) (by decide) rfl rfl rfl inb_S5120x512_S128x128_768_0 _ _ _, ?_⟩
  refine ⟨P 5 1#32 640 128 128 (by decide) (by decide) rfl rfl rfl inb_S5120x512_S128x128_640_128 _ _ _, ?_⟩; refine ⟨P 5 0#32 640 0 0 (by decide) (by decide) rfl rfl rfl inb_S5120x512_S128x128_640_0 _ _ _, ?_⟩
  refine ⟨P 4 1#32 512 128 128 (by decide) (by decide) rfl rfl rfl inb_S5120x512_S128x128_512_128 _ _ _, ?_⟩; refine ⟨P 4 0#32 512 0 0 (by decide) (by decide) rfl rfl rfl inb_S5120x512_S128x128_512_0 _ _ _, ?_⟩
  refine ⟨P 3 1#32 384 128 128 (by decide) (by decide) rfl rfl rfl inb_S5120x512_S128x128_384_128 _ _ _, ?_⟩; refine ⟨P 3 0#32 384 0 0 (by decide) (by decide) rfl rfl rfl inb_S5120x512_S128x128_384_0 _ _ _, ?_⟩
  refine ⟨P 2 1#32 256 128 128 (by decide) (by decide) rfl rfl rfl inb_S5120x512_S128x128_256_128 _ _ _, ?_⟩; refine ⟨P 2 0#32 256 0 0 (by decide) (by decide) rfl rfl rfl inb_S5120x512_S128x128_256_0 _ _ _, ?_⟩
  refine ⟨P 1 1#32 128 128 128 (by decide) (by decide) rfl rfl rfl inb_S5120x512_S128x128_128_128 _ _ _, ?_⟩; refine ⟨P 1 0#32 128 0 0 (by decide) (by decide) rfl rfl rfl inb_S5120x512_S128x128_128_0 _ _ _, ?_⟩
  refine ⟨P 0 1#32 0 128 128 (by decide) (by decide) rfl rfl rfl inb_S5120x512_S128x128_0_128 _ _ _, ?_⟩; refine ⟨P 0 0#32 0 0 0 (by decide) (by decide) rfl rfl rfl inb_S5120x512_S128x128_0_0 _ _ _, ?_⟩
  trivial

/-- The whole weight scratch, loaded back, is `wide`. -/
theorem load (c : Dev nD) (i : grid0.Coords) (arg2 : Memref sig .tc .smem S40x100 .f32) (harg2 : arg2.IsWhole)
    (arg4 : Memref sig .tc .vmem S5120x256 .fp8e4m3) (harg4 : arg4.IsWhole) (arg5 : Memref sig .tc .vmem S5120x256 .fp8e4m3) (harg5 : arg5.IsWhole) (arg9 : Memref sig .tc .vmem S5120x512 .bf16)
    (x0 : Vec F S40x100 .f32) (x2 x3 : Vec F S5120x256 .fp8e4m3) :
    runMid.sl.v1765 (F := F) c i arg2 harg2 arg4 harg4 arg5 harg5 arg9 x0 x2 x3 = wide x0 x2 x3 (i 1) := by
  unfold runMid.sl.v1765
  rw [View.readCov_eq_canon']
  funext (j : S5120x512.Idx)
  have hj : (Rect.unit (s := S5120x512) ![0, 0] S5120x512.size inb_S5120x512_S5120x512_0_0).toLoadRect.idx j = j := by
    funext a; apply Fin.ext
    match a with
    | ⟨0, _⟩ => show 0 + 1 * (j 0).val = (j 0).val; omega
    | ⟨1, _⟩ => show 0 + 1 * (j 1).val = (j 1).val; omega
  rw [hj]
  exact View.canon_apply_of_pieces _ _ (pieces c i arg2 harg2 arg4 harg4 arg5 harg5 x0 x2 x3).mem j
    (View.cover_of_tiledL (s := S5120x512) _ S128x128.size (by sl_kernel_rfl) j)

/-- The same for the run of the last column step. -/
theorem loadEnd (c : Dev nD) (i : grid0.Coords) (arg2 : Memref sig .tc .smem S40x100 .f32) (harg2 : arg2.IsWhole)
    (arg4 : Memref sig .tc .vmem S5120x256 .fp8e4m3) (harg4 : arg4.IsWhole) (arg5 : Memref sig .tc .vmem S5120x256 .fp8e4m3) (harg5 : arg5.IsWhole) (arg9 : Memref sig .tc .vmem S5120x512 .bf16)
    (x0 : Vec F S40x100 .f32) (x2 x3 : Vec F S5120x256 .fp8e4m3) :
    runEnd.sl.v1765 (F := F) c i arg2 harg2 arg4 harg4 arg5 harg5 arg9 x0 x2 x3 = wide x0 x2 x3 (i 1) :=
  (show runEnd.sl.v1765 (F := F) c i arg2 harg2 arg4 harg4 arg5 harg5 arg9 x0 x2 x3 = runMid.sl.v1765 (F := F) c i arg2 harg2 arg4 harg4 arg5 harg5 arg9 x0 x2 x3 from rfl).trans
    (load c i arg2 harg2 arg4 harg4 arg5 harg5 arg9 x0 x2 x3)

end Cert.Proof.GuI

end
-- ==== Proof.GuIChunk.lean ====
/- One chunk of the gate and up kernel: the gated product of 32 rows and 128 columns, its row scales, its codes and the values they
   stand for, and the blocks of them a grid point leaves. -/
module

public import proofs.«01_k».proof.Proof.GuIWide

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

/-- The scores of 256 rows against the widened gate and up columns. -/
def acc (X : Vec F S256x5120 .bf16) (W : Vec F S5120x512 .bf16) : FVec F S256x512 .f32 :=
  matmul dot_S256x5120_S5120x512_S256x512_1_0_0_1_n_n none X W (constant S256x512 .f32 0x00000000#32)

/-- The gated product of 32 rows and 128 columns. -/
def vOf (A : FVec F S256x512 .f32) (o b b2 : ℕ) (h1 : S256x512.Slices ![o, b] S32x128) (h2 : S256x512.Slices ![o, b2] S32x128) :
    FVec F S32x128 .f32 :=
  mulf (mulf (extractStridedSlice S32x128 ![o, b] A h1) (logistic (extractStridedSlice S32x128 ![o, b] A h1)))
    (extractStridedSlice S32x128 ![o, b2] A h2)

/-- The exponent bits the kernel counts for every row of a chunk. -/
def bitsOf (v : FVec F S32x128 .f32) : IVec S32x1 32 :=
  let cnt : IVec S32 32 := multiReductionI .add [1] S32
    (extui 32 (cmpf .oge (broadcastTo S32x253
        (mulf (shapeCast S32x1 (multiReduction .maximumf [1] S32 (absf v) 0xFF800000#32 reduces_S32x128_S32 (.inl rfl) rfl) shapeCasts_S32_S32x1)
          (broadcast S32x1 (Scalar.ofBits .f32 0x3B124925#32)))
        broadcasts_S32x1_S32x253)
      (bitcastToFloat (F := F) .f32 (shli (iota .tc S32x253 32 [1] iota_S32x253_d1_w32) (broadcast S32x253 23#32)))) natLt_1_32)
    0#32 reduces_S32x253_S32 rfl
  let e : IVec S32x1 32 := shli (subi (shapeCast S32x1 cnt shapeCasts_S32_S32x1) (broadcast S32x1 1#32)) (broadcast S32x1 23#32)
  select (cmpi .eq e (broadcast S32x1 0#32)) (broadcast S32x1 1056964608#32) e

/-- The scale of every row of a chunk. -/
def scaleOf (v : FVec F S32x128 .f32) : FVec F S32x1 .f32 :=
  bitcastToFloat .f32 (addi (bitsOf v) (broadcast S32x1 8388608#32))

/-- The codes of a chunk. -/
def codesOf (v : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf v (broadcastTo S32x128 (bitcastToFloat (F := F) .f32 (subi (broadcast S32x1 2122317824#32) (bitsOf v))) broadcasts_S32x1_S32x128))))
    bitsLt_fp8e4m3_f32

/-- The values the codes of a chunk stand for. -/
def wideOf (v : FVec F S32x128 .f32) : FVec F S32x128 .bf16 :=
  truncf .bf16 (mulf (extf .f32 (codesOf v) bitsLt_fp8e4m3_f32) (broadcastTo S32x128 (scaleOf v) broadcasts_S32x1_S32x128)) bitsLt_bf16_f32

/-- A block of 256 rows of the staged activations. -/
def rows (x1 : Vec F S1024x5120 .bf16) (q : ℕ) (hq : q < 4) : Vec F S256x5120 .bf16 :=
  fun z => x1 (ix2 (⟨256 * q + (z 0).val, by have h : (z 0).val < 256 := (z 0).isLt; omega⟩ : Fin 1024) (z 1))

/-- A 32 x 128 chunk lies inside the scores. -/
theorem slices (o b : ℕ) (ho : o + 32 ≤ 256) (hb : b + 128 ≤ 512) : S256x512.Slices ![o, b] S32x128 :=
  ⟨rfl, fun a => match a with
    | ⟨0, _⟩ => ho
    | ⟨1, _⟩ => hb⟩

/-- The gated product of chunk `(r, b)` of the block. -/
def gu (x1 : Vec F S1024x5120 .bf16) (W : Vec F S5120x512 .bf16) (r : Fin 32) (b : Fin 2) : FVec F S32x128 .f32 :=
  vOf (acc (rows x1 (r.val / 8) (by have h := r.isLt; omega)) W) (32 * (r.val % 8)) (128 * b.val) (256 + 128 * b.val)
    (slices _ _ (by omega) (by have h := b.isLt; omega)) (slices _ _ (by omega) (by have h := b.isLt; omega))

/-- The codes of a block. -/
def codesBlk (x1 : Vec F S1024x5120 .bf16) (W : Vec F S5120x512 .bf16) (y : S1024x256.Idx) : Elt F .fp8e4m3 :=
  codesOf (gu x1 W (⟨(y 0).val / 32, by have h : (y 0).val < 1024 := (y 0).isLt; omega⟩ : Fin 32) (⟨(y 1).val / 128, by have h : (y 1).val < 256 := (y 1).isLt; omega⟩ : Fin 2))
    (ix2 (⟨(y 0).val % 32, by omega⟩ : Fin 32) (⟨(y 1).val % 128, by omega⟩ : Fin 128))

/-- The values the codes of a block stand for. -/
def wideBlk (x1 : Vec F S1024x5120 .bf16) (W : Vec F S5120x512 .bf16) (y : S1024x256.Idx) : Elt F .bf16 :=
  wideOf (gu x1 W (⟨(y 0).val / 32, by have h : (y 0).val < 1024 := (y 0).isLt; omega⟩ : Fin 32) (⟨(y 1).val / 128, by have h : (y 1).val < 256 := (y 1).isLt; omega⟩ : Fin 2))
    (ix2 (⟨(y 0).val % 32, by omega⟩ : Fin 32) (⟨(y 1).val % 128, by omega⟩ : Fin 128))

/-- The scale of one row and one chunk of columns of a block. -/
def scaleBlk (x1 : Vec F S1024x5120 .bf16) (W : Vec F S5120x512 .bf16) (a : Fin 1024) (b : Fin 2) : Elt F .f32 :=
  scaleOf (gu x1 W (⟨a.val / 32, by have h := a.isLt; omega⟩ : Fin 32) b) (ix2 (⟨a.val % 32, by omega⟩ : Fin 32) (0 : Fin 1))

/-- The scale scratch after a grid point: the point's two lanes are its scales, every other lane stays. -/
def lanes (x1 : Vec F S1024x5120 .bf16) (W : Vec F S5120x512 .bf16) (j : Fin 25) (xs : Vec F S1024x128 .f32) (y : S1024x128.Idx) : Elt F .f32 :=
  if (y 1).val = 2 * j.val + 1 then scaleBlk x1 W (y 0) 1
  else if (y 1).val = 2 * j.val then scaleBlk x1 W (y 0) 0
  else xs y

/-- The chunk a store computes is the block's chunk. -/
theorem gu_eq (arg3 : Memref sig .tc .vmem S1024x5120 .bf16) (harg3 : arg3.IsWhole) (x1 : Vec F S1024x5120 .bf16) (W W' : Vec F S5120x512 .bf16) (hW : W' = W)
    (r b e o b1 b2 : ℕ) (hr : r < 32) (hb : b < 2) (he : e = 256 * (r / 8)) (ho : o = 32 * (r % 8)) (hb1 : b1 = 128 * b) (hb2 : b2 = 256 + 128 * b) (inb) (h1) (h2) :
    vOf (acc (View.readAt (Elt F) arg3.view (Rect.unit (s := S1024x5120) ![e, 0] S256x5120.size inb).toLoadRect (harg3.unread x1)) W') o b1 b2 h1 h2
      = gu x1 W ⟨r, hr⟩ ⟨b, hb⟩ := by
  subst hW he ho hb1 hb2
  unfold gu
  have hx : View.readAt (Elt F) arg3.view (Rect.unit (s := S1024x5120) ![256 * (r / 8), 0] S256x5120.size inb).toLoadRect (harg3.unread x1) = rows x1 (r / 8) (by omega) := by
    funext (z : S256x5120.Idx)
    rw [Memref.IsWhole.readAt_unread]
    refine congrArg x1 (funext fun a => Fin.ext ?_)
    match a with
    | ⟨0, _⟩ => show 256 * (r / 8) + 1 * (z 0).val = 256 * (r / 8) + (z 0).val; omega
    | ⟨1, _⟩ => show 0 + 1 * (z 1).val = (z 1).val; omega
  exact congrArg (fun X => vOf (acc X W') _ _ _ _ _) hx

/-- One store of codes. -/
theorem codes (arg3 : Memref sig .tc .vmem S1024x5120 .bf16) (harg3 : arg3.IsWhole) (x1 : Vec F S1024x5120 .bf16) (W W' : Vec F S5120x512 .bf16) (hW : W' = W)
    (r b e o d0 b1 b2 : ℕ) (hr : r < 32) (hb : b < 2) (he : e = 256 * (r / 8)) (ho : o = 32 * (r % 8)) (hd0 : d0 = 32 * r) (hb1 : b1 = 128 * b) (hb2 : b2 = 256 + 128 * b)
    (inbd) (inb) (h1) (h2) (z : S32x128.Idx) :
    codesOf (vOf (acc (View.readAt (Elt F) arg3.view (Rect.unit (s := S1024x5120) ![e, 0] S256x5120.size inb).toLoadRect (harg3.unread x1)) W') o b1 b2 h1 h2) z
      = codesBlk x1 W ((Rect.unit (s := S1024x256) ![d0, b1] S32x128.size inbd).emb z) := by
  rw [gu_eq arg3 harg3 x1 W W' hW r b e o b1 b2 hr hb he ho hb1 hb2]
  subst hd0 hb1
  have hz0 : (z 0).val < 32 := (z 0).isLt
  have hz1 : (z 1).val < 128 := (z 1).isLt
  refine (congr (congrArg codesOf (congrArg₂ (gu x1 W) (Fin.ext ?_) (Fin.ext ?_))) (funext fun a => Fin.ext ?_))
  · show r = (32 * r + 1 * (z 0).val) / 32; omega
  · show b = (128 * b + 1 * (z 1).val) / 128; omega
  · match a with
    | ⟨0, _⟩ => show (z 0).val = (32 * r + 1 * (z 0).val) % 32; omega
    | ⟨1, _⟩ => show (z 1).val = (128 * b + 1 * (z 1).val) % 128; omega

/-- One store of the values. -/
theorem wides (arg3 : Memref sig .tc .vmem S1024x5120 .bf16) (harg3 : arg3.IsWhole) (x1 : Vec F S1024x5120 .bf16) (W W' : Vec F S5120x512 .bf16) (hW : W' = W)
    (r b e o d0 b1 b2 : ℕ) (hr : r < 32) (hb : b < 2) (he : e = 256 * (r / 8)) (ho : o = 32 * (r % 8)) (hd0 : d0 = 32 * r) (hb1 : b1 = 128 * b) (hb2 : b2 = 256 + 128 * b)
    (inbd) (inb) (h1) (h2) (z : S32x128.Idx) :
    wideOf (vOf (acc (View.readAt (Elt F) arg3.view (Rect.unit (s := S1024x5120) ![e, 0] S256x5120.size inb).toLoadRect (harg3.unread x1)) W') o b1 b2 h1 h2) z
      = wideBlk x1 W ((Rect.unit (s := S1024x256) ![d0, b1] S32x128.size inbd).emb z) := by
  rw [gu_eq arg3 harg3 x1 W W' hW r b e o b1 b2 hr hb he ho hb1 hb2]
  subst hd0 hb1
  have hz0 : (z 0).val < 32 := (z 0).isLt
  have hz1 : (z 1).val < 128 := (z 1).isLt
  refine (congr (congrArg wideOf (congrArg₂ (gu x1 W) (Fin.ext ?_) (Fin.ext ?_))) (funext fun a => Fin.ext ?_))
  · show r = (32 * r + 1 * (z 0).val) / 32; omega
  · show b = (128 * b + 1 * (z 1).val) / 128; omega
  · match a with
    | ⟨0, _⟩ => show (z 0).val = (32 * r + 1 * (z 0).val) % 32; omega
    | ⟨1, _⟩ => show (z 1).val = (128 * b + 1 * (z 1).val) % 128; omega

/-- The lane test of the scale scratch. -/
theorem lane_test (i : grid0.Coords) (k : BitVec 32) (hk : k.toNat < 2) (z : S32x128.Idx) :
    ((cmpi .eq (iota .tc S32x128 32 [1] iota_S32x128_d1_w32) (broadcast S32x128 (Scalar.addi (Scalar.muli (BitVec.ofNat 32 (i 1).val) 2#32) k)) : IVec S32x128 1) z = 1#1)
      ↔ (z 1).val = 2 * (i 1).val + k.toNat := by
  have h : (i 1).val < 25 := (i 1).isLt
  have hz1 : (z 1).val < 128 := (z 1).isLt
  have e2 : (BitVec.ofNat 32 (i 1).val * 2#32 + k).toNat = 2 * (i 1).val + k.toNat := by
    rw [BitVec.toNat_add, BitVec.toNat_mul, BitVec.toNat_ofNat, BitVec.toNat_ofNat]
    omega
  have e1 : (BitVec.ofNat 32 (0 * 128 + (z 1).val)).toNat = (z 1).val := by
    rw [BitVec.toNat_ofNat]; omega
  show BitVec.ofBool (BitVec.ofNat 32 (0 * 128 + (z 1).val) == BitVec.ofNat 32 (i 1).val * 2#32 + k) = 1#1 ↔ _
  rw [← e2]
  constructor
  · intro h
    have hb : (BitVec.ofNat 32 (0 * 128 + (z 1).val) == BitVec.ofNat 32 (i 1).val * 2#32 + k) = true := by
      cases hc : (BitVec.ofNat 32 (0 * 128 + (z 1).val) == BitVec.ofNat 32 (i 1).val * 2#32 + k)
      · rw [hc] at h; exact absurd h (by decide)
      · rfl
    rw [← eq_of_beq hb]; exact e1.symm
  · intro h
    have h' : BitVec.ofNat 32 (0 * 128 + (z 1).val) = BitVec.ofNat 32 (i 1).val * 2#32 + k := BitVec.eq_of_toNat_eq (e1.trans h)
    rw [h', beq_self_eq_true]; rfl

/-- The two lanes a chunk's row writes into the scale scratch, at one entry. -/
theorem lanes_apply (i : grid0.Coords) (s0 s1 : FVec F S32x1 .f32) (xs : FVec F S32x128 .f32) (z : S32x128.Idx) :
    shapeCast S32x128 (select (cmpi .eq (iota .tc S32x128 32 [1] iota_S32x128_d1_w32) (broadcast S32x128 (Scalar.addi (Scalar.muli (BitVec.ofNat 32 (i 1).val) 2#32) 1#32)))
        (broadcastTo S32x128 (shapeCast S32x1 s1 shapeCasts_S32x1_S32x1) broadcasts_S32x1_S32x128)
        (select (cmpi .eq (iota .tc S32x128 32 [1] iota_S32x128_d1_w32) (broadcast S32x128 (Scalar.addi (Scalar.muli (BitVec.ofNat 32 (i 1).val) 2#32) 0#32)))
          (broadcastTo S32x128 (shapeCast S32x1 s0 shapeCasts_S32x1_S32x1) broadcasts_S32x1_S32x128) xs)) shapeCasts_S32x128_S32x128 z
      = if (z 1).val = 2 * (i 1).val + 1 then s1 (ix2 (z 0) (0 : Fin 1)) else if (z 1).val = 2 * (i 1).val then s0 (ix2 (z 0) (0 : Fin 1)) else xs z := by
  have hb : ∀ s : FVec F S32x1 .f32, broadcastTo S32x128 (shapeCast S32x1 s shapeCasts_S32x1_S32x1) broadcasts_S32x1_S32x128 z = s (ix2 (z 0) (0 : Fin 1)) := by
    intro s
    rw [shapeCast_self]
    refine congrArg s (funext fun a => Fin.ext ?_)
    match a with
    | ⟨0, _⟩ => rfl
    | ⟨1, _⟩ => rfl
  have l1 := lane_test i 1#32 (by decide) z
  have l0 := lane_test i 0#32 (by decide) z
  rw [shapeCast_self]
  show Scalar.select _ _ (Scalar.select _ _ _) = _
  rw [hb, hb]
  unfold Scalar.select
  by_cases h1 : (z 1).val = 2 * (i 1).val + 1
  · rw [if_pos h1]; exact if_pos (l1.mpr h1)
  · rw [if_neg h1]
    refine (if_neg (fun h => h1 (l1.mp h))).trans ?_
    by_cases h0 : (z 1).val = 2 * (i 1).val
    · rw [if_pos h0]; exact if_pos (l0.mpr h0)
    · rw [if_neg h0]; exact if_neg (fun h => h0 (l0.mp h))

/-- One store of the scale scratch. -/
theorem scales (i : grid0.Coords) (arg3 : Memref sig .tc .vmem S1024x5120 .bf16) (harg3 : arg3.IsWhole)
    (arg10 : Memref sig .tc .vmem S1024x128 .f32) (harg10 : arg10.IsWhole) (x1 : Vec F S1024x5120 .bf16) (xs : Vec F S1024x128 .f32) (W W' : Vec F S5120x512 .bf16) (hW : W' = W)
    (r e o d0 : ℕ) (hr : r < 32) (he : e = 256 * (r / 8)) (ho : o = 32 * (r % 8)) (hd0 : d0 = 32 * r)
    (inbd) (inb) (inb') (h1) (h2) (h3) (h4) (z : S32x128.Idx) :
    shapeCast S32x128 (select (cmpi .eq (iota .tc S32x128 32 [1] iota_S32x128_d1_w32) (broadcast S32x128 (Scalar.addi (Scalar.muli (BitVec.ofNat 32 (i 1).val) 2#32) 1#32)))
        (broadcastTo S32x128 (shapeCast S32x1 (scaleOf (vOf (acc (View.readAt (Elt F) arg3.view (Rect.unit (s := S1024x5120) ![e, 0] S256x5120.size inb).toLoadRect (harg3.unread x1)) W') o 128 384 h1 h2)) shapeCasts_S32x1_S32x1) broadcasts_S32x1_S32x128)
        (select (cmpi .eq (iota .tc S32x128 32 [1] iota_S32x128_d1_w32) (broadcast S32x128 (Scalar.addi (Scalar.muli (BitVec.ofNat 32 (i 1).val) 2#32) 0#32)))
          (broadcastTo S32x128 (shapeCast S32x1 (scaleOf (vOf (acc (View.readAt (Elt F) arg3.view (Rect.unit (s := S1024x5120) ![e, 0] S256x5120.size inb).toLoadRect (harg3.unread x1)) W') o 0 256 h3 h4)) shapeCasts_S32x1_S32x1) broadcasts_S32x1_S32x128)
          (View.readAt (Elt F) arg10.view (Rect.unit (s := S1024x128) ![d0, 0] S32x128.size inb').toLoadRect (harg10.unread xs)))) shapeCasts_S32x128_S32x128 z
      = lanes x1 W (i 1) xs ((Rect.unit (s := S1024x128) ![d0, 0] S32x128.size inbd).emb z) := by
  rw [gu_eq arg3 harg3 x1 W W' hW r 1 e o 128 384 hr (by omega) he ho rfl rfl, gu_eq arg3 harg3 x1 W W' hW r 0 e o 0 256 hr (by omega) he ho rfl rfl,
    lanes_apply, Memref.IsWhole.readAt_unread]
  subst hd0
  have hz0 : (z 0).val < 32 := (z 0).isLt
  have e1 : (((Rect.unit (s := S1024x128) ![32 * r, 0] S32x128.size inbd).emb z) 1).val = (z 1).val := by
    show 0 + 1 * (z 1).val = (z 1).val; omega
  have hs : ∀ b : Fin 2, scaleBlk x1 W (((Rect.unit (s := S1024x128) ![32 * r, 0] S32x128.size inbd).emb z) 0) b = scaleOf (gu x1 W ⟨r, hr⟩ b) (ix2 (z 0) (0 : Fin 1)) := by
    intro b
    unfold scaleBlk
    refine (congr (congrArg scaleOf (congrArg₂ (gu x1 W) (Fin.ext ?_) rfl)) (congrArg (fun q : Fin 32 => ix2 q (0 : Fin 1)) (Fin.ext ?_)))
    · show (32 * r + 1 * (z 0).val) / 32 = r; omega
    · show (32 * r + 1 * (z 0).val) % 32 = (z 0).val; omega
  unfold lanes
  rw [e1, hs, hs]
  rfl

end Cert.Proof.GuI

end
-- ==== Proof.GuIMidOut.lean ====
/- What a grid point that is not the last of its row leaves in its output blocks and in the scale scratch. -/
module

public import proofs.«01_k».proof.Proof.GuIChunk

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

/-- Stores that tile a buffer and leave their tiles of one value leave that value. -/
theorem read_of {sp : Space} {s : Shape} {e : EltTy} (v : View sig .tc sp s e) (f) (L : List (View.Piece (Elt F) s e)) (P : s.Idx → Elt F e)
    (hP : View.PiecesOf P L) (hc : ∀ y, ∃ p ∈ L, y ∈ p.1.set) : v.read (Elt F) (v.writes (Elt F) f L) = P := by
  rw [View.read_writes_of_cover v f v v.junk L hc, View.read_writes_junk_eq_canon]
  funext y
  exact View.canon_apply_of_pieces P L hP.mem y (hc y)

set_option maxHeartbeats 16000000 in
/-- Every store of the codes leaves its part of the block. -/
theorem runMidCodesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .fp8e4m3) (codesBlk x1 (wide x0 x2 x3 (i 1))) (runMid (F := F) c i arg2 harg2 arg3 harg3 arg4 harg4 arg5 harg5 arg6 harg6 arg7 harg7 arg8 harg8 arg9 harg9 arg10 harg10 hc1 x0 x1 x2 x3 xs1).1 := by
  have C := codes (F := F) arg3 harg3 x1 (wide x0 x2 x3 (i 1))
  have hW := load (F := F) c i arg2 harg2 arg4 harg4 arg5 harg5 arg9 x0 x2 x3
  unfold runMid; dsimp only
  refine ⟨C _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨C _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨C _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨C _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨C _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨C _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨C _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨C _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨C _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨C _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨C _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨C _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨C _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨C _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨C _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨C _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨C _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨C _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨C _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨C _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨C _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨C _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨C _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨C _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨C _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨C _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨C _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨C _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨C _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨C _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨C _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨C _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨C _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨C _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨C _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨C _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨C _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨C _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨C _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨C _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨C _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨C _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨C _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨C _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨C _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨C _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨C _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨C _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨C _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨C _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨C _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨C _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨C _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨C _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨C _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨C _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨C _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨C _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨C _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨C _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨C _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨C _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨C _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨C _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the codes hold after the run. -/
theorem runMidCodes (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .fp8e4m3) (f) :
    v.read (Elt F) (v.writes (Elt F) f (runMid (F := F) c i arg2 harg2 arg3 harg3 arg4 harg4 arg5 harg5 arg6 harg6 arg7 harg7 arg8 harg8 arg9 harg9 arg10 harg10 hc1 x0 x1 x2 x3 xs1).1) = (codesBlk x1 (wide x0 x2 x3 (i 1))) :=
  read_of v f _ _ (runMidCodesPieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the values leaves its part of the block. -/
theorem runMidWidePieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .bf16) (wideBlk x1 (wide x0 x2 x3 (i 1))) (runMid (F := F) c i arg2 harg2 arg3 harg3 arg4 harg4 arg5 harg5 arg6 harg6 arg7 harg7 arg8 harg8 arg9 harg9 arg10 harg10 hc1 x0 x1 x2 x3 xs1).2.2.1 := by
  have D := wides (F := F) arg3 harg3 x1 (wide x0 x2 x3 (i 1))
  have hW := load (F := F) c i arg2 harg2 arg4 harg4 arg5 harg5 arg9 x0 x2 x3
  unfold runMid; dsimp only
  refine ⟨D _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨D _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨D _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨D _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨D _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨D _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨D _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨D _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨D _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨D _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨D _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨D _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨D _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨D _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨D _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨D _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨D _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨D _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨D _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨D _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨D _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨D _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨D _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨D _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨D _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨D _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨D _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨D _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨D _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨D _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨D _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨D _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨D _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨D _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨D _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨D _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨D _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨D _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨D _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨D _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨D _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨D _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨D _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨D _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨D _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨D _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨D _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨D _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨D _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨D _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨D _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨D _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨D _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨D _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨D _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨D _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨D _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨D _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨D _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨D _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨D _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨D _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨D _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨D _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the values hold after the run. -/
theorem runMidWide (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .bf16) (f) :
    v.read (Elt F) (v.writes (Elt F) f (runMid (F := F) c i arg2 harg2 arg3 harg3 arg4 harg4 arg5 harg5 arg6 harg6 arg7 harg7 arg8 harg8 arg9 harg9 arg10 harg10 hc1 x0 x1 x2 x3 xs1).2.2.1) = (wideBlk x1 (wide x0 x2 x3 (i 1))) :=
  read_of v f _ _ (runMidWidePieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the scale scratch leaves its part of the block. -/
theorem runMidScalesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x128) (e := .f32) (lanes x1 (wide x0 x2 x3 (i 1)) (i 1) xs1) (runMid (F := F) c i arg2 harg2 arg3 harg3 arg4 harg4 arg5 harg5 arg6 harg6 arg7 harg7 arg8 harg8 arg9 harg9 arg10 harg10 hc1 x0 x1 x2 x3 xs1).2.2.2.1 := by
  have S := scales (F := F) i arg3 harg3 arg10 harg10 x1 xs1 (wide x0 x2 x3 (i 1))
  have hW := load (F := F) c i arg2 harg2 arg4 harg4 arg5 harg5 arg9 x0 x2 x3
  unfold runMid; dsimp only
  refine ⟨S _ hW 31 768 224 992 (by decide) rfl rfl rfl inb_S1024x128_S32x128_992_0 inb_S1024x5120_S256x5120_768_0 inb_S1024x128_S32x128_992_0 slices_S256x512_o224_128_S32x128 slices_S256x512_o224_384_S32x128 slices_S256x512_o224_0_S32x128 slices_S256x512_o224_256_S32x128, ?_⟩
  refine ⟨S _ hW 30 768 192 960 (by decide) rfl rfl rfl inb_S1024x128_S32x128_960_0 inb_S1024x5120_S256x5120_768_0 inb_S1024x128_S32x128_960_0 slices_S256x512_o192_128_S32x128 slices_S256x512_o192_384_S32x128 slices_S256x512_o192_0_S32x128 slices_S256x512_o192_256_S32x128, ?_⟩
  refine ⟨S _ hW 29 768 160 928 (by decide) rfl rfl rfl inb_S1024x128_S32x128_928_0 inb_S1024x5120_S256x5120_768_0 inb_S1024x128_S32x128_928_0 slices_S256x512_o160_128_S32x128 slices_S256x512_o160_384_S32x128 slices_S256x512_o160_0_S32x128 slices_S256x512_o160_256_S32x128, ?_⟩
  refine ⟨S _ hW 28 768 128 896 (by decide) rfl rfl rfl inb_S1024x128_S32x128_896_0 inb_S1024x5120_S256x5120_768_0 inb_S1024x128_S32x128_896_0 slices_S256x512_o128_128_S32x128 slices_S256x512_o128_384_S32x128 slices_S256x512_o128_0_S32x128 slices_S256x512_o128_256_S32x128, ?_⟩
  refine ⟨S _ hW 27 768 96 864 (by decide) rfl rfl rfl inb_S1024x128_S32x128_864_0 inb_S1024x5120_S256x5120_768_0 inb_S1024x128_S32x128_864_0 slices_S256x512_o96_128_S32x128 slices_S256x512_o96_384_S32x128 slices_S256x512_o96_0_S32x128 slices_S256x512_o96_256_S32x128, ?_⟩
  refine ⟨S _ hW 26 768 64 832 (by decide) rfl rfl rfl inb_S1024x128_S32x128_832_0 inb_S1024x5120_S256x5120_768_0 inb_S1024x128_S32x128_832_0 slices_S256x512_o64_128_S32x128 slices_S256x512_o64_384_S32x128 slices_S256x512_o64_0_S32x128 slices_S256x512_o64_256_S32x128, ?_⟩
  refine ⟨S _ hW 25 768 32 800 (by decide) rfl rfl rfl inb_S1024x128_S32x128_800_0 inb_S1024x5120_S256x5120_768_0 inb_S1024x128_S32x128_800_0 slices_S256x512_o32_128_S32x128 slices_S256x512_o32_384_S32x128 slices_S256x512_o32_0_S32x128 slices_S256x512_o32_256_S32x128, ?_⟩
  refine ⟨S _ hW 24 768 0 768 (by decide) rfl rfl rfl inb_S1024x128_S32x128_768_0 inb_S1024x5120_S256x5120_768_0 inb_S1024x128_S32x128_768_0 slices_S256x512_o0_128_S32x128 slices_S256x512_o0_384_S32x128 slices_S256x512_o0_0_S32x128 slices_S256x512_o0_256_S32x128, ?_⟩
  refine ⟨S _ hW 23 512 224 736 (by decide) rfl rfl rfl inb_S1024x128_S32x128_736_0 inb_S1024x5120_S256x5120_512_0 inb_S1024x128_S32x128_736_0 slices_S256x512_o224_128_S32x128 slices_S256x512_o224_384_S32x128 slices_S256x512_o224_0_S32x128 slices_S256x512_o224_256_S32x128, ?_⟩
  refine ⟨S _ hW 22 512 192 704 (by decide) rfl rfl rfl inb_S1024x128_S32x128_704_0 inb_S1024x5120_S256x5120_512_0 inb_S1024x128_S32x128_704_0 slices_S256x512_o192_128_S32x128 slices_S256x512_o192_384_S32x128 slices_S256x512_o192_0_S32x128 slices_S256x512_o192_256_S32x128, ?_⟩
  refine ⟨S _ hW 21 512 160 672 (by decide) rfl rfl rfl inb_S1024x128_S32x128_672_0 inb_S1024x5120_S256x5120_512_0 inb_S1024x128_S32x128_672_0 slices_S256x512_o160_128_S32x128 slices_S256x512_o160_384_S32x128 slices_S256x512_o160_0_S32x128 slices_S256x512_o160_256_S32x128, ?_⟩
  refine ⟨S _ hW 20 512 128 640 (by decide) rfl rfl rfl inb_S1024x128_S32x128_640_0 inb_S1024x5120_S256x5120_512_0 inb_S1024x128_S32x128_640_0 slices_S256x512_o128_128_S32x128 slices_S256x512_o128_384_S32x128 slices_S256x512_o128_0_S32x128 slices_S256x512_o128_256_S32x128, ?_⟩
  refine ⟨S _ hW 19 512 96 608 (by decide) rfl rfl rfl inb_S1024x128_S32x128_608_0 inb_S1024x5120_S256x5120_512_0 inb_S1024x128_S32x128_608_0 slices_S256x512_o96_128_S32x128 slices_S256x512_o96_384_S32x128 slices_S256x512_o96_0_S32x128 slices_S256x512_o96_256_S32x128, ?_⟩
  refine ⟨S _ hW 18 512 64 576 (by decide) rfl rfl rfl inb_S1024x128_S32x128_576_0 inb_S1024x5120_S256x5120_512_0 inb_S1024x128_S32x128_576_0 slices_S256x512_o64_128_S32x128 slices_S256x512_o64_384_S32x128 slices_S256x512_o64_0_S32x128 slices_S256x512_o64_256_S32x128, ?_⟩
  refine ⟨S _ hW 17 512 32 544 (by decide) rfl rfl rfl inb_S1024x128_S32x128_544_0 inb_S1024x5120_S256x5120_512_0 inb_S1024x128_S32x128_544_0 slices_S256x512_o32_128_S32x128 slices_S256x512_o32_384_S32x128 slices_S256x512_o32_0_S32x128 slices_S256x512_o32_256_S32x128, ?_⟩
  refine ⟨S _ hW 16 512 0 512 (by decide) rfl rfl rfl inb_S1024x128_S32x128_512_0 inb_S1024x5120_S256x5120_512_0 inb_S1024x128_S32x128_512_0 slices_S256x512_o0_128_S32x128 slices_S256x512_o0_384_S32x128 slices_S256x512_o0_0_S32x128 slices_S256x512_o0_256_S32x128, ?_⟩
  refine ⟨S _ hW 15 256 224 480 (by decide) rfl rfl rfl inb_S1024x128_S32x128_480_0 inb_S1024x5120_S256x5120_256_0 inb_S1024x128_S32x128_480_0 slices_S256x512_o224_128_S32x128 slices_S256x512_o224_384_S32x128 slices_S256x512_o224_0_S32x128 slices_S256x512_o224_256_S32x128, ?_⟩
  refine ⟨S _ hW 14 256 192 448 (by decide) rfl rfl rfl inb_S1024x128_S32x128_448_0 inb_S1024x5120_S256x5120_256_0 inb_S1024x128_S32x128_448_0 slices_S256x512_o192_128_S32x128 slices_S256x512_o192_384_S32x128 slices_S256x512_o192_0_S32x128 slices_S256x512_o192_256_S32x128, ?_⟩
  refine ⟨S _ hW 13 256 160 416 (by decide) rfl rfl rfl inb_S1024x128_S32x128_416_0 inb_S1024x5120_S256x5120_256_0 inb_S1024x128_S32x128_416_0 slices_S256x512_o160_128_S32x128 slices_S256x512_o160_384_S32x128 slices_S256x512_o160_0_S32x128 slices_S256x512_o160_256_S32x128, ?_⟩
  refine ⟨S _ hW 12 256 128 384 (by decide) rfl rfl rfl inb_S1024x128_S32x128_384_0 inb_S1024x5120_S256x5120_256_0 inb_S1024x128_S32x128_384_0 slices_S256x512_o128_128_S32x128 slices_S256x512_o128_384_S32x128 slices_S256x512_o128_0_S32x128 slices_S256x512_o128_256_S32x128, ?_⟩
  refine ⟨S _ hW 11 256 96 352 (by decide) rfl rfl rfl inb_S1024x128_S32x128_352_0 inb_S1024x5120_S256x5120_256_0 inb_S1024x128_S32x128_352_0 slices_S256x512_o96_128_S32x128 slices_S256x512_o96_384_S32x128 slices_S256x512_o96_0_S32x128 slices_S256x512_o96_256_S32x128, ?_⟩
  refine ⟨S _ hW 10 256 64 320 (by decide) rfl rfl rfl inb_S1024x128_S32x128_320_0 inb_S1024x5120_S256x5120_256_0 inb_S1024x128_S32x128_320_0 slices_S256x512_o64_128_S32x128 slices_S256x512_o64_384_S32x128 slices_S256x512_o64_0_S32x128 slices_S256x512_o64_256_S32x128, ?_⟩
  refine ⟨S _ hW 9 256 32 288 (by decide) rfl rfl rfl inb_S1024x128_S32x128_288_0 inb_S1024x5120_S256x5120_256_0 inb_S1024x128_S32x128_288_0 slices_S256x512_o32_128_S32x128 slices_S256x512_o32_384_S32x128 slices_S256x512_o32_0_S32x128 slices_S256x512_o32_256_S32x128, ?_⟩
  refine ⟨S _ hW 8 256 0 256 (by decide) rfl rfl rfl inb_S1024x128_S32x128_256_0 inb_S1024x5120_S256x5120_256_0 inb_S1024x128_S32x128_256_0 slices_S256x512_o0_128_S32x128 slices_S256x512_o0_384_S32x128 slices_S256x512_o0_0_S32x128 slices_S256x512_o0_256_S32x128, ?_⟩
  refine ⟨S _ hW 7 0 224 224 (by decide) rfl rfl rfl inb_S1024x128_S32x128_224_0 inb_S1024x5120_S256x5120_0_0 inb_S1024x128_S32x128_224_0 slices_S256x512_o224_128_S32x128 slices_S256x512_o224_384_S32x128 slices_S256x512_o224_0_S32x128 slices_S256x512_o224_256_S32x128, ?_⟩
  refine ⟨S _ hW 6 0 192 192 (by decide) rfl rfl rfl inb_S1024x128_S32x128_192_0 inb_S1024x5120_S256x5120_0_0 inb_S1024x128_S32x128_192_0 slices_S256x512_o192_128_S32x128 slices_S256x512_o192_384_S32x128 slices_S256x512_o192_0_S32x128 slices_S256x512_o192_256_S32x128, ?_⟩
  refine ⟨S _ hW 5 0 160 160 (by decide) rfl rfl rfl inb_S1024x128_S32x128_160_0 inb_S1024x5120_S256x5120_0_0 inb_S1024x128_S32x128_160_0 slices_S256x512_o160_128_S32x128 slices_S256x512_o160_384_S32x128 slices_S256x512_o160_0_S32x128 slices_S256x512_o160_256_S32x128, ?_⟩
  refine ⟨S _ hW 4 0 128 128 (by decide) rfl rfl rfl inb_S1024x128_S32x128_128_0 inb_S1024x5120_S256x5120_0_0 inb_S1024x128_S32x128_128_0 slices_S256x512_o128_128_S32x128 slices_S256x512_o128_384_S32x128 slices_S256x512_o128_0_S32x128 slices_S256x512_o128_256_S32x128, ?_⟩
  refine ⟨S _ hW 3 0 96 96 (by decide) rfl rfl rfl inb_S1024x128_S32x128_96_0 inb_S1024x5120_S256x5120_0_0 inb_S1024x128_S32x128_96_0 slices_S256x512_o96_128_S32x128 slices_S256x512_o96_384_S32x128 slices_S256x512_o96_0_S32x128 slices_S256x512_o96_256_S32x128, ?_⟩
  refine ⟨S _ hW 2 0 64 64 (by decide) rfl rfl rfl inb_S1024x128_S32x128_64_0 inb_S1024x5120_S256x5120_0_0 inb_S1024x128_S32x128_64_0 slices_S256x512_o64_128_S32x128 slices_S256x512_o64_384_S32x128 slices_S256x512_o64_0_S32x128 slices_S256x512_o64_256_S32x128, ?_⟩
  refine ⟨S _ hW 1 0 32 32 (by decide) rfl rfl rfl inb_S1024x128_S32x128_32_0 inb_S1024x5120_S256x5120_0_0 inb_S1024x128_S32x128_32_0 slices_S256x512_o32_128_S32x128 slices_S256x512_o32_384_S32x128 slices_S256x512_o32_0_S32x128 slices_S256x512_o32_256_S32x128, ?_⟩
  refine ⟨S _ hW 0 0 0 0 (by decide) rfl rfl rfl inb_S1024x128_S32x128_0_0 inb_S1024x5120_S256x5120_0_0 inb_S1024x128_S32x128_0_0 slices_S256x512_o0_128_S32x128 slices_S256x512_o0_384_S32x128 slices_S256x512_o0_0_S32x128 slices_S256x512_o0_256_S32x128, ?_⟩
  trivial

/-- What the scale scratch hold after the run. -/
theorem runMidScales (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : ¬isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x128 .f32) (f) :
    v.read (Elt F) (v.writes (Elt F) f (runMid (F := F) c i arg2 harg2 arg3 harg3 arg4 harg4 arg5 harg5 arg6 harg6 arg7 harg7 arg8 harg8 arg9 harg9 arg10 harg10 hc1 x0 x1 x2 x3 xs1).2.2.2.1) = (lanes x1 (wide x0 x2 x3 (i 1)) (i 1) xs1) :=
  read_of v f _ _ (runMidScalesPieces c i arg2 harg2 arg3 harg3 arg4 harg4 arg5 harg5 arg6 harg6 arg7 harg7 arg8 harg8 arg9 harg9 arg10 harg10 hc1 x0 x1 x2 x3 xs1) (View.cover_of_tiledL (s := S1024x128) _ S32x128.size (by sl_kernel_rfl))

end Cert.Proof.GuI

end
-- ==== Proof.GuIEndOut.lean ====
/- What the last grid point of a row of the grid leaves in its output blocks and in the scale scratch. -/
module

public import proofs.«01_k».proof.Proof.GuIMidOut

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

set_option maxHeartbeats 16000000 in
/-- Every store of the codes leaves its part of the block. -/
theorem runEndCodesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .fp8e4m3) (codesBlk x1 (wide x0 x2 x3 (i 1))) (runEnd (F := F) c i arg2 harg2 arg3 harg3 arg4 harg4 arg5 harg5 arg6 harg6 arg7 harg7 arg8 harg8 arg9 harg9 arg10 harg10 hc1 x0 x1 x2 x3 xs1).1 := by
  have C := codes (F := F) arg3 harg3 x1 (wide x0 x2 x3 (i 1))
  have hW := loadEnd (F := F) c i arg2 harg2 arg4 harg4 arg5 harg5 arg9 x0 x2 x3
  unfold runEnd; dsimp only
  refine ⟨C _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨C _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨C _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨C _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨C _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨C _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨C _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨C _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨C _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨C _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨C _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨C _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨C _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨C _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨C _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨C _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨C _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨C _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨C _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨C _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨C _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨C _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨C _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨C _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨C _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨C _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨C _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨C _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨C _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨C _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨C _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨C _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨C _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨C _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨C _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨C _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨C _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨C _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨C _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨C _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨C _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨C _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨C _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨C _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨C _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨C _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨C _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨C _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨C _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨C _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨C _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨C _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨C _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨C _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨C _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨C _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨C _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨C _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨C _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨C _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨C _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨C _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨C _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨C _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the codes hold after the run. -/
theorem runEndCodes (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .fp8e4m3) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).1) = (codesBlk x1 (wide x0 x2 x3 (i 1))) :=
  read_of v f _ _ (runEndCodesPieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the values leaves its part of the block. -/
theorem runEndWidePieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x256) (e := .bf16) (wideBlk x1 (wide x0 x2 x3 (i 1))) (runEnd (F := F) c i arg2 harg2 arg3 harg3 arg4 harg4 arg5 harg5 arg6 harg6 arg7 harg7 arg8 harg8 arg9 harg9 arg10 harg10 hc1 x0 x1 x2 x3 xs1).2.2.1 := by
  have D := wides (F := F) arg3 harg3 x1 (wide x0 x2 x3 (i 1))
  have hW := loadEnd (F := F) c i arg2 harg2 arg4 harg4 arg5 harg5 arg9 x0 x2 x3
  unfold runEnd; dsimp only
  refine ⟨D _ hW 31 1 768 224 992 128 384 (by decide) (by decide) rfl rfl rfl rfl rfl inb_S1024x256_S32x128_992_128 inb_S1024x5120_S256x5120_768_0 slices_S256x512_o224_128_S32x128 slices_S256x512_o224_384_S32x128, ?_⟩; refine ⟨D _ hW 31 0 768 224 992 0 256 (by decide) (by decide) rfl rfl rfl rfl rfl inb_S1024x256_S32x128_992_0 inb_S1024x5120_S256x5120_768_0 slices_S256x512_o224_0_S32x128 slices_S256x512_o224_256_S32x128, ?_⟩
  refine ⟨D _ hW 30 1 768 192 960 128 384 (by decide) (by decide) rfl rfl rfl rfl rfl inb_S1024x256_S32x128_960_128 inb_S1024x5120_S256x5120_768_0 slices_S256x512_o192_128_S32x128 slices_S256x512_o192_384_S32x128, ?_⟩; refine ⟨D _ hW 30 0 768 192 960 0 256 (by decide) (by decide) rfl rfl rfl rfl rfl inb_S1024x256_S32x128_960_0 inb_S1024x5120_S256x5120_768_0 slices_S256x512_o192_0_S32x128 slices_S256x512_o192_256_S32x128, ?_⟩
  refine ⟨D _ hW 29 1 768 160 928 128 384 (by decide) (by decide) rfl rfl rfl rfl rfl inb_S1024x256_S32x128_928_128 inb_S1024x5120_S256x5120_768_0 slices_S256x512_o160_128_S32x128 slices_S256x512_o160_384_S32x128, ?_⟩; refine ⟨D _ hW 29 0 768 160 928 0 256 (by decide) (by decide) rfl rfl rfl rfl rfl inb_S1024x256_S32x128_928_0 inb_S1024x5120_S256x5120_768_0 slices_S256x512_o160_0_S32x128 slices_S256x512_o160_256_S32x128, ?_⟩
  refine ⟨D _ hW 28 1 768 128 896 128 384 (by decide) (by decide) rfl rfl rfl rfl rfl inb_S1024x256_S32x128_896_128 inb_S1024x5120_S256x5120_768_0 slices_S256x512_o128_128_S32x128 slices_S256x512_o128_384_S32x128, ?_⟩; refine ⟨D _ hW 28 0 768 128 896 0 256 (by decide) (by decide) rfl rfl rfl rfl rfl inb_S1024x256_S32x128_896_0 inb_S1024x5120_S256x5120_768_0 slices_S256x512_o128_0_S32x128 slices_S256x512_o128_256_S32x128, ?_⟩
  refine ⟨D _ hW 27 1 768 96 864 128 384 (by decide) (by decide) rfl rfl rfl rfl rfl inb_S1024x256_S32x128_864_128 inb_S1024x5120_S256x5120_768_0 slices_S256x512_o96_128_S32x128 slices_S256x512_o96_384_S32x128, ?_⟩; refine ⟨D _ hW 27 0 768 96 864 0 256 (by decide) (by decide) rfl rfl rfl rfl rfl inb_S1024x256_S32x128_864_0 inb_S1024x5120_S256x5120_768_0 slices_S256x512_o96_0_S32x128 slices_S256x512_o96_256_S32x128, ?_⟩
  refine ⟨D _ hW 26 1 768 64 832 128 384 (by decide) (by decide) rfl rfl rfl rfl rfl inb_S1024x256_S32x128_832_128 inb_S1024x5120_S256x5120_768_0 slices_S256x512_o64_128_S32x128 slices_S256x512_o64_384_S32x128, ?_⟩; refine ⟨D _ hW 26 0 768 64 832 0 256 (by decide) (by decide) rfl rfl rfl rfl rfl inb_S1024x256_S32x128_832_0 inb_S1024x5120_S256x5120_768_0 slices_S256x512_o64_0_S32x128 slices_S256x512_o64_256_S32x128, ?_⟩
  refine ⟨D _ hW 25 1 768 32 800 128 384 (by decide) (by decide) rfl rfl rfl rfl rfl inb_S1024x256_S32x128_800_128 inb_S1024x5120_S256x5120_768_0 slices_S256x512_o32_128_S32x128 slices_S256x512_o32_384_S32x128, ?_⟩; refine ⟨D _ hW 25 0 768 32 800 0 256 (by decide) (by decide) rfl rfl rfl rfl rfl inb_S1024x256_S32x128_800_0 inb_S1024x5120_S256x5120_768_0 slices_S256x512_o32_0_S32x128 slices_S256x512_o32_256_S32x128, ?_⟩
  refine ⟨D _ hW 24 1 768 0 768 128 384 (by decide) (by decide) rfl rfl rfl rfl rfl inb_S1024x256_S32x128_768_128 inb_S1024x5120_S256x5120_768_0 slices_S256x512_o0_128_S32x128 slices_S256x512_o0_384_S32x128, ?_⟩; refine ⟨D _ hW 24 0 768 0 768 0 256 (by decide) (by decide) rfl rfl rfl rfl rfl inb_S1024x256_S32x128_768_0 inb_S1024x5120_S256x5120_768_0 slices_S256x512_o0_0_S32x128 slices_S256x512_o0_256_S32x128, ?_⟩
  refine ⟨D _ hW 23 1 512 224 736 128 384 (by decide) (by decide) rfl rfl rfl rfl rfl inb_S1024x256_S32x128_736_128 inb_S1024x5120_S256x5120_512_0 slices_S256x512_o224_128_S32x128 slices_S256x512_o224_384_S32x128, ?_⟩; refine ⟨D _ hW 23 0 512 224 736 0 256 (by decide) (by decide) rfl rfl rfl rfl rfl inb_S1024x256_S32x128_736_0 inb_S1024x5120_S256x5120_512_0 slices_S256x512_o224_0_S32x128 slices_S256x512_o224_256_S32x128, ?_⟩
  refine ⟨D _ hW 22 1 512 192 704 128 384 (by decide) (by decide) rfl rfl rfl rfl rfl inb_S1024x256_S32x128_704_128 inb_S1024x5120_S256x5120_512_0 slices_S256x512_o192_128_S32x128 slices_S256x512_o192_384_S32x128, ?_⟩; refine ⟨D _ hW 22 0 512 192 704 0 256 (by decide) (by decide) rfl rfl rfl rfl rfl inb_S1024x256_S32x128_704_0 inb_S1024x5120_S256x5120_512_0 slices_S256x512_o192_0_S32x128 slices_S256x512_o192_256_S32x128, ?_⟩
  refine ⟨D _ hW 21 1 512 160 672 128 384 (by decide) (by decide) rfl rfl rfl rfl rfl inb_S1024x256_S32x128_672_128 inb_S1024x5120_S256x5120_512_0 slices_S256x512_o160_128_S32x128 slices_S256x512_o160_384_S32x128, ?_⟩; refine ⟨D _ hW 21 0 512 160 672 0 256 (by decide) (by decide) rfl rfl rfl rfl rfl inb_S1024x256_S32x128_672_0 inb_S1024x5120_S256x5120_512_0 slices_S256x512_o160_0_S32x128 slices_S256x512_o160_256_S32x128, ?_⟩
  refine ⟨D _ hW 20 1 512 128 640 128 384 (by decide) (by decide) rfl rfl rfl rfl rfl inb_S1024x256_S32x128_640_128 inb_S1024x5120_S256x5120_512_0 slices_S256x512_o128_128_S32x128 slices_S256x512_o128_384_S32x128, ?_⟩; refine ⟨D _ hW 20 0 512 128 640 0 256 (by decide) (by decide) rfl rfl rfl rfl rfl inb_S1024x256_S32x128_640_0 inb_S1024x5120_S256x5120_512_0 slices_S256x512_o128_0_S32x128 slices_S256x512_o128_256_S32x128, ?_⟩
  refine ⟨D _ hW 19 1 512 96 608 128 384 (by decide) (by decide) rfl rfl rfl rfl rfl inb_S1024x256_S32x128_608_128 inb_S1024x5120_S256x5120_512_0 slices_S256x512_o96_128_S32x128 slices_S256x512_o96_384_S32x128, ?_⟩; refine ⟨D _ hW 19 0 512 96 608 0 256 (by decide) (by decide) rfl rfl rfl rfl rfl inb_S1024x256_S32x128_608_0 inb_S1024x5120_S256x5120_512_0 slices_S256x512_o96_0_S32x128 slices_S256x512_o96_256_S32x128, ?_⟩
  refine ⟨D _ hW 18 1 512 64 576 128 384 (by decide) (by decide) rfl rfl rfl rfl rfl inb_S1024x256_S32x128_576_128 inb_S1024x5120_S256x5120_512_0 slices_S256x512_o64_128_S32x128 slices_S256x512_o64_384_S32x128, ?_⟩; refine ⟨D _ hW 18 0 512 64 576 0 256 (by decide) (by decide) rfl rfl rfl rfl rfl inb_S1024x256_S32x128_576_0 inb_S1024x5120_S256x5120_512_0 slices_S256x512_o64_0_S32x128 slices_S256x512_o64_256_S32x128, ?_⟩
  refine ⟨D _ hW 17 1 512 32 544 128 384 (by decide) (by decide) rfl rfl rfl rfl rfl inb_S1024x256_S32x128_544_128 inb_S1024x5120_S256x5120_512_0 slices_S256x512_o32_128_S32x128 slices_S256x512_o32_384_S32x128, ?_⟩; refine ⟨D _ hW 17 0 512 32 544 0 256 (by decide) (by decide) rfl rfl rfl rfl rfl inb_S1024x256_S32x128_544_0 inb_S1024x5120_S256x5120_512_0 slices_S256x512_o32_0_S32x128 slices_S256x512_o32_256_S32x128, ?_⟩
  refine ⟨D _ hW 16 1 512 0 512 128 384 (by decide) (by decide) rfl rfl rfl rfl rfl inb_S1024x256_S32x128_512_128 inb_S1024x5120_S256x5120_512_0 slices_S256x512_o0_128_S32x128 slices_S256x512_o0_384_S32x128, ?_⟩; refine ⟨D _ hW 16 0 512 0 512 0 256 (by decide) (by decide) rfl rfl rfl rfl rfl inb_S1024x256_S32x128_512_0 inb_S1024x5120_S256x5120_512_0 slices_S256x512_o0_0_S32x128 slices_S256x512_o0_256_S32x128, ?_⟩
  refine ⟨D _ hW 15 1 256 224 480 128 384 (by decide) (by decide) rfl rfl rfl rfl rfl inb_S1024x256_S32x128_480_128 inb_S1024x5120_S256x5120_256_0 slices_S256x512_o224_128_S32x128 slices_S256x512_o224_384_S32x128, ?_⟩; refine ⟨D _ hW 15 0 256 224 480 0 256 (by decide) (by decide) rfl rfl rfl rfl rfl inb_S1024x256_S32x128_480_0 inb_S1024x5120_S256x5120_256_0 slices_S256x512_o224_0_S32x128 slices_S256x512_o224_256_S32x128, ?_⟩
  refine ⟨D _ hW 14 1 256 192 448 128 384 (by decide) (by decide) rfl rfl rfl rfl rfl inb_S1024x256_S32x128_448_128 inb_S1024x5120_S256x5120_256_0 slices_S256x512_o192_128_S32x128 slices_S256x512_o192_384_S32x128, ?_⟩; refine ⟨D _ hW 14 0 256 192 448 0 256 (by decide) (by decide) rfl rfl rfl rfl rfl inb_S1024x256_S32x128_448_0 inb_S1024x5120_S256x5120_256_0 slices_S256x512_o192_0_S32x128 slices_S256x512_o192_256_S32x128, ?_⟩
  refine ⟨D _ hW 13 1 256 160 416 128 384 (by decide) (by decide) rfl rfl rfl rfl rfl inb_S1024x256_S32x128_416_128 inb_S1024x5120_S256x5120_256_0 slices_S256x512_o160_128_S32x128 slices_S256x512_o160_384_S32x128, ?_⟩; refine ⟨D _ hW 13 0 256 160 416 0 256 (by decide) (by decide) rfl rfl rfl rfl rfl inb_S1024x256_S32x128_416_0 inb_S1024x5120_S256x5120_256_0 slices_S256x512_o160_0_S32x128 slices_S256x512_o160_256_S32x128, ?_⟩
  refine ⟨D _ hW 12 1 256 128 384 128 384 (by decide) (by decide) rfl rfl rfl rfl rfl inb_S1024x256_S32x128_384_128 inb_S1024x5120_S256x5120_256_0 slices_S256x512_o128_128_S32x128 slices_S256x512_o128_384_S32x128, ?_⟩; refine ⟨D _ hW 12 0 256 128 384 0 256 (by decide) (by decide) rfl rfl rfl rfl rfl inb_S1024x256_S32x128_384_0 inb_S1024x5120_S256x5120_256_0 slices_S256x512_o128_0_S32x128 slices_S256x512_o128_256_S32x128, ?_⟩
  refine ⟨D _ hW 11 1 256 96 352 128 384 (by decide) (by decide) rfl rfl rfl rfl rfl inb_S1024x256_S32x128_352_128 inb_S1024x5120_S256x5120_256_0 slices_S256x512_o96_128_S32x128 slices_S256x512_o96_384_S32x128, ?_⟩; refine ⟨D _ hW 11 0 256 96 352 0 256 (by decide) (by decide) rfl rfl rfl rfl rfl inb_S1024x256_S32x128_352_0 inb_S1024x5120_S256x5120_256_0 slices_S256x512_o96_0_S32x128 slices_S256x512_o96_256_S32x128, ?_⟩
  refine ⟨D _ hW 10 1 256 64 320 128 384 (by decide) (by decide) rfl rfl rfl rfl rfl inb_S1024x256_S32x128_320_128 inb_S1024x5120_S256x5120_256_0 slices_S256x512_o64_128_S32x128 slices_S256x512_o64_384_S32x128, ?_⟩; refine ⟨D _ hW 10 0 256 64 320 0 256 (by decide) (by decide) rfl rfl rfl rfl rfl inb_S1024x256_S32x128_320_0 inb_S1024x5120_S256x5120_256_0 slices_S256x512_o64_0_S32x128 slices_S256x512_o64_256_S32x128, ?_⟩
  refine ⟨D _ hW 9 1 256 32 288 128 384 (by decide) (by decide) rfl rfl rfl rfl rfl inb_S1024x256_S32x128_288_128 inb_S1024x5120_S256x5120_256_0 slices_S256x512_o32_128_S32x128 slices_S256x512_o32_384_S32x128, ?_⟩; refine ⟨D _ hW 9 0 256 32 288 0 256 (by decide) (by decide) rfl rfl rfl rfl rfl inb_S1024x256_S32x128_288_0 inb_S1024x5120_S256x5120_256_0 slices_S256x512_o32_0_S32x128 slices_S256x512_o32_256_S32x128, ?_⟩
  refine ⟨D _ hW 8 1 256 0 256 128 384 (by decide) (by decide) rfl rfl rfl rfl rfl inb_S1024x256_S32x128_256_128 inb_S1024x5120_S256x5120_256_0 slices_S256x512_o0_128_S32x128 slices_S256x512_o0_384_S32x128, ?_⟩; refine ⟨D _ hW 8 0 256 0 256 0 256 (by decide) (by decide) rfl rfl rfl rfl rfl inb_S1024x256_S32x128_256_0 inb_S1024x5120_S256x5120_256_0 slices_S256x512_o0_0_S32x128 slices_S256x512_o0_256_S32x128, ?_⟩
  refine ⟨D _ hW 7 1 0 224 224 128 384 (by decide) (by decide) rfl rfl rfl rfl rfl inb_S1024x256_S32x128_224_128 inb_S1024x5120_S256x5120_0_0 slices_S256x512_o224_128_S32x128 slices_S256x512_o224_384_S32x128, ?_⟩; refine ⟨D _ hW 7 0 0 224 224 0 256 (by decide) (by decide) rfl rfl rfl rfl rfl inb_S1024x256_S32x128_224_0 inb_S1024x5120_S256x5120_0_0 slices_S256x512_o224_0_S32x128 slices_S256x512_o224_256_S32x128, ?_⟩
  refine ⟨D _ hW 6 1 0 192 192 128 384 (by decide) (by decide) rfl rfl rfl rfl rfl inb_S1024x256_S32x128_192_128 inb_S1024x5120_S256x5120_0_0 slices_S256x512_o192_128_S32x128 slices_S256x512_o192_384_S32x128, ?_⟩; refine ⟨D _ hW 6 0 0 192 192 0 256 (by decide) (by decide) rfl rfl rfl rfl rfl inb_S1024x256_S32x128_192_0 inb_S1024x5120_S256x5120_0_0 slices_S256x512_o192_0_S32x128 slices_S256x512_o192_256_S32x128, ?_⟩
  refine ⟨D _ hW 5 1 0 160 160 128 384 (by decide) (by decide) rfl rfl rfl rfl rfl inb_S1024x256_S32x128_160_128 inb_S1024x5120_S256x5120_0_0 slices_S256x512_o160_128_S32x128 slices_S256x512_o160_384_S32x128, ?_⟩; refine ⟨D _ hW 5 0 0 160 160 0 256 (by decide) (by decide) rfl rfl rfl rfl rfl inb_S1024x256_S32x128_160_0 inb_S1024x5120_S256x5120_0_0 slices_S256x512_o160_0_S32x128 slices_S256x512_o160_256_S32x128, ?_⟩
  refine ⟨D _ hW 4 1 0 128 128 128 384 (by decide) (by decide) rfl rfl rfl rfl rfl inb_S1024x256_S32x128_128_128 inb_S1024x5120_S256x5120_0_0 slices_S256x512_o128_128_S32x128 slices_S256x512_o128_384_S32x128, ?_⟩; refine ⟨D _ hW 4 0 0 128 128 0 256 (by decide) (by decide) rfl rfl rfl rfl rfl inb_S1024x256_S32x128_128_0 inb_S1024x5120_S256x5120_0_0 slices_S256x512_o128_0_S32x128 slices_S256x512_o128_256_S32x128, ?_⟩
  refine ⟨D _ hW 3 1 0 96 96 128 384 (by decide) (by decide) rfl rfl rfl rfl rfl inb_S1024x256_S32x128_96_128 inb_S1024x5120_S256x5120_0_0 slices_S256x512_o96_128_S32x128 slices_S256x512_o96_384_S32x128, ?_⟩; refine ⟨D _ hW 3 0 0 96 96 0 256 (by decide) (by decide) rfl rfl rfl rfl rfl inb_S1024x256_S32x128_96_0 inb_S1024x5120_S256x5120_0_0 slices_S256x512_o96_0_S32x128 slices_S256x512_o96_256_S32x128, ?_⟩
  refine ⟨D _ hW 2 1 0 64 64 128 384 (by decide) (by decide) rfl rfl rfl rfl rfl inb_S1024x256_S32x128_64_128 inb_S1024x5120_S256x5120_0_0 slices_S256x512_o64_128_S32x128 slices_S256x512_o64_384_S32x128, ?_⟩; refine ⟨D _ hW 2 0 0 64 64 0 256 (by decide) (by decide) rfl rfl rfl rfl rfl inb_S1024x256_S32x128_64_0 inb_S1024x5120_S256x5120_0_0 slices_S256x512_o64_0_S32x128 slices_S256x512_o64_256_S32x128, ?_⟩
  refine ⟨D _ hW 1 1 0 32 32 128 384 (by decide) (by decide) rfl rfl rfl rfl rfl inb_S1024x256_S32x128_32_128 inb_S1024x5120_S256x5120_0_0 slices_S256x512_o32_128_S32x128 slices_S256x512_o32_384_S32x128, ?_⟩; refine ⟨D _ hW 1 0 0 32 32 0 256 (by decide) (by decide) rfl rfl rfl rfl rfl inb_S1024x256_S32x128_32_0 inb_S1024x5120_S256x5120_0_0 slices_S256x512_o32_0_S32x128 slices_S256x512_o32_256_S32x128, ?_⟩
  refine ⟨D _ hW 0 1 0 0 0 128 384 (by decide) (by decide) rfl rfl rfl rfl rfl inb_S1024x256_S32x128_0_128 inb_S1024x5120_S256x5120_0_0 slices_S256x512_o0_128_S32x128 slices_S256x512_o0_384_S32x128, ?_⟩; refine ⟨D _ hW 0 0 0 0 0 0 256 (by decide) (by decide) rfl rfl rfl rfl rfl inb_S1024x256_S32x128_0_0 inb_S1024x5120_S256x5120_0_0 slices_S256x512_o0_0_S32x128 slices_S256x512_o0_256_S32x128, ?_⟩
  trivial

/-- What the values hold after the run. -/
theorem runEndWide (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x256 .bf16) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).2.2.1) = (wideBlk x1 (wide x0 x2 x3 (i 1))) :=
  read_of v f _ _ (runEndWidePieces c i arg2 harg2 arg3 harg3 arg4 harg4 arg5 harg5 arg6 harg6 arg7 harg7 arg8 harg8 arg9 harg9 arg10 harg10 hc1 x0 x1 x2 x3 xs1) (View.cover_of_tiledL (s := S1024x256) _ S32x128.size (by sl_kernel_rfl))

set_option maxHeartbeats 16000000 in
/-- Every store of the scale scratch leaves its part of the block. -/
theorem runEndScalesPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S1024x128) (e := .f32) (lanes x1 (wide x0 x2 x3 (i 1)) (i 1) xs1) (runEnd (F := F) c i arg2 harg2 arg3 harg3 arg4 harg4 arg5 harg5 arg6 harg6 arg7 harg7 arg8 harg8 arg9 harg9 arg10 harg10 hc1 x0 x1 x2 x3 xs1).2.2.2.1 := by
  have S := scales (F := F) i arg3 harg3 arg10 harg10 x1 xs1 (wide x0 x2 x3 (i 1))
  have hW := loadEnd (F := F) c i arg2 harg2 arg4 harg4 arg5 harg5 arg9 x0 x2 x3
  show View.PiecesOf (lanes x1 (wide x0 x2 x3 (i 1)) (i 1) xs1) (runEnd.sl.HS1_32 (F := F) c i arg2 harg2 arg3 harg3 arg4 harg4 arg5 harg5 arg9 arg10 harg10 x0 x1 x2 x3 xs1)
  unfold runEnd.sl.HS1_32
  refine ⟨S _ hW 31 768 224 992 (by decide) rfl rfl rfl inb_S1024x128_S32x128_992_0 inb_S1024x5120_S256x5120_768_0 inb_S1024x128_S32x128_992_0 slices_S256x512_o224_128_S32x128 slices_S256x512_o224_384_S32x128 slices_S256x512_o224_0_S32x128 slices_S256x512_o224_256_S32x128, ?_⟩
  refine ⟨S _ hW 30 768 192 960 (by decide) rfl rfl rfl inb_S1024x128_S32x128_960_0 inb_S1024x5120_S256x5120_768_0 inb_S1024x128_S32x128_960_0 slices_S256x512_o192_128_S32x128 slices_S256x512_o192_384_S32x128 slices_S256x512_o192_0_S32x128 slices_S256x512_o192_256_S32x128, ?_⟩
  refine ⟨S _ hW 29 768 160 928 (by decide) rfl rfl rfl inb_S1024x128_S32x128_928_0 inb_S1024x5120_S256x5120_768_0 inb_S1024x128_S32x128_928_0 slices_S256x512_o160_128_S32x128 slices_S256x512_o160_384_S32x128 slices_S256x512_o160_0_S32x128 slices_S256x512_o160_256_S32x128, ?_⟩
  refine ⟨S _ hW 28 768 128 896 (by decide) rfl rfl rfl inb_S1024x128_S32x128_896_0 inb_S1024x5120_S256x5120_768_0 inb_S1024x128_S32x128_896_0 slices_S256x512_o128_128_S32x128 slices_S256x512_o128_384_S32x128 slices_S256x512_o128_0_S32x128 slices_S256x512_o128_256_S32x128, ?_⟩
  refine ⟨S _ hW 27 768 96 864 (by decide) rfl rfl rfl inb_S1024x128_S32x128_864_0 inb_S1024x5120_S256x5120_768_0 inb_S1024x128_S32x128_864_0 slices_S256x512_o96_128_S32x128 slices_S256x512_o96_384_S32x128 slices_S256x512_o96_0_S32x128 slices_S256x512_o96_256_S32x128, ?_⟩
  refine ⟨S _ hW 26 768 64 832 (by decide) rfl rfl rfl inb_S1024x128_S32x128_832_0 inb_S1024x5120_S256x5120_768_0 inb_S1024x128_S32x128_832_0 slices_S256x512_o64_128_S32x128 slices_S256x512_o64_384_S32x128 slices_S256x512_o64_0_S32x128 slices_S256x512_o64_256_S32x128, ?_⟩
  refine ⟨S _ hW 25 768 32 800 (by decide) rfl rfl rfl inb_S1024x128_S32x128_800_0 inb_S1024x5120_S256x5120_768_0 inb_S1024x128_S32x128_800_0 slices_S256x512_o32_128_S32x128 slices_S256x512_o32_384_S32x128 slices_S256x512_o32_0_S32x128 slices_S256x512_o32_256_S32x128, ?_⟩
  refine ⟨S _ hW 24 768 0 768 (by decide) rfl rfl rfl inb_S1024x128_S32x128_768_0 inb_S1024x5120_S256x5120_768_0 inb_S1024x128_S32x128_768_0 slices_S256x512_o0_128_S32x128 slices_S256x512_o0_384_S32x128 slices_S256x512_o0_0_S32x128 slices_S256x512_o0_256_S32x128, ?_⟩
  refine ⟨S _ hW 23 512 224 736 (by decide) rfl rfl rfl inb_S1024x128_S32x128_736_0 inb_S1024x5120_S256x5120_512_0 inb_S1024x128_S32x128_736_0 slices_S256x512_o224_128_S32x128 slices_S256x512_o224_384_S32x128 slices_S256x512_o224_0_S32x128 slices_S256x512_o224_256_S32x128, ?_⟩
  refine ⟨S _ hW 22 512 192 704 (by decide) rfl rfl rfl inb_S1024x128_S32x128_704_0 inb_S1024x5120_S256x5120_512_0 inb_S1024x128_S32x128_704_0 slices_S256x512_o192_128_S32x128 slices_S256x512_o192_384_S32x128 slices_S256x512_o192_0_S32x128 slices_S256x512_o192_256_S32x128, ?_⟩
  refine ⟨S _ hW 21 512 160 672 (by decide) rfl rfl rfl inb_S1024x128_S32x128_672_0 inb_S1024x5120_S256x5120_512_0 inb_S1024x128_S32x128_672_0 slices_S256x512_o160_128_S32x128 slices_S256x512_o160_384_S32x128 slices_S256x512_o160_0_S32x128 slices_S256x512_o160_256_S32x128, ?_⟩
  refine ⟨S _ hW 20 512 128 640 (by decide) rfl rfl rfl inb_S1024x128_S32x128_640_0 inb_S1024x5120_S256x5120_512_0 inb_S1024x128_S32x128_640_0 slices_S256x512_o128_128_S32x128 slices_S256x512_o128_384_S32x128 slices_S256x512_o128_0_S32x128 slices_S256x512_o128_256_S32x128, ?_⟩
  refine ⟨S _ hW 19 512 96 608 (by decide) rfl rfl rfl inb_S1024x128_S32x128_608_0 inb_S1024x5120_S256x5120_512_0 inb_S1024x128_S32x128_608_0 slices_S256x512_o96_128_S32x128 slices_S256x512_o96_384_S32x128 slices_S256x512_o96_0_S32x128 slices_S256x512_o96_256_S32x128, ?_⟩
  refine ⟨S _ hW 18 512 64 576 (by decide) rfl rfl rfl inb_S1024x128_S32x128_576_0 inb_S1024x5120_S256x5120_512_0 inb_S1024x128_S32x128_576_0 slices_S256x512_o64_128_S32x128 slices_S256x512_o64_384_S32x128 slices_S256x512_o64_0_S32x128 slices_S256x512_o64_256_S32x128, ?_⟩
  refine ⟨S _ hW 17 512 32 544 (by decide) rfl rfl rfl inb_S1024x128_S32x128_544_0 inb_S1024x5120_S256x5120_512_0 inb_S1024x128_S32x128_544_0 slices_S256x512_o32_128_S32x128 slices_S256x512_o32_384_S32x128 slices_S256x512_o32_0_S32x128 slices_S256x512_o32_256_S32x128, ?_⟩
  refine ⟨S _ hW 16 512 0 512 (by decide) rfl rfl rfl inb_S1024x128_S32x128_512_0 inb_S1024x5120_S256x5120_512_0 inb_S1024x128_S32x128_512_0 slices_S256x512_o0_128_S32x128 slices_S256x512_o0_384_S32x128 slices_S256x512_o0_0_S32x128 slices_S256x512_o0_256_S32x128, ?_⟩
  refine ⟨S _ hW 15 256 224 480 (by decide) rfl rfl rfl inb_S1024x128_S32x128_480_0 inb_S1024x5120_S256x5120_256_0 inb_S1024x128_S32x128_480_0 slices_S256x512_o224_128_S32x128 slices_S256x512_o224_384_S32x128 slices_S256x512_o224_0_S32x128 slices_S256x512_o224_256_S32x128, ?_⟩
  refine ⟨S _ hW 14 256 192 448 (by decide) rfl rfl rfl inb_S1024x128_S32x128_448_0 inb_S1024x5120_S256x5120_256_0 inb_S1024x128_S32x128_448_0 slices_S256x512_o192_128_S32x128 slices_S256x512_o192_384_S32x128 slices_S256x512_o192_0_S32x128 slices_S256x512_o192_256_S32x128, ?_⟩
  refine ⟨S _ hW 13 256 160 416 (by decide) rfl rfl rfl inb_S1024x128_S32x128_416_0 inb_S1024x5120_S256x5120_256_0 inb_S1024x128_S32x128_416_0 slices_S256x512_o160_128_S32x128 slices_S256x512_o160_384_S32x128 slices_S256x512_o160_0_S32x128 slices_S256x512_o160_256_S32x128, ?_⟩
  refine ⟨S _ hW 12 256 128 384 (by decide) rfl rfl rfl inb_S1024x128_S32x128_384_0 inb_S1024x5120_S256x5120_256_0 inb_S1024x128_S32x128_384_0 slices_S256x512_o128_128_S32x128 slices_S256x512_o128_384_S32x128 slices_S256x512_o128_0_S32x128 slices_S256x512_o128_256_S32x128, ?_⟩
  refine ⟨S _ hW 11 256 96 352 (by decide) rfl rfl rfl inb_S1024x128_S32x128_352_0 inb_S1024x5120_S256x5120_256_0 inb_S1024x128_S32x128_352_0 slices_S256x512_o96_128_S32x128 slices_S256x512_o96_384_S32x128 slices_S256x512_o96_0_S32x128 slices_S256x512_o96_256_S32x128, ?_⟩
  refine ⟨S _ hW 10 256 64 320 (by decide) rfl rfl rfl inb_S1024x128_S32x128_320_0 inb_S1024x5120_S256x5120_256_0 inb_S1024x128_S32x128_320_0 slices_S256x512_o64_128_S32x128 slices_S256x512_o64_384_S32x128 slices_S256x512_o64_0_S32x128 slices_S256x512_o64_256_S32x128, ?_⟩
  refine ⟨S _ hW 9 256 32 288 (by decide) rfl rfl rfl inb_S1024x128_S32x128_288_0 inb_S1024x5120_S256x5120_256_0 inb_S1024x128_S32x128_288_0 slices_S256x512_o32_128_S32x128 slices_S256x512_o32_384_S32x128 slices_S256x512_o32_0_S32x128 slices_S256x512_o32_256_S32x128, ?_⟩
  refine ⟨S _ hW 8 256 0 256 (by decide) rfl rfl rfl inb_S1024x128_S32x128_256_0 inb_S1024x5120_S256x5120_256_0 inb_S1024x128_S32x128_256_0 slices_S256x512_o0_128_S32x128 slices_S256x512_o0_384_S32x128 slices_S256x512_o0_0_S32x128 slices_S256x512_o0_256_S32x128, ?_⟩
  refine ⟨S _ hW 7 0 224 224 (by decide) rfl rfl rfl inb_S1024x128_S32x128_224_0 inb_S1024x5120_S256x5120_0_0 inb_S1024x128_S32x128_224_0 slices_S256x512_o224_128_S32x128 slices_S256x512_o224_384_S32x128 slices_S256x512_o224_0_S32x128 slices_S256x512_o224_256_S32x128, ?_⟩
  refine ⟨S _ hW 6 0 192 192 (by decide) rfl rfl rfl inb_S1024x128_S32x128_192_0 inb_S1024x5120_S256x5120_0_0 inb_S1024x128_S32x128_192_0 slices_S256x512_o192_128_S32x128 slices_S256x512_o192_384_S32x128 slices_S256x512_o192_0_S32x128 slices_S256x512_o192_256_S32x128, ?_⟩
  refine ⟨S _ hW 5 0 160 160 (by decide) rfl rfl rfl inb_S1024x128_S32x128_160_0 inb_S1024x5120_S256x5120_0_0 inb_S1024x128_S32x128_160_0 slices_S256x512_o160_128_S32x128 slices_S256x512_o160_384_S32x128 slices_S256x512_o160_0_S32x128 slices_S256x512_o160_256_S32x128, ?_⟩
  refine ⟨S _ hW 4 0 128 128 (by decide) rfl rfl rfl inb_S1024x128_S32x128_128_0 inb_S1024x5120_S256x5120_0_0 inb_S1024x128_S32x128_128_0 slices_S256x512_o128_128_S32x128 slices_S256x512_o128_384_S32x128 slices_S256x512_o128_0_S32x128 slices_S256x512_o128_256_S32x128, ?_⟩
  refine ⟨S _ hW 3 0 96 96 (by decide) rfl rfl rfl inb_S1024x128_S32x128_96_0 inb_S1024x5120_S256x5120_0_0 inb_S1024x128_S32x128_96_0 slices_S256x512_o96_128_S32x128 slices_S256x512_o96_384_S32x128 slices_S256x512_o96_0_S32x128 slices_S256x512_o96_256_S32x128, ?_⟩
  refine ⟨S _ hW 2 0 64 64 (by decide) rfl rfl rfl inb_S1024x128_S32x128_64_0 inb_S1024x5120_S256x5120_0_0 inb_S1024x128_S32x128_64_0 slices_S256x512_o64_128_S32x128 slices_S256x512_o64_384_S32x128 slices_S256x512_o64_0_S32x128 slices_S256x512_o64_256_S32x128, ?_⟩
  refine ⟨S _ hW 1 0 32 32 (by decide) rfl rfl rfl inb_S1024x128_S32x128_32_0 inb_S1024x5120_S256x5120_0_0 inb_S1024x128_S32x128_32_0 slices_S256x512_o32_128_S32x128 slices_S256x512_o32_384_S32x128 slices_S256x512_o32_0_S32x128 slices_S256x512_o32_256_S32x128, ?_⟩
  refine ⟨S _ hW 0 0 0 0 (by decide) rfl rfl rfl inb_S1024x128_S32x128_0_0 inb_S1024x5120_S256x5120_0_0 inb_S1024x128_S32x128_0_0 slices_S256x512_o0_128_S32x128 slices_S256x512_o0_384_S32x128 slices_S256x512_o0_0_S32x128 slices_S256x512_o0_256_S32x128, ?_⟩
  trivial

/-- What the scale scratch hold after the run. -/
theorem runEndScales (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S1024x128 .f32) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).2.2.2.1) = (lanes x1 (wide x0 x2 x3 (i 1)) (i 1) xs1) :=
  read_of v f _ _ (runEndScalesPieces c i arg2 harg2 arg3 harg3 arg4 harg4 arg5 harg5 arg6 harg6 arg7 harg7 arg8 harg8 arg9 harg9 arg10 harg10 hc1 x0 x1 x2 x3 xs1) (View.cover_of_tiledL (s := S1024x128) _ S32x128.size (by sl_kernel_rfl))

/-- Transposed scales: one store. -/
theorem turn (G : S1024x128.Idx → Elt F .f32) (v : Vec F S128x128 .f32) (o : ℕ) (ho : o + 128 ≤ 1024)
    (hv : ∀ z : S128x128.Idx, v z = G (ix2 (⟨o + (z 0).val, by have h : (z 0).val < 128 := (z 0).isLt; omega⟩ : Fin 1024) (z 1)))
    (inbd) (z : S50x128.Idx) :
    k0_pay4 (F := F) v z = (fun y : S50x1024.Idx => G (ix2 (y 1) (⟨(y 0).val, by have h : (y 0).val < 50 := (y 0).isLt; omega⟩ : Fin 128)))
      ((Rect.unit (s := S50x1024) ![0, o] S50x128.size inbd).emb z) := by
  have hz0 : (z 0).val < 50 := (z 0).isLt
  have hz1 : (z 1).val < 128 := (z 1).isLt
  have e : k0_pay4 (F := F) v z = v (ix2 (⟨(z 1).val, hz1⟩ : Fin 128) (⟨(z 0).val, by omega⟩ : Fin 128)) := by
    unfold k0_pay4
    refine congrArg v (funext fun a => Fin.ext ?_)
    match a with
    | ⟨0, _⟩ => show 0 + (z 1).val = (z 1).val; omega
    | ⟨1, _⟩ => show 0 + (z 0).val = (z 0).val; omega
  rw [e, hv]
  refine congrArg G (funext fun a => Fin.ext ?_)
  match a with
  | ⟨0, _⟩ => show o + (z 1).val = o + 1 * (z 1).val; omega
  | ⟨1, _⟩ => show (z 0).val = 0 + 1 * (z 0).val; omega

/-- The scale scratch, one block of 128 rows loaded back. -/
theorem back (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (o : ℕ) (ho : o + 128 ≤ 1024) (inb) (z : S128x128.Idx) :
    arg10.view.readCov (runEnd.sl.HS1_32 (F := F) c i arg2 harg2 arg3 harg3 arg4 harg4 arg5 harg5 arg9 arg10 harg10 x0 x1 x2 x3 xs1) (Rect.unit (s := S1024x128) ![o, 0] S128x128.size inb).toLoadRect z
      = lanes x1 (wide x0 x2 x3 (i 1)) (i 1) xs1 (ix2 (⟨o + (z 0).val, by have h : (z 0).val < 128 := (z 0).isLt; omega⟩ : Fin 1024) (z 1)) := by
  rw [View.readCov_eq_canon']
  have hP := runEndScalesPieces (F := F) c i arg2 harg2 arg3 harg3 arg4 harg4 arg5 harg5 arg6 harg6 arg7 harg7 arg8 harg8 arg9 harg9 arg10 harg10 hc1 x0 x1 x2 x3 xs1
  refine (View.canon_apply_of_pieces (lanes x1 (wide x0 x2 x3 (i 1)) (i 1) xs1) _ hP.mem _ (View.cover_of_tiledL (s := S1024x128) _ S32x128.size (by sl_kernel_rfl) _)).trans ?_
  refine congrArg _ (funext fun a => Fin.ext ?_)
  match a with
  | ⟨0, _⟩ => show o + 1 * (z 0).val = o + (z 0).val; omega
  | ⟨1, _⟩ => show 0 + 1 * (z 1).val = (z 1).val; omega

/-- The stores of the transposed scales. -/
theorem runEndRowPieces (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) :
    View.PiecesOf (Val := Elt F) (s := S50x1024) (e := .f32) (fun y : S50x1024.Idx => lanes x1 (wide x0 x2 x3 (i 1)) (i 1) xs1 (ix2 (y 1) (⟨(y 0).val, by have h : (y 0).val < 50 := (y 0).isLt; omega⟩ : Fin 128))) (runEnd (F := F) c i arg2 harg2 arg3 harg3 arg4 harg4 arg5 harg5 arg6 harg6 arg7 harg7 arg8 harg8 arg9 harg9 arg10 harg10 hc1 x0 x1 x2 x3 xs1).2.1 := by
  have T := turn (F := F) (lanes x1 (wide x0 x2 x3 (i 1)) (i 1) xs1)
  have R := back (F := F) c i arg2 harg2 arg3 harg3 arg4 harg4 arg5 harg5 arg6 harg6 arg7 harg7 arg8 harg8 arg9 harg9 arg10 harg10 hc1 x0 x1 x2 x3 xs1
  unfold runEnd; dsimp only
  refine ⟨T _ 896 (by decide) (R 896 (by decide) inb_S1024x128_S128x128_896_0) inb_S50x1024_S50x128_0_896, ?_⟩
  refine ⟨T _ 768 (by decide) (R 768 (by decide) inb_S1024x128_S128x128_768_0) inb_S50x1024_S50x128_0_768, ?_⟩
  refine ⟨T _ 640 (by decide) (R 640 (by decide) inb_S1024x128_S128x128_640_0) inb_S50x1024_S50x128_0_640, ?_⟩
  refine ⟨T _ 512 (by decide) (R 512 (by decide) inb_S1024x128_S128x128_512_0) inb_S50x1024_S50x128_0_512, ?_⟩
  refine ⟨T _ 384 (by decide) (R 384 (by decide) inb_S1024x128_S128x128_384_0) inb_S50x1024_S50x128_0_384, ?_⟩
  refine ⟨T _ 256 (by decide) (R 256 (by decide) inb_S1024x128_S128x128_256_0) inb_S50x1024_S50x128_0_256, ?_⟩
  refine ⟨T _ 128 (by decide) (R 128 (by decide) inb_S1024x128_S128x128_128_0) inb_S50x1024_S50x128_0_128, ?_⟩
  refine ⟨T _ 0 (by decide) (R 0 (by decide) inb_S1024x128_S128x128_0_0) inb_S50x1024_S50x128_0_0, ?_⟩
  trivial

/-- What the row scales' output holds after the run. -/
theorem runEndRow (c : Dev nD) (i : grid0.Coords) (arg2 : Memref sig .tc .smem S40x100 .f32) (harg2 : arg2.IsWhole) (arg3 : Memref sig .tc .vmem S1024x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1024x256 .fp8e4m3) (harg6 : arg6.IsWhole) (arg7 : Memref sig .tc .vmem S50x1024 .f32) (harg7 : arg7.IsWhole) (arg8 : Memref sig .tc .vmem S1024x256 .bf16) (harg8 : arg8.IsWhole) (arg9 : Memref sig .tc .vmem S5120x512 .bf16) (harg9 : arg9.IsWhole) (arg10 : Memref sig .tc .vmem S1024x128 .f32) (harg10 : arg10.IsWhole) (hc1 : isLast i) (x0 : Vec F S40x100 .f32) (x1 : Vec F S1024x5120 .bf16) (x2 : Vec F S5120x256 .fp8e4m3) (x3 : Vec F S5120x256 .fp8e4m3) (xs1 : Vec F S1024x128 .f32) (v : View sig .tc .vmem S50x1024 .f32) (f) :
    v.read (Elt F) (v.writes (Elt F) f (runEnd (F := F) c i arg2 harg2 arg3 harg3 arg4 harg4 arg5 harg5 arg6 harg6 arg7 harg7 arg8 harg8 arg9 harg9 arg10 harg10 hc1 x0 x1 x2 x3 xs1).2.1) = fun y : S50x1024.Idx => lanes x1 (wide x0 x2 x3 (i 1)) (i 1) xs1 (ix2 (y 1) (⟨(y 0).val, by have h : (y 0).val < 50 := (y 0).isLt; omega⟩ : Fin 128)) :=
  read_of v f _ _ (runEndRowPieces c i arg2 harg2 arg3 harg3 arg4 harg4 arg5 harg5 arg6 harg6 arg7 harg7 arg8 harg8 arg9 harg9 arg10 harg10 hc1 x0 x1 x2 x3 xs1) (View.cover_of_tiledL (s := S50x1024) _ S50x128.size (by sl_kernel_rfl))

end Cert.Proof.GuI

end
-- ==== Proof.GuIBody.lean ====
/- The frame of the gate and up kernel. The body reads its scale scratch before anything was stored there, so the invariant says
   which lanes are already known: those of the column steps since the row tile began. The last step of a row tile reads only such lanes. -/
module

public import proofs.«01_k».proof.Proof.GuIEndOut
public import proofs.«01_k».proof.Proof.Gen.GateUpIdeal.Launch
public import Idealize.ShloMosaic.Lib.Claim

@[expose] public section

set_option maxRecDepth 16384

noncomputable section

namespace Cert.Proof.GuI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window but the scales' is live at every point. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live6 : ∀ t : Fin cfg0.N, cfg0.idle 6 (grid0.coords t) = false := fun _ => rfl

/-- The widened columns a point multiplies by. -/
def blkW (c : Dev nD) (t : Fin cfg0.N) : Vec F S5120x512 .bf16 := wide (iblk m c 0 t) (iblk m c 2 t) (iblk m c 3 t) (grid0.coords t 1)

/-- The scale a point computes for row `a` and its column chunk `b`. -/
def sv (c : Dev nD) (t : Fin cfg0.N) (a : Fin 1024) (b : Fin 2) : Elt F .f32 := scaleBlk (iblk m c 1 t) (blkW m c t) a b

/-- A point's column step. -/
theorem step_eq (t : Fin cfg0.N) : (grid0.coords t 1).val = t.val % 25 := by
  have e : (grid0.coords t 1).val = t.val / 1 % 25 := Pipeline.Grid.coords_val (G := grid0) t 1 (by decide) rfl
  rw [e, Nat.div_one]

/-- The scale scratch before position `n`: every lane written since the row tile began holds its point's scale. -/
def Good (c : Dev nD) (n : ℕ) (d : Vec F S1024x128 .f32) : Prop :=
  ∀ t : Fin cfg0.N, t.val < n → t.val / 25 = n / 25 → ∀ (a : Fin 1024) (b : Fin 2),
    d (ix2 a (⟨2 * (t.val % 25) + b.val, by have h := b.isLt; omega⟩ : Fin 128)) = sv m c t a b

/-- A point adds its own two lanes. -/
theorem good_lanes (c : Dev nD) (t : Fin cfg0.N) (d : Vec F S1024x128 .f32) (hg : Good m c t.val d) (t' : Fin cfg0.N) (hle : t'.val ≤ t.val) (hrow : t'.val / 25 = t.val / 25)
    (a : Fin 1024) (b : Fin 2) :
    lanes (iblk m c 1 t) (blkW m c t) (grid0.coords t 1) d (ix2 a (⟨2 * (t'.val % 25) + b.val, by have h := b.isLt; omega⟩ : Fin 128)) = sv m c t' a b := by
  have hb := b.isLt
  unfold lanes
  rw [step_eq t]
  show (if 2 * (t'.val % 25) + b.val = 2 * (t.val % 25) + 1 then scaleBlk (iblk m c 1 t) (blkW m c t) a 1
    else if 2 * (t'.val % 25) + b.val = 2 * (t.val % 25) then scaleBlk (iblk m c 1 t) (blkW m c t) a 0 else d _) = sv m c t' a b
  rcases Nat.lt_or_ge t'.val t.val with hlt | hge
  · rw [if_neg (by omega), if_neg (by omega)]
    exact hg t' hlt hrow a b
  · obtain rfl : t' = t := Fin.ext (by omega)
    by_cases h1 : b.val = 1
    · rw [if_pos (by omega)]
      obtain rfl : b = 1 := Fin.ext h1
      rfl
    · rw [if_neg (by omega), if_pos (by omega)]
      obtain rfl : b = 0 := Fin.ext (by show b.val = 0; omega)
      rfl

/-- The scratch stays good. -/
theorem good_step (c : Dev nD) (t : Fin cfg0.N) (d : Vec F S1024x128 .f32) (hg : Good m c t.val d) :
    Good m c (t.val + 1) (lanes (iblk m c 1 t) (blkW m c t) (grid0.coords t 1) d) := by
  intro t' hlt hrow a b
  exact good_lanes m c t d hg t' (by omega) (by omega) a b

/-- The point of column step `k` in the row tile of point `t`. -/
def rowPoint (t : Fin cfg0.N) (k : ℕ) (hk : k < 25) : Fin cfg0.N :=
  ⟨25 * (t.val / 25) + k, by have ht : t.val < 400 := Nat.lt_of_lt_of_eq t.isLt N_0; exact Nat.lt_of_lt_of_eq (show 25 * (t.val / 25) + k < 400 by omega) N_0.symm⟩

/-- The row tile's scales, transposed, as its last point writes them. -/
def rowScales (c : Dev nD) (t : Fin cfg0.N) (y : S50x1024.Idx) : Elt F .f32 :=
  sv m c (rowPoint t ((y 0).val / 2) (by have h : (y 0).val < 50 := (y 0).isLt; omega)) (y 1) ⟨(y 0).val % 2, by omega⟩

/-- At the last point of a row tile the scratch holds all its scales. -/
theorem row_eq (c : Dev nD) (t : Fin cfg0.N) (d : Vec F S1024x128 .f32) (hg : Good m c t.val d) (hc : isLast (grid0.coords t)) :
    (fun y : S50x1024.Idx => lanes (iblk m c 1 t) (wide (iblk m c 0 t) (iblk m c 2 t) (iblk m c 3 t) (grid0.coords t 1)) (grid0.coords t 1) d (ix2 (y 1) (⟨(y 0).val, by have h : (y 0).val < 50 := (y 0).isLt; omega⟩ : Fin 128)))
      = rowScales m c t := by
  funext y
  have h24 := (hlast t).mp hc
  have hy : (y 0).val < 50 := (y 0).isLt
  have e := good_lanes m c t d hg (rowPoint t ((y 0).val / 2) (by omega)) (by show 25 * (t.val / 25) + (y 0).val / 2 ≤ t.val; omega)
    (by show (25 * (t.val / 25) + (y 0).val / 2) / 25 = t.val / 25; omega) (y 1) ⟨(y 0).val % 2, by omega⟩
  refine Eq.trans (congrArg _ ?_) e
  refine congrArg (fun q : Fin 128 => ix2 (y 1) q) (Fin.ext ?_)
  show (y 0).val = 2 * ((25 * (t.val / 25) + (y 0).val / 2) % 25) + (y 0).val % 2
  omega

/-- The invariant before position `n`: the weight scratch at anything, the scale scratch good, the generator register at some state. -/
def PhiS (c : Dev nD) (n : ℕ) : sProp 𝕄 :=
  iprop(iprop((∃ d, owns (c : Thread nD τ) scM0_0 fullShare d) ∗ (∃ d, ⌜Good m c n d⌝ ∗ owns (c : Thread nD τ) scM0_1 fullShare d)) ∗ (∃ r, prngReg c r))

/-- The proof data: each input's buffer at its block, the outputs at the block the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesBlk (iblk m c 1 t) (blkW m c t)
    | ⟨5, _⟩ => rowScales m c t
    | ⟨6, _⟩ => wideBlk (iblk m c 1 t) (blkW m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesBlk (iblk m c 1 t) (blkW m c t) := by dsimp only [dats]
theorem after0_5 (c : Dev nD) (t : Fin cfg0.N) : (dats m 0 c).after 5 t = rowScales m c t := by dsimp only [dats]
theorem after0_6 (c : Dev nD) (t : Fin cfg0.N) : (dats m 0 c).after 6 t = wideBlk (iblk m c 1 t) (blkW m c t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12000000 in
/-- The body at any point: off the last column step the scales' window is handed back untouched, at the last step it takes the transposed scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  by_cases hc : isLast (grid0.coords t)
  · rw [show (dats m 0 c).leavesExact 0 t = owns (c : Thread nD τ) (ms0_0 t) fullShare ((dats m 0 c).after 0 t) from by
      unfold Dat.leavesExact; rw [live0 t], after0_0]
    rw [show (dats m 0 c).leavesExact 1 t = owns (c : Thread nD τ) (ms0_1 t) fullShare ((dats m 0 c).after 1 t) from by
      unfold Dat.leavesExact; rw [live1 t], after0_1]
    rw [show (dats m 0 c).leavesExact 2 t = owns (c : Thread nD τ) (ms0_2 t) fullShare ((dats m 0 c).after 2 t) from by
      unfold Dat.leavesExact; rw [live2 t], after0_2]
    rw [show (dats m 0 c).leavesExact 3 t = owns (c : Thread nD τ) (ms0_3 t) fullShare ((dats m 0 c).after 3 t) from by
      unfold Dat.leavesExact; rw [live3 t], after0_3]
    rw [show (dats m 0 c).leavesExact 4 t = owns (c : Thread nD τ) (ms0_4 t) fullShare ((dats m 0 c).after 4 t) from by
      unfold Dat.leavesExact; rw [live4 t], after0_4]
    rw [show (dats m 0 c).leavesExact 5 t = owns (c : Thread nD τ) (ms0_5 t) fullShare ((dats m 0 c).after 5 t) from by
      unfold Dat.leavesExact; rw [live5 t hc], after0_5]
    rw [show (dats m 0 c).leavesExact 6 t = owns (c : Thread nD τ) (ms0_6 t) fullShare ((dats m 0 c).after 6 t) from by
      unfold Dat.leavesExact; rw [live6 t], after0_6]
    iintro ⟨⟨⟨⟨%ds0, HS0⟩, ⟨%xs, %hg, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexists _; iexact HS0
    isplitl [HS1]; · iexact HS1
    iintro ⟨H0, H1, H2, H3, ⟨%e4, H4⟩, ⟨%e5, H5⟩, ⟨%e6, H6⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        iexists (lanes (iblk m c 1 t) (blkW m c t) (grid0.coords t 1) xs)
        isplitr
        · ipureintro; exact good_step m c t xs hg
        unfold owns; iexists _; isplitr
        swap; · iexact HS1
        ipureintro; exact runEndScales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact runEndCodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
    isplitl [H5]
    · unfold owns; iexists _; isplitr
      swap; · iexact H5
      ipureintro; exact (runEndRow c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _).trans (row_eq m c t xs hg hc)
    unfold owns; iexists _; isplitr
    swap; · iexact H6
    ipureintro; exact runEndWide c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
  · rw [show (dats m 0 c).leavesExact 0 t = owns (c : Thread nD τ) (ms0_0 t) fullShare ((dats m 0 c).after 0 t) from by
      unfold Dat.leavesExact; rw [live0 t], after0_0]
    rw [show (dats m 0 c).leavesExact 1 t = owns (c : Thread nD τ) (ms0_1 t) fullShare ((dats m 0 c).after 1 t) from by
      unfold Dat.leavesExact; rw [live1 t], after0_1]
    rw [show (dats m 0 c).leavesExact 2 t = owns (c : Thread nD τ) (ms0_2 t) fullShare ((dats m 0 c).after 2 t) from by
      unfold Dat.leavesExact; rw [live2 t], after0_2]
    rw [show (dats m 0 c).leavesExact 3 t = owns (c : Thread nD τ) (ms0_3 t) fullShare ((dats m 0 c).after 3 t) from by
      unfold Dat.leavesExact; rw [live3 t], after0_3]
    rw [show (dats m 0 c).leavesExact 4 t = owns (c : Thread nD τ) (ms0_4 t) fullShare ((dats m 0 c).after 4 t) from by
      unfold Dat.leavesExact; rw [live4 t], after0_4]
    rw [Dat.leavesExact_idle (dats m 0 c) 5 t (idle5 t hc) (noFlush5 t hc)]
    rw [show (dats m 0 c).leavesExact 6 t = owns (c : Thread nD τ) (ms0_6 t) fullShare ((dats m 0 c).after 6 t) from by
      unfold Dat.leavesExact; rw [live6 t], after0_6]
    iintro ⟨⟨⟨⟨%ds0, HS0⟩, ⟨%xs, %hg, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs).2.2.2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexists _; iexact HS0
    isplitl [HS1]; · iexact HS1
    iintro ⟨H0, H1, H2, H3, ⟨%e4, H4⟩, H5, ⟨%e6, H6⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        iexists (lanes (iblk m c 1 t) (blkW m c t) (grid0.coords t 1) xs)
        isplitr
        · ipureintro; exact good_step m c t xs hg
        unfold owns; iexists _; isplitr
        swap; · iexact HS1
        ipureintro; exact runMidScales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact runMidCodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _
    isplitl [H5]; · iexists _; iexact H5
    unfold owns; iexists _; isplitr
    swap; · iexact H6
    ipureintro; exact runMidWide c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) xs _ _

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, ⟨%d, HS1⟩⟩, Hg⟩
  isplitl [HS0 HS1]
  · isplitl [HS0]
    · iexact HS0
    iexists d
    isplitr
    · ipureintro; exact fun t' h => absurd h (Nat.not_lt_zero _)
    iexact HS1
  iexact Hg

/-- After the last point the invariant gives the region its scratch back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, ⟨%d, %hg, HS1⟩⟩, Hg⟩
  isplitl [HS0 HS1]
  · isplitl [HS0]
    · iexact HS0
    iexists _; iexact HS1
  iexact Hg

set_option backward.isDefEq.respectTransparency.types false in
/-- The launch: every final state has the pipeline's arrays at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: termination, the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.GuI

end
-- ==== Proof.GuScalar.lean ====
module

public import Idealize.ShloMosaic.PureOps.Ideal.Laws
public import Idealize.ShloMosaic.Lib.WordSum

@[expose] public section

noncomputable section

/-! The power-of-two scale of a quantiser, read two ways over the extended reals: from the logarithm of the
    largest magnitude, and from the number of powers of two that do not exceed it. -/

namespace Cert.Proof.GuScalar

open Idealize.ShloMosaic

/-- The exponent of a scaled maximum `t`, over the constants it is written with. -/
def expoP (t p z two one m : EReal) : EReal :=
  if t < p then z else min (Ideal.liftRound Int.floor (Ideal.div (Ideal.log t) (Ideal.log two)) + one) m

/-- The exponent of the scale of a row with scaled maximum `t`. -/
def expo (t : EReal) : EReal :=
  expoP t (Ideal.ofBits .f32 0x00800000#32) (Ideal.ofBits .f32 0x00000000#32) (Ideal.ofBits .f32 0x40000000#32) (Ideal.ofBits .f32 0x3F800000#32)
    (Ideal.ofBits .f32 0x42FC0000#32)

/-- The word of the float `2 ^ (k - 127)`, or of zero. -/
def lane (k : ℕ) : BitVec 32 := BitVec.ofNat 32 (k * 8388608)

/-- How many of the 253 powers do not exceed `t`. -/
def count (t : EReal) : ℕ := (Finset.univ.filter fun k : Fin 253 => Ideal.ofBits .f32 (lane k.val) ≤ t).card

/-- The exponent bits that the kernel makes of the count. -/
def bits (K : BitVec 32) : BitVec 32 :=
  let e := (K - 1#32) <<< 23
  if e = 0#32 then 1056964608#32 else e

theorem parts : ∀ k : Fin 255, (lane k.val).extractLsb' 31 1 = 0#1 ∧ ((lane k.val).extractLsb' 23 8).toNat = k.val ∧ ((lane k.val).extractLsb' 0 23).toNat = 0 := by
  decide +kernel

/-- A positive lane is a power of two. -/
theorem ofBits_lane (k : ℕ) (h1 : 1 ≤ k) (h2 : k ≤ 254) : Ideal.ofBits .f32 (lane k) = (((2 : ℝ) ^ ((k : ℤ) - 127) : ℝ) : EReal) := by
  obtain ⟨ha, hb, hc⟩ := parts ⟨k, by omega⟩
  simp only [] at ha hb hc
  have e : ((2 : ℝ) ^ (23 : ℕ)) * (2 : ℝ) ^ ((k : ℤ) - (2 ^ (8 - 1) - 1) - (23 : ℕ)) = (2 : ℝ) ^ ((k : ℤ) - 127) := by
    rw [← zpow_natCast, ← zpow_add₀ (by norm_num)]
    congr 1; norm_num
  simp only [Ideal.ofBits, Ideal.ieee, ha, hb, hc]
  rw [if_neg (by omega), if_neg (by omega)]
  norm_num
  norm_num at e
  exact_mod_cast e

theorem ofBits_lane_zero : Ideal.ofBits .f32 (lane 0) = 0 := by
  rw [show lane 0 = 0x00000000#32 from by decide +kernel]; exact Ideal.ofBits_zero_f32

theorem two_eq : Ideal.ofBits .f32 0x40000000#32 = ((2 : ℝ) : EReal) := by
  rw [show (0x40000000#32 : BitVec 32) = lane 128 from by decide +kernel, ofBits_lane 128 (by norm_num) (by norm_num)]; norm_num

theorem one_eq : Ideal.ofBits .f32 0x3F800000#32 = ((1 : ℝ) : EReal) := by
  rw [show (0x3F800000#32 : BitVec 32) = lane 127 from by decide +kernel, ofBits_lane 127 (by norm_num) (by norm_num)]; norm_num

theorem tiny_eq : Ideal.ofBits .f32 0x00800000#32 = (((2 : ℝ) ^ (-126 : ℤ) : ℝ) : EReal) := by
  rw [show (0x00800000#32 : BitVec 32) = lane 1 from by decide +kernel, ofBits_lane 1 (by norm_num) (by norm_num)]; norm_num

theorem top_eq : Ideal.ofBits .f32 0x42FC0000#32 = ((126 : ℝ) : EReal) := by
  have e : (2 ^ 23 + (BitVec.extractLsb' 0 23 (0x42FC0000#32 : BitVec 32)).toNat : ℕ) = 16515072 := by decide +kernel
  have a : ((0x42FC0000#32 : BitVec 32).extractLsb' 31 1) = 0#1 := by decide +kernel
  have b : ((0x42FC0000#32 : BitVec 32).extractLsb' 23 8).toNat = 133 := by decide +kernel
  simp only [Ideal.ofBits, Ideal.ieee, a, b, e]
  norm_num

/-- Which powers a positive number reaches, by the floor of its logarithm. -/
theorem pow_le_iff (r : ℝ) (hr : 0 < r) (n : ℤ) : (2 : ℝ) ^ n ≤ r ↔ n ≤ ⌊Real.log r / Real.log 2⌋ := by
  rw [Int.le_floor, le_div_iff₀ (Real.log_pos (by norm_num)), ← Real.log_zpow, Real.log_le_log_iff (by positivity) hr]

theorem card_le (N : ℕ) (hN : N ≤ 252) : (Finset.univ.filter fun k : Fin 253 => k.val ≤ N).card = N + 1 := by
  have : (Finset.univ.filter fun k : Fin 253 => k.val ≤ N) = Finset.Iic (⟨N, by omega⟩ : Fin 253) := by
    ext k; simp [Fin.le_def]
  rw [this, Fin.card_Iic]

theorem coe_min (a b : ℝ) : min (a : EReal) (b : EReal) = ((min a b : ℝ) : EReal) := (EReal.coe_strictMono.monotone.map_min).symm

theorem floor_top : Ideal.liftRound Int.floor ⊤ = ⊤ := rfl

theorem floor_coe (r : ℝ) : Ideal.liftRound Int.floor (r : EReal) = ((⌊r⌋ : ℝ) : EReal) := rfl

/-- The count and the exponent of a magnitude, side by side. -/
theorem count_expo (t : EReal) (ht : 0 ≤ t) :
    1 ≤ count t ∧ count t ≤ 253 ∧ expo t = (((if count t = 1 then 0 else (count t : ℝ) - 127) : ℝ) : EReal) := by
  induction t with
  | bot => exact absurd ht (by simp)
  | top =>
    have hc : count ⊤ = 253 := by
      unfold count; rw [Finset.filter_true_of_mem (fun _ _ => le_top)]; simp
    refine ⟨by omega, by omega, ?_⟩
    rw [hc, expo, expoP, if_neg (by simp), Ideal.log_top, two_eq, top_eq, one_eq, Ideal.log_coe, if_neg (by norm_num), Ideal.div,
      if_neg (by exact_mod_cast (Real.log_pos (by norm_num : (1 : ℝ) < 2)).ne'), ← EReal.coe_inv,
      EReal.top_mul_coe_of_pos (inv_pos.mpr (Real.log_pos (by norm_num)))]
    rw [floor_top, EReal.top_add_coe, min_eq_right le_top]
    norm_num
  | coe r =>
    have h0 : 0 ≤ r := by exact_mod_cast ht
    by_cases hs : r < (2 : ℝ) ^ (-126 : ℤ)
    · have hc : count (r : EReal) = 1 := by
        unfold count
        refine Eq.trans (congrArg Finset.card ?_) (card_le 0 (by norm_num))
        ext k
        simp only [Finset.mem_filter, Finset.mem_univ, true_and]
        rcases Nat.eq_zero_or_pos k.val with hk | hk
        · rw [hk, ofBits_lane_zero]; simpa using h0
        · rw [ofBits_lane k.val hk (by omega), EReal.coe_le_coe_iff]
          have : (2 : ℝ) ^ (-126 : ℤ) ≤ (2 : ℝ) ^ ((k.val : ℤ) - 127) := zpow_le_zpow_right₀ (by norm_num) (by omega)
          constructor
          · intro h; linarith
          · intro h; omega
      refine ⟨by omega, by omega, ?_⟩
      rw [hc, expo, expoP, if_pos (by rw [tiny_eq]; exact_mod_cast hs), Ideal.ofBits_zero_f32]
      simp
    · have hr : 0 < r := lt_of_lt_of_le (by positivity) (not_lt.mp hs)
      have hz : (-126 : ℤ) ≤ ⌊Real.log r / Real.log 2⌋ := (pow_le_iff r hr _).mp (not_lt.mp hs)
      have hc : count (r : EReal) = (min (⌊Real.log r / Real.log 2⌋ + 127) 252).toNat + 1 := by
        unfold count
        rw [← card_le _ (by omega)]
        congr 1
        ext k
        simp only [Finset.mem_filter, Finset.mem_univ, true_and]
        rcases Nat.eq_zero_or_pos k.val with hk | hk
        · rw [hk, ofBits_lane_zero]; simpa using h0
        · rw [ofBits_lane k.val hk (by omega), EReal.coe_le_coe_iff, pow_le_iff r hr]
          have := k.isLt
          omega
      refine ⟨by omega, by omega, ?_⟩
      rw [if_neg (by omega), expo, expoP, if_neg (by rw [tiny_eq]; exact_mod_cast hs), two_eq, one_eq, top_eq, Ideal.log_coe, Ideal.log_coe,
        if_neg (not_le.mpr hr), if_neg (by norm_num), Ideal.div,
        if_neg (by exact_mod_cast (Real.log_pos (by norm_num : (1 : ℝ) < 2)).ne'), ← EReal.coe_inv, ← EReal.coe_mul]
      rw [← div_eq_mul_inv, floor_coe, ← EReal.coe_add, coe_min, hc]
      congr 1
      generalize ⌊Real.log r / Real.log 2⌋ = z at *
      rw [Nat.cast_add, ← Int.cast_natCast (R := ℝ), Int.toNat_of_nonneg (by omega)]
      push_cast
      rcases le_total (z : ℝ) 125 with h | h
      · rw [min_eq_left (by linarith), min_eq_left (by linarith)]; ring
      · rw [min_eq_right (by linarith), min_eq_right (by linarith)]; ring

theorem words : ∀ K : Fin 254, 1 ≤ K.val → bits (BitVec.ofNat 32 K.val) + 8388608#32 = lane (if K.val = 1 then 127 else K.val) ∧
    2122317824#32 - bits (BitVec.ofNat 32 K.val) = lane (if K.val = 1 then 127 else 254 - K.val) := by decide +kernel

theorem words' (K : ℕ) (h1 : 1 ≤ K) (h2 : K ≤ 253) : bits (BitVec.ofNat 32 K) + 8388608#32 = lane (if K = 1 then 127 else K) ∧
    2122317824#32 - bits (BitVec.ofNat 32 K) = lane (if K = 1 then 127 else 254 - K) := words ⟨K, by omega⟩ h1

/-- The scale that the counted bits stand for. -/
theorem scale_eq (t : EReal) (ht : 0 ≤ t) : Ideal.ofBits .f32 (bits (BitVec.ofNat 32 (count t)) + 8388608#32) = Ideal.exp2 (expo t) := by
  obtain ⟨h1, h2, he⟩ := count_expo t ht
  rw [(words' (count t) h1 h2).1, ofBits_lane _ (by split <;> omega) (by split <;> omega), he, Ideal.exp2_coe]
  congr 1
  split
  · norm_num
  · rw [← Real.rpow_intCast]; push_cast; rfl

/-- The inverse of the scale that the counted bits stand for. -/
theorem inv_eq (t : EReal) (ht : 0 ≤ t) :
    Ideal.ofBits .f32 (2122317824#32 - bits (BitVec.ofNat 32 (count t))) = Ideal.exp2 (Ideal.ofBits .f32 0x00000000#32 - expo t) := by
  obtain ⟨h1, h2, he⟩ := count_expo t ht
  rw [(words' (count t) h1 h2).2, ofBits_lane _ (by split <;> omega) (by split <;> omega), he, Ideal.ofBits_zero_f32, zero_sub,
    ← EReal.coe_neg, Ideal.exp2_coe]
  congr 1
  split
  · norm_num
  · rw [← Real.rpow_intCast]
    rw [Nat.cast_sub (by omega)]; push_cast
    show (2 : ℝ) ^ (_ : ℝ) = (2 : ℝ) ^ (_ : ℝ)
    congr 1; ring

/-- The scaled largest magnitude of 128 entries. -/
def top (p : Fin 128 → EReal) : EReal :=
  Finset.univ.fold max (Ideal.ofBits .f32 0xFF800000#32) (fun k => max (p k) (-p k)) * Ideal.ofBits .f32 0x3B124925#32

theorem third_nonneg : (0 : EReal) ≤ Ideal.ofBits .f32 0x3B124925#32 := by
  have a : ((0x3B124925#32 : BitVec 32).extractLsb' 31 1) = 0#1 := by decide +kernel
  have b : ((0x3B124925#32 : BitVec 32).extractLsb' 23 8).toNat = 118 := by decide +kernel
  simp only [Ideal.ofBits, Ideal.ieee, a, b]
  rw [if_neg (by norm_num), if_neg (by norm_num), if_neg (by decide)]
  exact EReal.coe_nonneg.mpr (by positivity)

/-- A scaled largest magnitude is not negative. -/
theorem top_nonneg (p : Fin 128 → EReal) : 0 ≤ top p := by
  refine mul_nonneg ?_ third_nonneg
  rw [Finset.le_fold_max]
  refine Or.inr ⟨0, Finset.mem_univ _, ?_⟩
  rcases le_total 0 (p 0) with h | h
  · exact le_max_of_le_left h
  · exact le_max_of_le_right (EReal.neg_nonneg.mpr h)

/-- The scale of 128 entries. -/
def scale (p : Fin 128 → EReal) : EReal := Ideal.exp2 (expo (top p))

/-- The code of an entry among 128. -/
def code (p : Fin 128 → EReal) (l : Fin 128) : EReal :=
  min (Ideal.ofBits .f32 0x43E00000#32) (max (Ideal.ofBits .f32 0xC3E00000#32) (p l * Ideal.exp2 (Ideal.ofBits .f32 0x00000000#32 - expo (top p))))

end Cert.Proof.GuScalar
-- ==== Proof.GuRow.lean ====
/- One chunk of the gate and up kernel over the extended reals: its scales, its codes and the values they stand for. -/
module

public import proofs.«01_k».proof.Proof.GuIChunk
public import proofs.«01_k».proof.Proof.GuScalar
public import Idealize.ShloMosaic.Lib.Pointwise

@[expose] public section

set_option maxRecDepth 16384

noncomputable section

namespace Cert.Proof.GuRow

open Idealize.ShloMosaic Idealize.ShloMosaic.TcCoe Idealize.SL.Sem
open Cert.GateUpIdeal Cert.GateUpIdeal.Gen Cert.Proof.GuI

/-- A sum of ones over the lanes that satisfy a property is their number. -/
theorem fold_count (P : Fin 253 → Prop) [DecidablePred P] :
    Finset.univ.fold IntOp.addi 0#32 (fun k : Fin 253 => if P k then 1#32 else 0#32) = BitVec.ofNat 32 (Finset.univ.filter P).card := by
  have h : ∑ k : Fin 253, (if P k then (1 : BitVec 32) else 0) = (((Finset.univ.filter P).card : ℕ) : BitVec 32) := Finset.sum_boole P Finset.univ
  exact (Finset.sum_eq_fold _ _).symm.trans h

theorem lane_one (x y : EReal) : (FloatOps.cmpf (F := Ideal) (φ := .f32) .oge x y).setWidth 32 = if y ≤ x then 1#32 else 0#32 := by
  show (BitVec.ofBool (decide (y ≤ x))).setWidth 32 = _
  by_cases h : y ≤ x <;> simp [h]

theorem redmax (v : FVec Ideal S32x128 .f32) (z : Fin 32) :
    multiReduction .maximumf [1] S32 v 0xFF800000#32 reduces_S32x128_S32 (.inl rfl) rfl (ix1 z)
      = Finset.univ.fold max (Ideal.ofBits .f32 0xFF800000#32) fun l : Fin 128 => v (ix2 z l) := by
  generalize reduces_S32x128_S32 = h
  pointwise

theorem redsum (v : IVec S32x253 32) (z : Fin 32) :
    multiReductionI .add [1] S32 v 0#32 reduces_S32x253_S32 rfl (ix1 z) = Finset.univ.fold IntOp.addi 0#32 fun k : Fin 253 => v (ix2 z k) := by
  generalize reduces_S32x253_S32 = h
  pointwise

theorem cast1 {α : Type} (v : S32.Idx → α) (z : Fin 32) (u : Fin 1) : shapeCast S32x1 v shapeCasts_S32_S32x1 (ix2 z u) = v (ix1 z) := by
  pointwise

theorem bc253 {α : Type} (v : S32x1.Idx → α) (z : Fin 32) (k : Fin 253) : broadcastTo S32x253 v broadcasts_S32x1_S32x253 (ix2 z k) = v (ix2 z 0) := by
  pointwise

theorem bc128 {α : Type} (v : S32x1.Idx → α) (z : Fin 32) (k : Fin 128) : broadcastTo S32x128 v broadcasts_S32x1_S32x128 (ix2 z k) = v (ix2 z 0) := by
  pointwise

theorem power : ∀ k : Fin 253, IntOp.shli .vector (BitVec.ofNat 32 k.val) 23#32 = GuScalar.lane k.val := by decide +kernel

/-- One lane of the comparison with the powers. -/
theorem elt1 {F : FTy → Type} [FloatOps F] (x : FVec F S32x253 .f32) (k : IVec S32x253 32) (c : BitVec 32) (j : S32x253.Idx) :
    extui 32 (cmpf .oge x (bitcastToFloat (F := F) .f32 (shli k (broadcast S32x253 c)))) natLt_1_32 j
      = (FloatOps.cmpf .oge (x j) (FloatOps.ofBits .f32 (IntOp.shli .vector (k j) c))).setWidth 32 := rfl

theorem elt2 {F : FTy → Type} [FloatOps F] (x : FVec F S32x1 .f32) (c : F .f32) (j : S32x1.Idx) :
    mulf x (broadcast S32x1 c) j = FloatOps.mulf (x j) c := rfl

theorem iota_lane (z : Fin 32) (k : Fin 253) : iota .tc S32x253 32 [1] iota_S32x253_d1_w32 (ix2 z k) = BitVec.ofNat 32 k.val := by
  show BitVec.ofNat 32 (0 * 253 + k.val) = _
  rw [Nat.zero_mul, Nat.zero_add]

/-- The integer operations after the count. -/
theorem elt3 (x : IVec S32x1 32) (j : S32x1.Idx) :
    select (cmpi .eq (shli (subi x (broadcast S32x1 1#32)) (broadcast S32x1 23#32)) (broadcast S32x1 0#32)) (broadcast S32x1 1056964608#32)
      (shli (subi x (broadcast S32x1 1#32)) (broadcast S32x1 23#32)) j = GuScalar.bits (x j) := by
  generalize hx : x j = w
  have e : IntOp.shli .vector (IntOp.subi w 1#32) 23#32 = (w - 1#32) <<< 23 := by
    show (if (23#32 : BitVec 32).toNat < 32 then (w - 1#32) <<< (23#32 : BitVec 32) else _) = _
    rw [if_pos (by decide)]; rfl
  show Scalar.select (IntOp.cmpi .eq (IntOp.shli .vector (IntOp.subi (x j) 1#32) 23#32) 0#32) 1056964608#32 (IntOp.shli .vector (IntOp.subi (x j) 1#32) 23#32) = _
  rw [hx, e]
  show (if BitVec.ofBool (decide ((w - 1#32) <<< 23 = 0#32)) = 1#1 then _ else _) = _
  unfold GuScalar.bits
  by_cases h : (w - 1#32) <<< 23 = 0#32 <;> simp [h]

/-- The row of a chunk. -/
def row (v : FVec Ideal S32x128 .f32) (z : Fin 32) (l : Fin 128) : EReal := v (ix2 z l)

theorem absf_eq (v : FVec Ideal S32x128 .f32) (j : S32x128.Idx) : absf v j = max (v j) (-(v j) : EReal) := rfl

/-- The counted exponent bits of a row. -/
theorem bits_eq (v : FVec Ideal S32x128 .f32) (z : Fin 32) :
    bitsOf v (ix2 z (0 : Fin 1)) = GuScalar.bits (BitVec.ofNat 32 (GuScalar.count (GuScalar.top (row v z)))) := by
  unfold bitsOf
  refine (elt3 _ _).trans (congrArg GuScalar.bits ?_)
  rw [cast1, redsum]
  refine Eq.trans (Finset.fold_congr fun k _ => ?_) (fold_count fun k => Ideal.ofBits .f32 (GuScalar.lane k.val) ≤ GuScalar.top (row v z))
  rw [elt1, bc253, elt2, cast1, redmax, iota_lane, power, lane_one]
  simp only [absf_eq, Ideal.ofBits_def, Ideal.mulf_def, Scalar.ofBits]
  rfl

theorem elt4 {F : FTy → Type} [FloatOps F] (x : IVec S32x1 32) (c : BitVec 32) (j : S32x1.Idx) :
    bitcastToFloat (F := F) .f32 (addi x (broadcast S32x1 c)) j = FloatOps.ofBits .f32 (x j + c) := rfl

theorem elt5 {F : FTy → Type} [FloatOps F] (x : IVec S32x1 32) (c : BitVec 32) (j : S32x1.Idx) :
    bitcastToFloat (F := F) .f32 (subi (broadcast S32x1 c) x) j = FloatOps.ofBits .f32 (c - x j) := rfl

/-- The scale of a row. -/
theorem scale_eq (v : FVec Ideal S32x128 .f32) (z : Fin 32) : scaleOf v (ix2 z (0 : Fin 1)) = GuScalar.scale (row v z) := by
  unfold scaleOf
  refine (elt4 _ _ _).trans ?_
  rw [bits_eq, Ideal.ofBits_def]
  exact GuScalar.scale_eq _ (GuScalar.top_nonneg _)

theorem elt6 {F : FTy → Type} [FloatOps F] (a b : F .f32) (x y : FVec F S32x128 .f32) (j : S32x128.Idx) :
    truncf .fp8e4m3 (minimumf (broadcast S32x128 a) (maximumf (broadcast S32x128 b) (mulf x y))) bitsLt_fp8e4m3_f32 j
      = FloatOps.truncf .fp8e4m3 bitsLt_fp8e4m3_f32 (FloatOps.minimumf a (FloatOps.maximumf b (FloatOps.mulf (x j) (y j)))) := rfl

/-- The codes of a row. -/
theorem codes_eq (v : FVec Ideal S32x128 .f32) (z : Fin 32) (l : Fin 128) : codesOf v (ix2 z l) = GuScalar.code (row v z) l := by
  unfold codesOf
  refine (elt6 _ _ _ _ _).trans ?_
  rw [bc128, elt5, bits_eq]
  simp only [Ideal.ofBits_def, Ideal.mulf_def, Ideal.minimumf_def, Ideal.maximumf_def, Ideal.truncf_def, Scalar.ofBits]
  rw [GuScalar.inv_eq _ (GuScalar.top_nonneg _)]
  rfl

theorem elt7 {F : FTy → Type} [FloatOps F] (x : FVec F S32x128 .fp8e4m3) (y : FVec F S32x128 .f32) (j : S32x128.Idx) :
    truncf .bf16 (mulf (extf .f32 x bitsLt_fp8e4m3_f32) y) bitsLt_bf16_f32 j
      = FloatOps.truncf .bf16 bitsLt_bf16_f32 (FloatOps.mulf (FloatOps.extf .f32 bitsLt_fp8e4m3_f32 (x j)) (y j)) := rfl

/-- The values that the codes of a row stand for. -/
theorem wide_eq (v : FVec Ideal S32x128 .f32) (z : Fin 32) (l : Fin 128) :
    wideOf v (ix2 z l) = (GuScalar.code (row v z) l * GuScalar.scale (row v z) : EReal) := by
  unfold wideOf
  refine (elt7 _ _ _).trans ?_
  rw [bc128, codes_eq, scale_eq, Ideal.truncf_def, Ideal.mulf_def, Ideal.extf_def]

end Cert.Proof.GuRow

end
-- ==== Proof.GuRefRun.lean ====
/- The run of the gate and up reference: its three result arrays as functions of its arguments. -/
module

public import proofs.«01_k».proof.Proof.Gen.GateUpReferenceIdeal.Frame
public import Idealize.ShloMosaic.Lib.Pipeline.Value

@[expose] public section

noncomputable section

namespace Cert.Proof.GuRefRun

open Cert.GateUpReferenceIdeal Cert.GateUpReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S40x100.Idx) : ((cfg0.win 0).blk t).view.emb j = j := by
  obtain ⟨e0, e1⟩ := idx_zero0 t
  funext a; apply Fin.ext
  match a with
  | ⟨0, _⟩ => show win0_0.index t (0 : Fin 2) * 40 + 1 * (j 0).val = (j 0).val; omega
  | ⟨1, _⟩ => show win0_0.index t (1 : Fin 2) * 100 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16384x5120.Idx) : ((cfg0.win 1).blk t).view.emb j = j := by
  obtain ⟨e0, e1⟩ := idx_zero1 t
  funext a; apply Fin.ext
  match a with
  | ⟨0, _⟩ => show win0_1.index t (0 : Fin 2) * 16384 + 1 * (j 0).val = (j 0).val; omega
  | ⟨1, _⟩ => show win0_1.index t (1 : Fin 2) * 5120 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S5120x12800.Idx) : ((cfg0.win 2).blk t).view.emb j = j := by
  obtain ⟨e0, e1⟩ := idx_zero2 t
  funext a; apply Fin.ext
  match a with
  | ⟨0, _⟩ => show win0_2.index t (0 : Fin 2) * 5120 + 1 * (j 0).val = (j 0).val; omega
  | ⟨1, _⟩ => show win0_2.index t (1 : Fin 2) * 12800 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S16384x6400.Idx) : ((cfg0.win 3).blk t).view.emb j = j := by
  obtain ⟨e0, e1⟩ := idx_zero3 t
  funext a; apply Fin.ext
  match a with
  | ⟨0, _⟩ => show win0_3.index t (0 : Fin 2) * 16384 + 1 * (j 0).val = (j 0).val; omega
  | ⟨1, _⟩ => show win0_3.index t (1 : Fin 2) * 6400 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S50x16384.Idx) : ((cfg0.win 4).blk t).view.emb j = j := by
  obtain ⟨e0, e1⟩ := idx_zero4 t
  funext a; apply Fin.ext
  match a with
  | ⟨0, _⟩ => show win0_4.index t (0 : Fin 2) * 50 + 1 * (j 0).val = (j 0).val; omega
  | ⟨1, _⟩ => show win0_4.index t (1 : Fin 2) * 16384 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S16384x6400.Idx) : ((cfg0.win 5).blk t).view.emb j = j := by
  obtain ⟨e0, e1⟩ := idx_zero5 t
  funext a; apply Fin.ext
  match a with
  | ⟨0, _⟩ => show win0_5.index t (0 : Fin 2) * 16384 + 1 * (j 0).val = (j 0).val; omega
  | ⟨1, _⟩ => show win0_5.index t (1 : Fin 2) * 6400 + 1 * (j 1).val = (j 1).val; omega

/-! ### Output window 3: the array after the run -/

/-- What the window's array ends holding: `out0_3` applied to the argument arrays in place of the input blocks. -/
abbrev G3 (a0 : Vec F S40x100 .f32) (a1 : Vec F S16384x5120 .bf16) (a2 : Vec F S5120x12800 .fp8e4m3) : Vec F S16384x6400 .fp8e4m3 :=
  k0_pay2 (Scalar.ofBits .f32 0x43E00000#32) (k0_pay10 a0 a1 a2)

/-- The one store through the whole rectangle leaves its payload. -/
theorem out3_eq (a0 : Vec F S40x100 .f32) (a1 : Vec F S16384x5120 .bf16) (a2 : Vec F S5120x12800 .fp8e4m3) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S16384x6400 .fp8e4m3) :
    (cfg0.win 3).cut (grid0.coords t) X = ((cfg0.win 3).blk t).view.read (Elt F) X := by
  funext j
  show X j = X (((cfg0.win 3).blk t).view.emb j)
  rw [emb3]

/-- What the point writes back is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S16384x6400.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- The array after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks. -/
abbrev G4 (a0 : Vec F S40x100 .f32) (a1 : Vec F S16384x5120 .bf16) (a2 : Vec F S5120x12800 .fp8e4m3) : Vec F S50x16384 .f32 :=
  k0_pay3 (k0_pay9 a0 a1 a2)

/-- The one store through the whole rectangle leaves its payload. -/
theorem out4_eq (a0 : Vec F S40x100 .f32) (a1 : Vec F S16384x5120 .bf16) (a2 : Vec F S5120x12800 .fp8e4m3) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S50x16384 .f32) :
    (cfg0.win 4).cut (grid0.coords t) X = ((cfg0.win 4).blk t).view.read (Elt F) X := by
  funext j
  show X j = X (((cfg0.win 4).blk t).view.emb j)
  rw [emb4]

/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S50x16384.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks. -/
abbrev G5 (a0 : Vec F S40x100 .f32) (a1 : Vec F S16384x5120 .bf16) (a2 : Vec F S5120x12800 .fp8e4m3) : Vec F S16384x6400 .bf16 :=
  k0_pay4 (k0_pay9 a0 a1 a2) (Scalar.ofBits .f32 0x43E00000#32) (k0_pay10 a0 a1 a2)

/-- The one store through the whole rectangle leaves its payload. -/
theorem out5_eq (a0 : Vec F S40x100 .f32) (a1 : Vec F S16384x5120 .bf16) (a2 : Vec F S5120x12800 .fp8e4m3) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S16384x6400 .bf16) :
    (cfg0.win 5).cut (grid0.coords t) X = ((cfg0.win 5).blk t).view.read (Elt F) X := by
  funext j
  show X j = X (((cfg0.win 5).blk t).view.emb j)
  rw [emb5]

/-- What the point writes back is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S16384x6400.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.Proof.GuRefRun

end
-- ==== Proof.GuRef.lean ====
/- The gate and up projection as formulas over one row and one chunk of 128 columns, and the reference's three results read as
   those formulas. -/
module

public import proofs.«01_k».proof.Proof.GuRefRun
public import proofs.«01_k».proof.Proof.GuScalar
public import Idealize.ShloMosaic.Lib.Pointwise

@[expose] public section

set_option maxRecDepth 16384

noncomputable section

namespace Cert.Proof.GuRef

open Idealize.ShloMosaic Idealize.ShloMosaic.TcCoe Idealize.SL.Sem
open Cert.GateUpReferenceIdeal Cert.GateUpReferenceIdeal.Gen

/-- The largest entry of each chunk. -/
theorem redmax (v : FVec Ideal S16384x50x128 .f32) (r : Fin 16384) (q : Fin 50) :
    multiReduction .maximumf [2] S16384x50 v 0xFF800000#32 reduces_S16384x50x128_S16384x50 (.inl rfl) rfl (ix2 r q)
      = Finset.univ.fold max (Ideal.ofBits .f32 0xFF800000#32) fun l : Fin 128 => v (ix3 r q l) := by
  generalize reduces_S16384x50x128_S16384x50 = h
  pointwise

/-- A selection on a comparison. -/
theorem pick (t a b : EReal) (p : EReal) : Scalar.select (FloatOps.cmpf (F := Ideal) (φ := .f32) .olt t p) a b = if t < p then a else b := by
  show (if BitVec.ofBool (decide (t < p)) = 1#1 then a else b) = _
  by_cases h : t < p <;> simp [h]

/-- The exponent in the printed operations. -/
def expoF (t p z two one m : Ideal .f32) : Ideal .f32 :=
  Scalar.select (FloatOps.cmpf .olt t p) z
    (FloatOps.minimumf (FloatOps.addf (FloatOps.floor (FloatOps.divf (FloatOps.log t) (FloatOps.log two))) one) m)

theorem expoF_eq (t p z two one m : EReal) : expoF t p z two one m = GuScalar.expoP t p z two one m := by
  unfold expoF GuScalar.expoP
  rw [pick]
  rfl

theorem elt {F : FTy → Type} [FloatOps F] (M : FVec F S16384x50 .f32) (j : S16384x50.Idx) (p z two one m k : F .f32) :
   select
      (cmpf CmpFPredicate.olt (mulf M (broadcast S16384x50 k)) (broadcast S16384x50 p))
      (broadcast S16384x50 z)
      (minimumf
        (addf
          (floor
            (divf (log (mulf M (broadcast S16384x50 k)))
              (log (broadcast S16384x50 two))))
          (broadcast S16384x50 one))
        (broadcast S16384x50 m))
      j = Scalar.select (FloatOps.cmpf .olt (FloatOps.mulf (M j) k) p) z
    (FloatOps.minimumf (FloatOps.addf (FloatOps.floor (FloatOps.divf (FloatOps.log (FloatOps.mulf (M j) k)) (FloatOps.log two))) one) m) := rfl

theorem p6 (a0 : Vec Ideal S40x100 .f32) (a1 : Vec Ideal S16384x5120 .bf16) (a2 : Vec Ideal S5120x12800 .fp8e4m3) (r : Fin 16384) (q : Fin 50) :
    k0_pay6 (F := Ideal) a2 a0 a1 (ix2 r q) = GuScalar.expo (GuScalar.top fun l => k0_pay5 (F := Ideal) a2 a0 a1 (ix3 r q l)) := by
  have e := redmax (absf (k0_pay5 (F := Ideal) a2 a0 a1)) r q
  unfold k0_pay6
  generalize multiReduction .maximumf [2] S16384x50 (absf (k0_pay5 (F := Ideal) a2 a0 a1)) 0xFF800000#32 reduces_S16384x50x128_S16384x50 (.inl rfl) rfl = M at e ⊢
  refine (elt M (ix2 r q) _ _ _ _ _ _).trans ((expoF_eq _ _ _ _ _ _).trans ?_)
  rw [e]
  unfold GuScalar.expo GuScalar.top
  simp only [Ideal.ofBits_def, Ideal.mulf_def, Scalar.ofBits]
  rfl

/-- One score: a row of activations against a column of widened weights. -/
def dot (a0 : Vec Ideal S40x100 .f32) (a1 : Vec Ideal S16384x5120 .bf16) (a2 : Vec Ideal S5120x12800 .fp8e4m3) (r : Fin 16384) (c : Fin 12800) : EReal :=
  ∑ k : Fin 5120, a1 (ix2 r k) * (a2 (ix2 k c) * a0 (ix2 (⟨k.val / 128, by omega⟩ : Fin 40) (⟨c.val / 128, by omega⟩ : Fin 100)))

/-- The gated product. -/
def gated (a0 : Vec Ideal S40x100 .f32) (a1 : Vec Ideal S16384x5120 .bf16) (a2 : Vec Ideal S5120x12800 .fp8e4m3) (r : Fin 16384) (n : Fin 6400) : EReal :=
  dot a0 a1 a2 r ⟨n.val, by omega⟩ * Ideal.logistic (dot a0 a1 a2 r ⟨n.val, by omega⟩) * dot a0 a1 a2 r ⟨6400 + n.val, by omega⟩

theorem q1 (v : FVec Ideal S16384x6400 .f32) (r : Fin 16384) (q : Fin 50) (l : Fin 128) :
    shapeCast S16384x50x128 v shapeCasts_S16384x6400_S16384x50x128 (ix3 r q l) = v (ix2 r (⟨q.val * 128 + l.val, by omega⟩ : Fin 6400)) := by
  pointwise
theorem q2 (v : FVec Ideal S16384x12800 .f32) (r : Fin 16384) (n : Fin 6400) :
    extractStridedSlice S16384x6400 ![0, 0] v slices_S16384x12800_o0_0_S16384x6400 (ix2 r n) = v (ix2 r (⟨n.val, by omega⟩ : Fin 12800)) := by
  pointwise
theorem q3 (v : FVec Ideal S16384x12800 .f32) (r : Fin 16384) (n : Fin 6400) :
    extractStridedSlice S16384x6400 ![0, 6400] v slices_S16384x12800_o0_6400_S16384x6400 (ix2 r n) = v (ix2 r (⟨6400 + n.val, by omega⟩ : Fin 12800)) := by
  pointwise
theorem q4 (x : FVec Ideal S16384x5120 .bf16) (w : FVec Ideal S5120x12800 .bf16) (r : Fin 16384) (c : Fin 12800) :
    matmul dot_S16384x5120_S5120x12800_S16384x12800_1_0_0_1_n_n none x w (constant S16384x12800 .f32 0x00000000#32) (ix2 r c) = ∑ k : Fin 5120, x (ix2 r k) * w (ix2 k c) := by
  pointwise
theorem q5 (a0 : Vec Ideal S40x100 .f32) (a2 : Vec Ideal S5120x12800 .fp8e4m3) (k : Fin 5120) (c : Fin 12800) :
    shapeCast S5120x12800 (mulf (F := Ideal) (φ := .bf16) (shapeCast S40x128x100x128 (extf .bf16 a2 bitsLt_fp8e4m3_bf16) shapeCasts_S5120x12800_S40x128x100x128)
      (broadcastTo S40x128x100x128 (shapeCast S40x1x100x1 (truncf .bf16 a0 bitsLt_bf16_f32) shapeCasts_S40x100_S40x1x100x1) broadcasts_S40x1x100x1_S40x128x100x128))
      shapeCasts_S40x128x100x128_S5120x12800 (ix2 k c) = (a2 (ix2 k c) * a0 (ix2 (⟨k.val / 128, by omega⟩ : Fin 40) (⟨c.val / 128, by omega⟩ : Fin 100)) : EReal) := by
  pointwise

theorem elt1 {F : FTy → Type} [FloatOps F] (x y : FVec F S16384x6400 .f32) (j : S16384x6400.Idx) :
    mulf (mulf x (logistic x)) y j = FloatOps.mulf (FloatOps.mulf (x j) (FloatOps.logistic (x j))) (y j) := rfl

theorem logistic_def (x : Ideal .f32) : FloatOps.logistic x = Ideal.logistic x := rfl

theorem p5 (a0 : Vec Ideal S40x100 .f32) (a1 : Vec Ideal S16384x5120 .bf16) (a2 : Vec Ideal S5120x12800 .fp8e4m3) (r : Fin 16384) (q : Fin 50) (l : Fin 128) :
    k0_pay5 (F := Ideal) a2 a0 a1 (ix3 r q l) = gated a0 a1 a2 r ⟨q.val * 128 + l.val, by omega⟩ := by
  unfold k0_pay5
  refine (q1 _ r q l).trans ((elt1 _ _ _).trans ?_)
  rw [q2, q3, q4, q4]
  simp only [q5, Ideal.mulf_def, logistic_def]
  unfold gated dot
  rfl

/-- One row and one chunk of 128 columns of the gated product. -/
def chunk (a0 : Vec Ideal S40x100 .f32) (a1 : Vec Ideal S16384x5120 .bf16) (a2 : Vec Ideal S5120x12800 .fp8e4m3) (r : Fin 16384) (q : Fin 50) (l : Fin 128) : EReal :=
  gated a0 a1 a2 r ⟨q.val * 128 + l.val, by omega⟩

theorem p6' (a0 : Vec Ideal S40x100 .f32) (a1 : Vec Ideal S16384x5120 .bf16) (a2 : Vec Ideal S5120x12800 .fp8e4m3) (r : Fin 16384) (q : Fin 50) :
    k0_pay6 (F := Ideal) a2 a0 a1 (ix2 r q) = GuScalar.expo (GuScalar.top (chunk a0 a1 a2 r q)) := by
  rw [p6]
  exact congrArg (fun f => GuScalar.expo (GuScalar.top f)) (funext fun l => p5 a0 a1 a2 r q l)

theorem exp2_def (x : Ideal .f32) : FloatOps.exp2 x = Ideal.exp2 x := rfl

theorem elt2 {F : FTy → Type} [FloatOps F] (x : FVec F S16384x50 .f32) (j : S16384x50.Idx) : exp2 x j = FloatOps.exp2 (x j) := rfl

theorem p7 (a0 : Vec Ideal S40x100 .f32) (a1 : Vec Ideal S16384x5120 .bf16) (a2 : Vec Ideal S5120x12800 .fp8e4m3) (r : Fin 16384) (q : Fin 50) :
    k0_pay7 (F := Ideal) a2 a0 a1 (ix2 r q) = GuScalar.scale (chunk a0 a1 a2 r q) := by
  unfold k0_pay7
  refine (elt2 _ _).trans ?_
  rw [p6', exp2_def]
  rfl

theorem q6 {φ : FTy} (v : FVec Ideal S16384x50 φ) (r : Fin 16384) (q : Fin 50) (l : Fin 128) :
    broadcastTo S16384x50x128 (shapeCast S16384x50x1 v shapeCasts_S16384x50_S16384x50x1) broadcasts_S16384x50x1_S16384x50x128 (ix3 r q l) = v (ix2 r q) := by
  pointwise

theorem elt3 {F : FTy → Type} [FloatOps F] (a b : F .f32) (x y : FVec F S16384x50x128 .f32) (j : S16384x50x128.Idx) :
    truncf .fp8e4m3 (minimumf (broadcast S16384x50x128 a) (maximumf (broadcast S16384x50x128 b) (mulf x y))) bitsLt_fp8e4m3_f32 j
      = FloatOps.truncf .fp8e4m3 bitsLt_fp8e4m3_f32 (FloatOps.minimumf a (FloatOps.maximumf b (FloatOps.mulf (x j) (y j)))) := rfl

theorem elt4 {F : FTy → Type} [FloatOps F] (c : F .f32) (x : FVec F S16384x50 .f32) (j : S16384x50.Idx) :
    exp2 (subf (broadcast S16384x50 c) x) j = FloatOps.exp2 (FloatOps.subf c (x j)) := rfl

theorem p1 (a0 : Vec Ideal S40x100 .f32) (a1 : Vec Ideal S16384x5120 .bf16) (a2 : Vec Ideal S5120x12800 .fp8e4m3) (r : Fin 16384) (q : Fin 50) (l : Fin 128) :
    k0_pay1 (F := Ideal) (Scalar.ofBits .f32 0x43E00000#32) (k0_pay8 (F := Ideal) a2 a0 a1) (ix3 r q l) = GuScalar.code (chunk a0 a1 a2 r q) l := by
  unfold k0_pay1 k0_pay8
  refine (elt3 _ _ _ _ _).trans ?_
  rw [q6, elt4, p6', p5, exp2_def]
  simp only [Ideal.ofBits_def, Ideal.mulf_def, Ideal.subf_def, Ideal.minimumf_def, Ideal.maximumf_def, Ideal.truncf_def, Scalar.ofBits]
  rfl

theorem q7 {φ : FTy} (v : FVec Ideal S16384x50x128 φ) (r : Fin 16384) (n : Fin 6400) :
    shapeCast S16384x6400 v shapeCasts_S16384x50x128_S16384x6400 (ix2 r n) = v (ix3 r (⟨n.val / 128, by omega⟩ : Fin 50) (⟨n.val % 128, by omega⟩ : Fin 128)) := by
  pointwise

theorem q8 (v : FVec Ideal S16384x50 .f32) (r : Fin 16384) (q : Fin 50) :
    transpose S50x16384 [1, 0] v transposes_S16384x50_p1_0_S50x16384 (ix2 q r) = v (ix2 r q) := by
  pointwise

theorem elt5 {F : FTy → Type} [FloatOps F] (x : FVec F S16384x50x128 .fp8e4m3) (y : FVec F S16384x50x128 .bf16) (j : S16384x50x128.Idx) :
    mulf (extf .bf16 x bitsLt_fp8e4m3_bf16) y j = FloatOps.mulf (FloatOps.extf .bf16 bitsLt_fp8e4m3_bf16 (x j)) (y j) := rfl

theorem elt6 {F : FTy → Type} [FloatOps F] (x : FVec F S16384x50 .f32) (j : S16384x50.Idx) :
    truncf .bf16 x bitsLt_bf16_f32 j = FloatOps.truncf .bf16 bitsLt_bf16_f32 (x j) := rfl

theorem pay9_eq (a0 : Vec Ideal S40x100 .f32) (a1 : Vec Ideal S16384x5120 .bf16) (a2 : Vec Ideal S5120x12800 .fp8e4m3) :
    k0_pay9 (F := Ideal) a0 a1 a2 = k0_pay7 a2 a0 a1 := by
  unfold k0_pay9
  rw [View.ld_unit_zero GuRefRun.hz0, View.ld_unit_zero GuRefRun.hz0, View.ld_unit_zero GuRefRun.hz0]

theorem pay10_eq (a0 : Vec Ideal S40x100 .f32) (a1 : Vec Ideal S16384x5120 .bf16) (a2 : Vec Ideal S5120x12800 .fp8e4m3) :
    k0_pay10 (F := Ideal) a0 a1 a2 = k0_pay8 a2 a0 a1 := by
  unfold k0_pay10
  rw [View.ld_unit_zero GuRefRun.hz0, View.ld_unit_zero GuRefRun.hz0, View.ld_unit_zero GuRefRun.hz0]

theorem mul_def (x y : Ideal .bf16) : FloatOps.mulf x y = x * y := rfl

/-- The codes of the reference. -/
theorem codes_eq (a0 : Vec Ideal S40x100 .f32) (a1 : Vec Ideal S16384x5120 .bf16) (a2 : Vec Ideal S5120x12800 .fp8e4m3) (r : Fin 16384) (n : Fin 6400) :
    GuRefRun.G3 (F := Ideal) a0 a1 a2 (ix2 r n) = GuScalar.code (chunk a0 a1 a2 r ⟨n.val / 128, by omega⟩) ⟨n.val % 128, by omega⟩ := by
  unfold GuRefRun.G3 k0_pay2
  rw [pay10_eq]
  exact (q7 _ r n).trans (p1 a0 a1 a2 r _ _)

/-- The scales of the reference. -/
theorem scales_eq (a0 : Vec Ideal S40x100 .f32) (a1 : Vec Ideal S16384x5120 .bf16) (a2 : Vec Ideal S5120x12800 .fp8e4m3) (q : Fin 50) (r : Fin 16384) :
    GuRefRun.G4 (F := Ideal) a0 a1 a2 (ix2 q r) = GuScalar.scale (chunk a0 a1 a2 r q) := by
  unfold GuRefRun.G4 k0_pay3
  rw [pay9_eq]
  exact (q8 _ r q).trans (p7 a0 a1 a2 r q)

/-- The values that the codes of the reference stand for. -/
theorem wides_eq (a0 : Vec Ideal S40x100 .f32) (a1 : Vec Ideal S16384x5120 .bf16) (a2 : Vec Ideal S5120x12800 .fp8e4m3) (r : Fin 16384) (n : Fin 6400) :
    GuRefRun.G5 (F := Ideal) a0 a1 a2 (ix2 r n) = (GuScalar.code (chunk a0 a1 a2 r ⟨n.val / 128, by omega⟩) ⟨n.val % 128, by omega⟩
      * GuScalar.scale (chunk a0 a1 a2 r ⟨n.val / 128, by omega⟩) : EReal) := by
  unfold GuRefRun.G5 k0_pay4
  rw [pay9_eq, pay10_eq]
  refine (q7 _ r n).trans ((elt5 _ _ _).trans ?_)
  rw [q6, elt6, p1, p7, mul_def, Ideal.extf_def, Ideal.truncf_def]

end Cert.Proof.GuRef

end
-- ==== Proof.GuVal.lean ====
/- The blocks the gate and up kernel writes over the extended reals, as the formulas of its reference at the rows and columns of
   the block. -/
module

public import proofs.«01_k».proof.Proof.GuIBody
public import proofs.«01_k».proof.Proof.GuRow
public import proofs.«01_k».proof.Proof.GuRef
public import Idealize.ShloMosaic.Lib.Pointwise
public import Idealize.ShloMosaic.Lib.Pipeline.ValueKit

@[expose] public section

set_option maxRecDepth 16384

noncomputable section

namespace Cert.Proof.GuVal

open Cert.GateUpIdeal Cert.GateUpIdeal.Gen Idealize.ShloMosaic Idealize.ShloMosaic.TcCoe Idealize.SL.Sem
open Cert.Proof.GuI

variable (m : (ℓ : Loc nD τ sig) → Buf (Elt Ideal) ℓ) (ρ : Dev nD → PrngReg)

/-- Which block each window stages at a grid point. -/
theorem idx : ∀ t : Fin cfg0.N, (win0_0.index t (0 : Fin 2) = 0 ∧ win0_0.index t (1 : Fin 2) = 0)
    ∧ (win0_1.index t (0 : Fin 2) = t.val / 25 ∧ win0_1.index t (1 : Fin 2) = 0)
    ∧ (win0_2.index t (0 : Fin 2) = 0 ∧ win0_2.index t (1 : Fin 2) = t.val % 25)
    ∧ (win0_3.index t (0 : Fin 2) = 0 ∧ win0_3.index t (1 : Fin 2) = 25 + t.val % 25)
    ∧ (win0_4.index t (0 : Fin 2) = t.val / 25 ∧ win0_4.index t (1 : Fin 2) = t.val % 25)
    ∧ (win0_5.index t (0 : Fin 2) = 0 ∧ win0_5.index t (1 : Fin 2) = t.val / 25)
    ∧ (win0_6.index t (0 : Fin 2) = t.val / 25 ∧ win0_6.index t (1 : Fin 2) = t.val % 25) := by
  decide +kernel

theorem lt_N (t : Fin cfg0.N) : t.val < 400 := Nat.lt_of_lt_of_eq t.isLt N_0

theorem acc_eq (X : Vec Ideal S256x5120 .bf16) (W : Vec Ideal S5120x512 .bf16) (p : Fin 256) (n : Fin 512) :
    acc X W (ix2 p n) = (∑ k : Fin 5120, X (ix2 p k) * W (ix2 k n) : EReal) := by
  unfold acc
  pointwise

theorem slice_eq {F : FTy → Type} [FloatOps F] (A : FVec F S256x512 .f32) (o b : ℕ) (h : S256x512.Slices ![o, b] S32x128) (ho : o + 32 ≤ 256) (hb : b + 128 ≤ 512)
    (z : Fin 32) (l : Fin 128) :
    extractStridedSlice S32x128 ![o, b] A h (ix2 z l) = A (ix2 (⟨o + z.val, by omega⟩ : Fin 256) (⟨b + l.val, by omega⟩ : Fin 512)) := by
  unfold extractStridedSlice
  refine congrArg A (funext fun a => ?_)
  match a with
  | ⟨0, _⟩ => rfl
  | ⟨1, _⟩ => rfl

theorem elt1 {F : FTy → Type} [FloatOps F] (x y : FVec F S32x128 .f32) (j : S32x128.Idx) :
    mulf (mulf x (logistic x)) y j = FloatOps.mulf (FloatOps.mulf (x j) (FloatOps.logistic (x j))) (y j) := rfl

/-- A score of the block: a row of the staged activations against a column of the widened weights. -/
def score (x1 : Vec Ideal S1024x5120 .bf16) (W : Vec Ideal S5120x512 .bf16) (a : Fin 1024) (n : Fin 512) : EReal :=
  ∑ k : Fin 5120, x1 (ix2 a k) * W (ix2 k n)

/-- The gated product of a chunk, entry by entry. -/
theorem gu_apply (x1 : Vec Ideal S1024x5120 .bf16) (W : Vec Ideal S5120x512 .bf16) (r : Fin 32) (b : Fin 2) (z : Fin 32) (l : Fin 128) :
    gu x1 W r b (ix2 z l) = (score x1 W ⟨32 * r.val + z.val, by omega⟩ ⟨128 * b.val + l.val, by omega⟩
      * Ideal.logistic (score x1 W ⟨32 * r.val + z.val, by omega⟩ ⟨128 * b.val + l.val, by omega⟩)
      * score x1 W ⟨32 * r.val + z.val, by omega⟩ ⟨256 + 128 * b.val + l.val, by omega⟩ : EReal) := by
  have hrow : ∀ n : Fin 512, acc (rows x1 (r.val / 8) (by omega)) W (ix2 (⟨32 * (r.val % 8) + z.val, by omega⟩ : Fin 256) n)
      = score x1 W ⟨32 * r.val + z.val, by omega⟩ n := by
    intro n
    rw [acc_eq]
    unfold score
    refine Finset.sum_congr rfl fun k _ => congrArg (· * W (ix2 k n)) ?_
    unfold rows
    refine congrArg x1 (congrArg (fun q => ix2 q k) (Fin.ext ?_))
    show 256 * (r.val / 8) + (32 * (r.val % 8) + z.val) = 32 * r.val + z.val
    omega
  unfold gu vOf
  refine (elt1 _ _ _).trans ?_
  rw [slice_eq _ _ _ _ (by omega) (by omega), slice_eq _ _ _ _ (by omega) (by omega), hrow, hrow]
  rfl

variable (c : Dev nD)

theorem x_eq (t : Fin cfg0.N) (a : Fin 1024) (k : Fin 5120) : iblk m c 1 t (ix2 a k)
    = m ((c : Thread nD τ).loc main_arg1) (ix2 (⟨1024 * (t.val / 25) + a.val, by have h := lt_N t; omega⟩ : Fin 16384) k) := by
  obtain ⟨⟨h00, h01⟩, ⟨h10, h11⟩, ⟨h20, h21⟩, ⟨h30, h31⟩, ⟨h40, h41⟩, ⟨h50, h51⟩, ⟨h60, h61⟩⟩ := idx t
  blk_ext [iblk, V, h10, h11]

theorem s_eq (t : Fin cfg0.N) (a : Fin 40) (k : Fin 100) : iblk m c 0 t (ix2 a k) = m ((c : Thread nD τ).loc main_arg0) (ix2 a k) := by
  obtain ⟨⟨h00, h01⟩, ⟨h10, h11⟩, ⟨h20, h21⟩, ⟨h30, h31⟩, ⟨h40, h41⟩, ⟨h50, h51⟩, ⟨h60, h61⟩⟩ := idx t
  blk_ext [iblk, V, h00, h01]

theorem g_eq (t : Fin cfg0.N) (k : Fin 5120) (n : Fin 256) : iblk m c 2 t (ix2 k n)
    = m ((c : Thread nD τ).loc main_arg2) (ix2 k (⟨256 * (t.val % 25) + n.val, by omega⟩ : Fin 12800)) := by
  obtain ⟨⟨h00, h01⟩, ⟨h10, h11⟩, ⟨h20, h21⟩, ⟨h30, h31⟩, ⟨h40, h41⟩, ⟨h50, h51⟩, ⟨h60, h61⟩⟩ := idx t
  blk_ext [iblk, V, h20, h21]

theorem u_eq (t : Fin cfg0.N) (k : Fin 5120) (n : Fin 256) : iblk m c 3 t (ix2 k n)
    = m ((c : Thread nD τ).loc main_arg2) (ix2 k (⟨6400 + 256 * (t.val % 25) + n.val, by omega⟩ : Fin 12800)) := by
  obtain ⟨⟨h00, h01⟩, ⟨h10, h11⟩, ⟨h20, h21⟩, ⟨h30, h31⟩, ⟨h40, h41⟩, ⟨h50, h51⟩, ⟨h60, h61⟩⟩ := idx t
  blk_ext [iblk, V, h30, h31]

theorem widen_eq (a : Elt Ideal .fp8e4m3) (s : Elt Ideal .f32) : widen a s = (a * s : EReal) := by
  unfold widen
  pointwise [k0_pay143]

/-- The scales of the weights as numbers. -/
abbrev W0 : S40x100.Idx → EReal := m ((c : Thread nD τ).loc main_arg0)

/-- The codes of the weights as numbers. -/
abbrev W2 : S5120x12800.Idx → EReal := m ((c : Thread nD τ).loc main_arg2)

theorem gate_wide (t : Fin cfg0.N) (k : Fin 5120) (n : Fin 256) : blkW m c t (ix2 k (⟨n.val, by omega⟩ : Fin 512))
    = (W2 m c (ix2 k (⟨256 * (t.val % 25) + n.val, by omega⟩ : Fin 12800))
      * W0 m c (ix2 (⟨k.val / 128, by omega⟩ : Fin 40) (⟨(256 * (t.val % 25) + n.val) / 128, by omega⟩ : Fin 100)) : EReal) := by
  unfold blkW wide
  rw [widen_eq]
  unfold codeAt scaleAt
  refine congrArg₂ (· * ·) (Eq.trans (dif_pos ?_) (g_eq m c t k n)) ((s_eq m c t _ _).trans (congrArg (fun q => W0 m c (ix2 (⟨k.val / 128, by omega⟩ : Fin 40) q)) (Fin.ext ?_)))
  · exact n.isLt
  show 2 * (grid0.coords t 1).val + (if n.val < 256 then n.val / 128 else 48 + n.val / 128) = (256 * (t.val % 25) + n.val) / 128
  rw [step_eq, if_pos n.isLt]
  omega

theorem up_wide (t : Fin cfg0.N) (k : Fin 5120) (n : Fin 256) : blkW m c t (ix2 k (⟨256 + n.val, by omega⟩ : Fin 512))
    = (W2 m c (ix2 k (⟨6400 + 256 * (t.val % 25) + n.val, by omega⟩ : Fin 12800))
      * W0 m c (ix2 (⟨k.val / 128, by omega⟩ : Fin 40) (⟨(6400 + 256 * (t.val % 25) + n.val) / 128, by omega⟩ : Fin 100)) : EReal) := by
  unfold blkW wide
  rw [widen_eq]
  unfold codeAt scaleAt
  refine congrArg₂ (· * ·) (Eq.trans (dif_neg ?_) <| Eq.trans (congrArg (fun q => iblk m c 3 t (ix2 k q)) (Fin.ext ?_)) (u_eq m c t k n))
    ((s_eq m c t _ _).trans (congrArg (fun q => W0 m c (ix2 (⟨k.val / 128, by omega⟩ : Fin 40) q)) (Fin.ext ?_)))
  · show ¬ 256 + n.val < 256
    omega
  · show 256 + n.val - 256 = n.val
    omega
  · show 2 * (grid0.coords t 1).val + (if 256 + n.val < 256 then (256 + n.val) / 128 else 48 + (256 + n.val) / 128) = (6400 + 256 * (t.val % 25) + n.val) / 128
    rw [step_eq, if_neg (by omega)]
    omega

/-- The chunk of the reference over the arguments of this run. -/
abbrev chunkOf (r : Fin 16384) (q : Fin 50) : Fin 128 → EReal :=
  GuRef.chunk (m ((c : Thread nD τ).loc main_arg0)) (m ((c : Thread nD τ).loc main_arg1)) (m ((c : Thread nD τ).loc main_arg2)) r q

theorem gate_score (t : Fin cfg0.N) (a : Fin 1024) (n : Fin 256) : score (iblk m c 1 t) (blkW m c t) a ⟨n.val, by omega⟩
    = GuRef.dot (m ((c : Thread nD τ).loc main_arg0)) (m ((c : Thread nD τ).loc main_arg1)) (m ((c : Thread nD τ).loc main_arg2))
      ⟨1024 * (t.val / 25) + a.val, by have h := lt_N t; omega⟩ ⟨256 * (t.val % 25) + n.val, by omega⟩ := by
  unfold score GuRef.dot
  exact Finset.sum_congr rfl fun k _ => congrArg₂ (· * ·) (x_eq m c t a k) (gate_wide m c t k n)

theorem up_score (t : Fin cfg0.N) (a : Fin 1024) (n : Fin 256) : score (iblk m c 1 t) (blkW m c t) a ⟨256 + n.val, by omega⟩
    = GuRef.dot (m ((c : Thread nD τ).loc main_arg0)) (m ((c : Thread nD τ).loc main_arg1)) (m ((c : Thread nD τ).loc main_arg2))
      ⟨1024 * (t.val / 25) + a.val, by have h := lt_N t; omega⟩ ⟨6400 + 256 * (t.val % 25) + n.val, by omega⟩ := by
  unfold score GuRef.dot
  exact Finset.sum_congr rfl fun k _ => congrArg₂ (· * ·) (x_eq m c t a k) (up_wide m c t k n)

/-- A row of a chunk of the block is a row of a chunk of the reference. -/
theorem row_eq (t : Fin cfg0.N) (r : Fin 32) (b : Fin 2) (z : Fin 32) (R : Fin 16384) (q : Fin 50)
    (hR : R.val = 1024 * (t.val / 25) + (32 * r.val + z.val)) (hq : q.val = 2 * (t.val % 25) + b.val) :
    GuRow.row (gu (iblk m c 1 t) (blkW m c t) r b) z = chunkOf m c R q := by
  funext l
  have hb := b.isLt
  have hG := gate_score m c t ⟨32 * r.val + z.val, by omega⟩ ⟨128 * b.val + l.val, by omega⟩
  have hU := up_score m c t ⟨32 * r.val + z.val, by omega⟩ ⟨128 * b.val + l.val, by omega⟩
  have eU : (⟨256 + 128 * b.val + l.val, by omega⟩ : Fin 512) = ⟨256 + (128 * b.val + l.val), by omega⟩ := Fin.ext (Nat.add_assoc 256 (128 * b.val) l.val)
  unfold GuRow.row
  rw [gu_apply, eU, hG, hU]
  unfold chunkOf GuRef.chunk GuRef.gated
  have e1 : (⟨1024 * (t.val / 25) + (32 * r.val + z.val), by have h := lt_N t; omega⟩ : Fin 16384) = R := Fin.ext hR.symm
  have e2 : (⟨256 * (t.val % 25) + (128 * b.val + l.val), by omega⟩ : Fin 12800) = ⟨q.val * 128 + l.val, by omega⟩ := Fin.ext (show 256 * (t.val % 25) + (128 * b.val + l.val) = q.val * 128 + l.val by omega)
  have e3 : (⟨6400 + 256 * (t.val % 25) + (128 * b.val + l.val), by omega⟩ : Fin 12800) = ⟨6400 + (q.val * 128 + l.val), by omega⟩ := Fin.ext (show 6400 + 256 * (t.val % 25) + (128 * b.val + l.val) = 6400 + (q.val * 128 + l.val) by omega)
  rw [e1, e2, e3]

/-- The codes of a block. -/
theorem codesBlk_eq (t : Fin cfg0.N) (y : S1024x256.Idx) (R : Fin 16384) (q : Fin 50) (l : Fin 128)
    (hR : R.val = 1024 * (t.val / 25) + (y 0).val) (hq : q.val = 2 * (t.val % 25) + (y 1).val / 128) (hl : l.val = (y 1).val % 128) :
    codesBlk (iblk m c 1 t) (blkW m c t) y = GuScalar.code (chunkOf m c R q) l := by
  unfold codesBlk
  rw [GuRow.codes_eq, row_eq m c t _ _ _ R q (by show _ = 1024 * (t.val / 25) + (32 * ((y 0).val / 32) + (y 0).val % 32); omega) hq]
  exact congrArg _ (Fin.ext hl.symm)

/-- The widened values of a block. -/
theorem wideBlk_eq (t : Fin cfg0.N) (y : S1024x256.Idx) (R : Fin 16384) (q : Fin 50) (l : Fin 128)
    (hR : R.val = 1024 * (t.val / 25) + (y 0).val) (hq : q.val = 2 * (t.val % 25) + (y 1).val / 128) (hl : l.val = (y 1).val % 128) :
    wideBlk (iblk m c 1 t) (blkW m c t) y = (GuScalar.code (chunkOf m c R q) l * GuScalar.scale (chunkOf m c R q) : EReal) := by
  unfold wideBlk
  rw [GuRow.wide_eq, row_eq m c t _ _ _ R q (by show _ = 1024 * (t.val / 25) + (32 * ((y 0).val / 32) + (y 0).val % 32); omega) hq]
  exact congrArg (fun l' => GuScalar.code (chunkOf m c R q) l' * GuScalar.scale (chunkOf m c R q)) (Fin.ext hl.symm)

/-- The scale of a row and a chunk of a block. -/
theorem sv_eq (t : Fin cfg0.N) (a : Fin 1024) (b : Fin 2) (R : Fin 16384) (q : Fin 50)
    (hR : R.val = 1024 * (t.val / 25) + a.val) (hq : q.val = 2 * (t.val % 25) + b.val) :
    sv m c t a b = GuScalar.scale (chunkOf m c R q) := by
  unfold sv scaleBlk
  rw [GuRow.scale_eq, row_eq m c t _ _ _ R q (by show _ = 1024 * (t.val / 25) + (32 * (a.val / 32) + a.val % 32); omega) hq]

/-- The code array as formulas. -/
def G3 (j : S16384x6400.Idx) : EReal :=
  GuScalar.code (chunkOf m c (j 0) ⟨(j 1).val / 128, by have h : (j 1).val < 6400 := (j 1).isLt; omega⟩) ⟨(j 1).val % 128, by omega⟩

/-- The scale array as formulas. -/
def G4 (j : S50x16384.Idx) : EReal := GuScalar.scale (chunkOf m c (j 1) (j 0))

/-- The array of widened values as formulas. -/
def G5 (j : S16384x6400.Idx) : EReal :=
  GuScalar.code (chunkOf m c (j 0) ⟨(j 1).val / 128, by have h : (j 1).val < 6400 := (j 1).isLt; omega⟩) ⟨(j 1).val % 128, by omega⟩
    * GuScalar.scale (chunkOf m c (j 0) ⟨(j 1).val / 128, by have h : (j 1).val < 6400 := (j 1).isLt; omega⟩)

end Cert.Proof.GuVal

end
-- ==== Proof.GuValue.lean ====
/- The gate and up kernel's result arrays after the run, and the claim that they are the reference's. -/
module

public import proofs.«01_k».proof.Defs
public import proofs.«01_k».proof.Proof.GuVal
public import proofs.«01_k».proof.Proof.GuIBody
public import proofs.«01_k».proof.Proof.GuRef
public import Idealize.ShloMosaic.Lib.Pipeline.ValueKit

@[expose] public section

set_option maxRecDepth 16384

noncomputable section

namespace Cert.Proof.GuValue

open Cert.GateUpIdeal Cert.GateUpIdeal.Gen Idealize.ShloMosaic Idealize.ShloMosaic.TcCoe Idealize.SL.Sem
open Cert.Proof.GuI Cert.Proof.GuVal

variable (m : (ℓ : Loc nD τ sig) → Buf (Elt Ideal) ℓ) (ρ : Dev nD → PrngReg) (c : Dev nD)

/-- The code array after the run. -/
theorem final4 : (dats m 0 c).arrAt 4 cfg0.N = G3 m c := by
  refine (dats m 0 c).arrAt_eq_of_covers 4 _ (by decide +kernel) fun t hf y => ?_
  have h0 : win0_4.index t 0 = t.val / 25 := (idx t).2.2.2.2.1.1
  have h1 : win0_4.index t 1 = t.val % 25 := (idx t).2.2.2.2.1.2
  have hy0 : (y 0).val < 1024 := (y 0).isLt
  have hy1 : (y 1).val < 256 := (y 1).isLt
  have ht := lt_N t
  have e0 : ((((cfg0.win 4).blk t).view.emb y 0 : Fin 16384) : ℕ) = 1024 * (t.val / 25) + (y 0).val := by
    blk_simp
    rw [h0]
    omega
  have e1 : ((((cfg0.win 4).blk t).view.emb y 1 : Fin 6400) : ℕ) = 256 * (t.val % 25) + (y 1).val := by
    blk_simp
    rw [h1]
    omega
  have key : (dats m 0 c).after 4 t y = G3 m c (((cfg0.win 4).blk t).view.emb y) := by
    rw [after0_4]
    refine codesBlk_eq m c t y _ _ _ e0 ?_ ?_
    · exact (congrArg (· / 128) e1).trans (by show (256 * (t.val % 25) + (y 1).val) / 128 = _; omega)
    · exact (congrArg (· % 128) e1).trans (by show (256 * (t.val % 25) + (y 1).val) % 128 = _; omega)
  exact key

/-- The array of widened values after the run. -/
theorem final6 : (dats m 0 c).arrAt 6 cfg0.N = G5 m c := by
  refine (dats m 0 c).arrAt_eq_of_covers 6 _ (by decide +kernel) fun t hf y => ?_
  have h0 : win0_6.index t 0 = t.val / 25 := (idx t).2.2.2.2.2.2.1
  have h1 : win0_6.index t 1 = t.val % 25 := (idx t).2.2.2.2.2.2.2
  have hy0 : (y 0).val < 1024 := (y 0).isLt
  have hy1 : (y 1).val < 256 := (y 1).isLt
  have ht := lt_N t
  have e0 : ((((cfg0.win 6).blk t).view.emb y 0 : Fin 16384) : ℕ) = 1024 * (t.val / 25) + (y 0).val := by
    blk_simp
    rw [h0]
    omega
  have e1 : ((((cfg0.win 6).blk t).view.emb y 1 : Fin 6400) : ℕ) = 256 * (t.val % 25) + (y 1).val := by
    blk_simp
    rw [h1]
    omega
  have key : (dats m 0 c).after 6 t y = G5 m c (((cfg0.win 6).blk t).view.emb y) := by
    rw [after0_6]
    refine wideBlk_eq m c t y _ _ _ e0 ?_ ?_
    · exact (congrArg (· / 128) e1).trans (by show (256 * (t.val % 25) + (y 1).val) / 128 = _; omega)
    · exact (congrArg (· % 128) e1).trans (by show (256 * (t.val % 25) + (y 1).val) % 128 = _; omega)
  generalize (dats m 0 c).after 6 t = d at key ⊢
  exact Eq.trans (cast_eq _ _) (Eq.trans (congrArg d (funext fun a => Fin.ext rfl)) key)

/-- The scale array after the run. -/
theorem final5 : (dats m 0 c).arrAt 5 cfg0.N = G4 m c := by
  refine (dats m 0 c).arrAt_eq_of_covers 5 _ (by decide +kernel) fun t hf y => ?_
  have h0 : win0_5.index t 0 = 0 := (idx t).2.2.2.2.2.1.1
  have h1 : win0_5.index t 1 = t.val / 25 := (idx t).2.2.2.2.2.1.2
  have hy0 : (y 0).val < 50 := (y 0).isLt
  have hy1 : (y 1).val < 1024 := (y 1).isLt
  have ht := lt_N t
  have e0 : ((((cfg0.win 5).blk t).view.emb y 0 : Fin 50) : ℕ) = (y 0).val := by
    blk_simp
    rw [h0]
    omega
  have e1 : ((((cfg0.win 5).blk t).view.emb y 1 : Fin 16384) : ℕ) = 1024 * (t.val / 25) + (y 1).val := by
    blk_simp
    rw [h1]
    omega
  have key : (dats m 0 c).after 5 t y = G4 m c (((cfg0.win 5).blk t).view.emb y) := by
    rw [after0_5]
    refine sv_eq m c _ _ _ _ _ (e1.trans ?_) (e0.trans ?_)
    · show _ = 1024 * ((25 * (t.val / 25) + (y 0).val / 2) / 25) + (y 1).val
      omega
    · show _ = 2 * ((25 * (t.val / 25) + (y 0).val / 2) % 25) + (y 0).val % 2
      omega
  generalize (dats m 0 c).after 5 t = d at key ⊢
  exact Eq.trans (cast_eq _ _) (Eq.trans (congrArg d (funext fun a => Fin.ext rfl)) key)

/-- What the kernel leaves in its results and its arguments. -/
theorem run : θ_run (defs (F := Ideal)) (onTc (τ := τ) (main (F := Ideal))) ⟨m, fun _ => 0, ρ⟩ (fun r => ∀ c : Dev nD,
    r.2.mem ((c.tc : Thread nD τ).loc main_v0_0) = G3 m c
    ∧ r.2.mem ((c.tc : Thread nD τ).loc main_v0_1) = G4 m c
    ∧ r.2.mem ((c.tc : Thread nD τ).loc main_v0_2) = G5 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run _ _ _).mono (fun r h c => ?_) (run_main m ρ)
  exact ⟨((h c).1 4).trans (final4 m c), ((h c).1 5).trans (final5 m c), ((h c).1 6).trans (final6 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩

/-- The reference's code array over the same arguments. -/
theorem ref3 : GuRefRun.G3 (m ((c : Thread nD τ).loc main_arg0)) (m ((c : Thread nD τ).loc main_arg1)) (m ((c : Thread nD τ).loc main_arg2)) = G3 m c := by
  funext j
  obtain ⟨r, n, rfl⟩ : ∃ (r : Fin 16384) (n : Fin 6400), j = ix2 r n := ⟨j 0, j 1, by idx_vars j⟩
  exact GuRef.codes_eq _ _ _ r n

/-- The reference's scale array over the same arguments. -/
theorem ref4 : GuRefRun.G4 (m ((c : Thread nD τ).loc main_arg0)) (m ((c : Thread nD τ).loc main_arg1)) (m ((c : Thread nD τ).loc main_arg2)) = G4 m c := by
  funext j
  obtain ⟨q, r, rfl⟩ : ∃ (q : Fin 50) (r : Fin 16384), j = ix2 q r := ⟨j 0, j 1, by idx_vars j⟩
  exact GuRef.scales_eq _ _ _ q r

/-- The reference's widened values over the same arguments. -/
theorem ref5 : GuRefRun.G5 (m ((c : Thread nD τ).loc main_arg0)) (m ((c : Thread nD τ).loc main_arg1)) (m ((c : Thread nD τ).loc main_arg2)) = G5 m c := by
  funext j
  obtain ⟨r, n, rfl⟩ : ∃ (r : Fin 16384) (n : Fin 6400), j = ix2 r n := ⟨j 0, j 1, by idx_vars j⟩
  exact GuRef.wides_eq _ _ _ r n

/-- The gate and up kernel and its reference compute the same three arrays. -/
theorem algebraic : Cert.algebraic_GateUpIdeal_GateUpReferenceIdeal (hGateUpIdeal := Cert.GateUpIdeal.Gen.facts)
    (hGateUpReferenceIdeal := Cert.GateUpReferenceIdeal.Gen.facts) := by
  intro m g m' g' _ h
  refine ⟨fun c => G3 m c, fun c => G4 m c, fun c => G5 m c, run m g, ?_⟩
  refine (θ_run _ _ _).mono (fun r hr c => ?_) (GuRefRun.run m' g')
  obtain ⟨h0, h1, h2⟩ := h c
  refine ⟨(hr c).1.trans ?_, (hr c).2.1.trans ?_, (hr c).2.2.1.trans ?_, (hr c).2.2.2⟩
  · rw [h0, h1, h2]
    exact ref3 m c
  · rw [h0, h1, h2]
    exact ref4 m c
  · rw [h0, h1, h2]
    exact ref5 m c

end Cert.Proof.GuValue

end
-- ==== Proof.lean ====
/- The proof of the certificate: each claim in turn. -/
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.DownIdeal.Value
public import proofs.«01_k».proof.Proof.Gen.DownReferenceIdeal.Value
public import proofs.«01_k».proof.Proof.DownValue
public import proofs.«01_k».proof.Proof.GuBBody
public import proofs.«01_k».proof.Proof.GuValue
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Down.Gen.facts, Cert.DownIdeal.Gen.facts, Cert.DownReferenceIdeal.Gen.facts,
    Cert.GateUp.Gen.facts, Cert.GateUpIdeal.Gen.facts, Cert.GateUpReferenceIdeal.Gen.facts,
    fun m ρ _ => Cert.Down.Gen.frame m ρ,
    fun m ρ _ => Cert.DownIdeal.Gen.frame m ρ,
    fun m ρ _ => Cert.DownReferenceIdeal.Gen.frame m ρ,
    fun m ρ _ => Cert.Proof.GuB.frame m ρ,
    fun m ρ _ => Cert.Proof.GuI.frame m ρ,
    fun m ρ _ => Cert.GateUpReferenceIdeal.Gen.frame m ρ,
    trivial,
    DownValue.algebraic,
    trivial,
    GuValue.algebraic⟩

end Cert.Proof

end
